-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDa (m : (ℓ : Loc Cert.KernelDa.nD Cert.KernelDa.τ Cert.KernelDa.sig) → Buf (Elt Bits) ℓ) : Prop :=
  True

def Pre_KernelDaIdeal (m : (ℓ : Loc Cert.KernelDaIdeal.nD Cert.KernelDaIdeal.τ Cert.KernelDaIdeal.sig) → Buf (Elt Ideal) ℓ) : Prop :=
  True

def Pre_ReferenceDaIdeal (m : (ℓ : Loc Cert.ReferenceDaIdeal.nD Cert.ReferenceDaIdeal.τ Cert.ReferenceDaIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDwProj (m : (ℓ : Loc Cert.KernelDwProj.nD Cert.KernelDwProj.τ Cert.KernelDwProj.sig) → Buf (Elt Bits) ℓ) : Prop :=
  True

def Pre_KernelDwProjIdeal (m : (ℓ : Loc Cert.KernelDwProjIdeal.nD Cert.KernelDwProjIdeal.τ Cert.KernelDwProjIdeal.sig) → Buf (Elt Ideal) ℓ) : Prop :=
  True

def Pre_ReferenceDwProjIdeal (m : (ℓ : Loc Cert.ReferenceDwProjIdeal.nD Cert.ReferenceDwProjIdeal.τ Cert.ReferenceDwProjIdeal.sig) → Buf (Elt Ideal) ℓ) : Prop :=
  True

def Pre_KernelDwGlu (m : (ℓ : Loc Cert.KernelDwGlu.nD Cert.KernelDwGlu.τ Cert.KernelDwGlu.sig) → Buf (Elt Bits) ℓ) : Prop :=
  True

def Pre_KernelDwGluIdeal (m : (ℓ : Loc Cert.KernelDwGluIdeal.nD Cert.KernelDwGluIdeal.τ Cert.KernelDwGluIdeal.sig) → Buf (Elt Ideal) ℓ) : Prop :=
  True

def Pre_ReferenceDwGluIdeal (m : (ℓ : Loc Cert.ReferenceDwGluIdeal.nD Cert.ReferenceDwGluIdeal.τ Cert.ReferenceDwGluIdeal.sig) → Buf (Elt Ideal) ℓ) : Prop :=
  True

def Pre_KernelDhProj (m : (ℓ : Loc Cert.KernelDhProj.nD Cert.KernelDhProj.τ Cert.KernelDhProj.sig) → Buf (Elt Bits) ℓ) : Prop :=
  True

def Pre_KernelDhProjIdeal (m : (ℓ : Loc Cert.KernelDhProjIdeal.nD Cert.KernelDhProjIdeal.τ Cert.KernelDhProjIdeal.sig) → Buf (Elt Ideal) ℓ) : Prop :=
  True

def Pre_ReferenceDhProjIdeal (m : (ℓ : Loc Cert.ReferenceDhProjIdeal.nD Cert.ReferenceDhProjIdeal.τ Cert.ReferenceDhProjIdeal.sig) → Buf (Elt Ideal) ℓ) : Prop :=
  True

def Pre_KernelDo (m : (ℓ : Loc Cert.KernelDo.nD Cert.KernelDo.τ Cert.KernelDo.sig) → Buf (Elt Bits) ℓ) : Prop :=
  True

def Pre_KernelDoIdeal (m : (ℓ : Loc Cert.KernelDoIdeal.nD Cert.KernelDoIdeal.τ Cert.KernelDoIdeal.sig) → Buf (Elt Ideal) ℓ) : Prop :=
  True

def Pre_ReferenceDoIdeal (m : (ℓ : Loc Cert.ReferenceDoIdeal.nD Cert.ReferenceDoIdeal.τ Cert.ReferenceDoIdeal.sig) → Buf (Elt Ideal) ℓ) : Prop :=
  True

def Pre_KernelDhAdd (m : (ℓ : Loc Cert.KernelDhAdd.nD Cert.KernelDhAdd.τ Cert.KernelDhAdd.sig) → Buf (Elt Bits) ℓ) : Prop :=
  True

def Pre_KernelDhAddIdeal (m : (ℓ : Loc Cert.KernelDhAddIdeal.nD Cert.KernelDhAddIdeal.τ Cert.KernelDhAddIdeal.sig) → Buf (Elt Ideal) ℓ) : Prop :=
  True

def Pre_ReferenceDhAddIdeal (m : (ℓ : Loc Cert.ReferenceDhAddIdeal.nD Cert.ReferenceDhAddIdeal.τ Cert.ReferenceDhAddIdeal.sig) → Buf (Elt Ideal) ℓ) : Prop :=
  True

def Pre_KernelDyg (m : (ℓ : Loc Cert.KernelDyg.nD Cert.KernelDyg.τ Cert.KernelDyg.sig) → Buf (Elt Bits) ℓ) : Prop :=
  True

def Pre_KernelDygIdeal (m : (ℓ : Loc Cert.KernelDygIdeal.nD Cert.KernelDygIdeal.τ Cert.KernelDygIdeal.sig) → Buf (Elt Ideal) ℓ) : Prop :=
  True

def Pre_ReferenceDygIdeal (m : (ℓ : Loc Cert.ReferenceDygIdeal.nD Cert.ReferenceDygIdeal.τ Cert.ReferenceDygIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelNormBwd (m : (ℓ : Loc Cert.KernelNormBwd.nD Cert.KernelNormBwd.τ Cert.KernelNormBwd.sig) → Buf (Elt Bits) ℓ) : Prop :=
  True

def Pre_KernelNormBwdIdeal (m : (ℓ : Loc Cert.KernelNormBwdIdeal.nD Cert.KernelNormBwdIdeal.τ Cert.KernelNormBwdIdeal.sig) → Buf (Elt Ideal) ℓ) : Prop :=
  True

def Pre_ReferenceNormBwdIdeal (m : (ℓ : Loc Cert.ReferenceNormBwdIdeal.nD Cert.ReferenceNormBwdIdeal.τ Cert.ReferenceNormBwdIdeal.sig) → Buf (Elt Ideal) ℓ) : Prop :=
  True

def Pre_KernelGluBwd (m : (ℓ : Loc Cert.KernelGluBwd.nD Cert.KernelGluBwd.τ Cert.KernelGluBwd.sig) → Buf (Elt Bits) ℓ) : Prop :=
  True

def Pre_KernelGluBwdIdeal (m : (ℓ : Loc Cert.KernelGluBwdIdeal.nD Cert.KernelGluBwdIdeal.τ Cert.KernelGluBwdIdeal.sig) → Buf (Elt Ideal) ℓ) : Prop :=
  True

def Pre_ReferenceGluBwdIdeal (m : (ℓ : Loc Cert.ReferenceGluBwdIdeal.nD Cert.ReferenceGluBwdIdeal.τ Cert.ReferenceGluBwdIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelGluFwd (m : (ℓ : Loc Cert.KernelGluFwd.nD Cert.KernelGluFwd.τ Cert.KernelGluFwd.sig) → Buf (Elt Bits) ℓ) : Prop :=
  True

def Pre_KernelGluFwdIdeal (m : (ℓ : Loc Cert.KernelGluFwdIdeal.nD Cert.KernelGluFwdIdeal.τ Cert.KernelGluFwdIdeal.sig) → Buf (Elt Ideal) ℓ) : Prop :=
  True

def Pre_ReferenceGluFwdIdeal (m : (ℓ : Loc Cert.ReferenceGluFwdIdeal.nD Cert.ReferenceGluFwdIdeal.τ Cert.ReferenceGluFwdIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1))
      ∧ r.2.sem = fun _ => 0)

def quiescent_KernelDa [hKernelDa : Cert.KernelDa.Facts] : Prop :=
  ∀ (m : (ℓ : Loc Cert.KernelDa.nD Cert.KernelDa.τ Cert.KernelDa.sig) → Buf (Elt Bits) ℓ) (g : Dev Cert.KernelDa.nD → PrngReg), Pre_KernelDa m →
    θ_run (Cert.KernelDa.defs (F := Bits)) (onTc (τ := Cert.KernelDa.τ) (Cert.KernelDa.main (F := Bits))) ⟨m, fun _ => 0, g⟩ (fun r => (∀ c : Dev Cert.KernelDa.nD,
      r.2.mem ((c.tc : Thread Cert.KernelDa.nD Cert.KernelDa.τ).loc Cert.KernelDa.main_arg0) = m ((c.tc : Thread Cert.KernelDa.nD Cert.KernelDa.τ).loc Cert.KernelDa.main_arg0)
      ∧ r.2.mem ((c.tc : Thread Cert.KernelDa.nD Cert.KernelDa.τ).loc Cert.KernelDa.main_arg1) = m ((c.tc : Thread Cert.KernelDa.nD Cert.KernelDa.τ).loc Cert.KernelDa.main_arg1))
      ∧ r.2.sem = fun _ => 0)

def quiescent_KernelDaIdeal [hKernelDaIdeal : Cert.KernelDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg), Pre_KernelDaIdeal m →
    θ_run (Cert.KernelDaIdeal.defs (F := Ideal)) (onTc (τ := Cert.KernelDaIdeal.τ) (Cert.KernelDaIdeal.main (F := Ideal))) ⟨m, fun _ => 0, g⟩ (fun r => (∀ c : Dev Cert.KernelDaIdeal.nD,
      r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
      ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1))
      ∧ r.2.sem = fun _ => 0)

def quiescent_ReferenceDaIdeal [hReferenceDaIdeal : Cert.ReferenceDaIdeal.Facts] : Prop :=
  ∀ (m : (ℓ : Loc Cert.ReferenceDaIdeal.nD Cert.ReferenceDaIdeal.τ Cert.ReferenceDaIdeal.sig) → Buf (Elt Ideal) ℓ) (g : Dev Cert.ReferenceDaIdeal.nD → PrngReg), Pre_ReferenceDaIdeal m →
    θ_run (Cert.ReferenceDaIdeal.defs (F := Ideal)) (onTc (τ := Cert.ReferenceDaIdeal.τ) (Cert.ReferenceDaIdeal.main (F := Ideal))) ⟨m, fun _ => 0, g⟩ (fun r => (∀ c : Dev Cert.ReferenceDaIdeal.nD,
      r.2.mem ((c.tc : Thread Cert.ReferenceDaIdeal.nD Cert.ReferenceDaIdeal.τ).loc Cert.ReferenceDaIdeal.main_arg0) = m ((c.tc : Thread Cert.ReferenceDaIdeal.nD Cert.ReferenceDaIdeal.τ).loc Cert.ReferenceDaIdeal.main_arg0)
      ∧ r.2.mem ((c.tc : Thread Cert.ReferenceDaIdeal.nD Cert.ReferenceDaIdeal.τ).loc Cert.ReferenceDaIdeal.main_arg1) = m ((c.tc : Thread Cert.ReferenceDaIdeal.nD Cert.ReferenceDaIdeal.τ).loc Cert.ReferenceDaIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelDwProj [hKernelDwProj : Cert.KernelDwProj.Facts] : Prop :=
  ∀ (m : (ℓ : Loc Cert.KernelDwProj.nD Cert.KernelDwProj.τ Cert.KernelDwProj.sig) → Buf (Elt Bits) ℓ) (g : Dev Cert.KernelDwProj.nD → PrngReg), Pre_KernelDwProj m →
    θ_run (Cert.KernelDwProj.defs (F := Bits)) (onTc (τ := Cert.KernelDwProj.τ) (Cert.KernelDwProj.main (F := Bits))) ⟨m, fun _ => 0, g⟩ (fun r => (∀ c : Dev Cert.KernelDwProj.nD,
      r.2.mem ((c.tc : Thread Cert.KernelDwProj.nD Cert.KernelDwProj.τ).loc Cert.KernelDwProj.main_arg0) = m ((c.tc : Thread Cert.KernelDwProj.nD Cert.KernelDwProj.τ).loc Cert.KernelDwProj.main_arg0)
      ∧ r.2.mem ((c.tc : Thread Cert.KernelDwProj.nD Cert.KernelDwProj.τ).loc Cert.KernelDwProj.main_arg1) = m ((c.tc : Thread Cert.KernelDwProj.nD Cert.KernelDwProj.τ).loc Cert.KernelDwProj.main_arg1))
      ∧ r.2.sem = fun _ => 0)

def quiescent_KernelDwProjIdeal [hKernelDwProjIdeal : Cert.KernelDwProjIdeal.Facts] : Prop :=
  ∀ (m : (ℓ : Loc Cert.KernelDwProjIdeal.nD Cert.KernelDwProjIdeal.τ Cert.KernelDwProjIdeal.sig) → Buf (Elt Ideal) ℓ) (g : Dev Cert.KernelDwProjIdeal.nD → PrngReg), Pre_KernelDwProjIdeal m →
    θ_run (Cert.KernelDwProjIdeal.defs (F := Ideal)) (onTc (τ := Cert.KernelDwProjIdeal.τ) (Cert.KernelDwProjIdeal.main (F := Ideal))) ⟨m, fun _ => 0, g⟩ (fun r => (∀ c : Dev Cert.KernelDwProjIdeal.nD,
      r.2.mem ((c.tc : Thread Cert.KernelDwProjIdeal.nD Cert.KernelDwProjIdeal.τ).loc Cert.KernelDwProjIdeal.main_arg0) = m ((c.tc : Thread Cert.KernelDwProjIdeal.nD Cert.KernelDwProjIdeal.τ).loc Cert.KernelDwProjIdeal.main_arg0)
      ∧ r.2.mem ((c.tc : Thread Cert.KernelDwProjIdeal.nD Cert.KernelDwProjIdeal.τ).loc Cert.KernelDwProjIdeal.main_arg1) = m ((c.tc : Thread Cert.KernelDwProjIdeal.nD Cert.KernelDwProjIdeal.τ).loc Cert.KernelDwProjIdeal.main_arg1))
      ∧ r.2.sem = fun _ => 0)

def quiescent_ReferenceDwProjIdeal [hReferenceDwProjIdeal : Cert.ReferenceDwProjIdeal.Facts] : Prop :=
  ∀ (m : (ℓ : Loc Cert.ReferenceDwProjIdeal.nD Cert.ReferenceDwProjIdeal.τ Cert.ReferenceDwProjIdeal.sig) → Buf (Elt Ideal) ℓ) (g : Dev Cert.ReferenceDwProjIdeal.nD → PrngReg), Pre_ReferenceDwProjIdeal m →
    θ_run (Cert.ReferenceDwProjIdeal.defs (F := Ideal)) (onTc (τ := Cert.ReferenceDwProjIdeal.τ) (Cert.ReferenceDwProjIdeal.main (F := Ideal))) ⟨m, fun _ => 0, g⟩ (fun r => (∀ c : Dev Cert.ReferenceDwProjIdeal.nD,
      r.2.mem ((c.tc : Thread Cert.ReferenceDwProjIdeal.nD Cert.ReferenceDwProjIdeal.τ).loc Cert.ReferenceDwProjIdeal.main_arg0) = m ((c.tc : Thread Cert.ReferenceDwProjIdeal.nD Cert.ReferenceDwProjIdeal.τ).loc Cert.ReferenceDwProjIdeal.main_arg0)
      ∧ r.2.mem ((c.tc : Thread Cert.ReferenceDwProjIdeal.nD Cert.ReferenceDwProjIdeal.τ).loc Cert.ReferenceDwProjIdeal.main_arg1) = m ((c.tc : Thread Cert.ReferenceDwProjIdeal.nD Cert.ReferenceDwProjIdeal.τ).loc Cert.ReferenceDwProjIdeal.main_arg1))
      ∧ r.2.sem = fun _ => 0)

def quiescent_KernelDwGlu [hKernelDwGlu : Cert.KernelDwGlu.Facts] : Prop :=
  ∀ (m : (ℓ : Loc Cert.KernelDwGlu.nD Cert.KernelDwGlu.τ Cert.KernelDwGlu.sig) → Buf (Elt Bits) ℓ) (g : Dev Cert.KernelDwGlu.nD → PrngReg), Pre_KernelDwGlu m →
    θ_run (Cert.KernelDwGlu.defs (F := Bits)) (onTc (τ := Cert.KernelDwGlu.τ) (Cert.KernelDwGlu.main (F := Bits))) ⟨m, fun _ => 0, g⟩ (fun r => (∀ c : Dev Cert.KernelDwGlu.nD,
      r.2.mem ((c.tc : Thread Cert.KernelDwGlu.nD Cert.KernelDwGlu.τ).loc Cert.KernelDwGlu.main_arg0) = m ((c.tc : Thread Cert.KernelDwGlu.nD Cert.KernelDwGlu.τ).loc Cert.KernelDwGlu.main_arg0)
      ∧ r.2.mem ((c.tc : Thread Cert.KernelDwGlu.nD Cert.KernelDwGlu.τ).loc Cert.KernelDwGlu.main_arg1) = m ((c.tc : Thread Cert.KernelDwGlu.nD Cert.KernelDwGlu.τ).loc Cert.KernelDwGlu.main_arg1))
      ∧ r.2.sem = fun _ => 0)

def quiescent_KernelDwGluIdeal [hKernelDwGluIdeal : Cert.KernelDwGluIdeal.Facts] : Prop :=
  ∀ (m : (ℓ : Loc Cert.KernelDwGluIdeal.nD Cert.KernelDwGluIdeal.τ Cert.KernelDwGluIdeal.sig) → Buf (Elt Ideal) ℓ) (g : Dev Cert.KernelDwGluIdeal.nD → PrngReg), Pre_KernelDwGluIdeal m →
    θ_run (Cert.KernelDwGluIdeal.defs (F := Ideal)) (onTc (τ := Cert.KernelDwGluIdeal.τ) (Cert.KernelDwGluIdeal.main (F := Ideal))) ⟨m, fun _ => 0, g⟩ (fun r => (∀ c : Dev Cert.KernelDwGluIdeal.nD,
      r.2.mem ((c.tc : Thread Cert.KernelDwGluIdeal.nD Cert.KernelDwGluIdeal.τ).loc Cert.KernelDwGluIdeal.main_arg0) = m ((c.tc : Thread Cert.KernelDwGluIdeal.nD Cert.KernelDwGluIdeal.τ).loc Cert.KernelDwGluIdeal.main_arg0)
      ∧ r.2.mem ((c.tc : Thread Cert.KernelDwGluIdeal.nD Cert.KernelDwGluIdeal.τ).loc Cert.KernelDwGluIdeal.main_arg1) = m ((c.tc : Thread Cert.KernelDwGluIdeal.nD Cert.KernelDwGluIdeal.τ).loc Cert.KernelDwGluIdeal.main_arg1))
      ∧ r.2.sem = fun _ => 0)

def quiescent_ReferenceDwGluIdeal [hReferenceDwGluIdeal : Cert.ReferenceDwGluIdeal.Facts] : Prop :=
  ∀ (m : (ℓ : Loc Cert.ReferenceDwGluIdeal.nD Cert.ReferenceDwGluIdeal.τ Cert.ReferenceDwGluIdeal.sig) → Buf (Elt Ideal) ℓ) (g : Dev Cert.ReferenceDwGluIdeal.nD → PrngReg), Pre_ReferenceDwGluIdeal m →
    θ_run (Cert.ReferenceDwGluIdeal.defs (F := Ideal)) (onTc (τ := Cert.ReferenceDwGluIdeal.τ) (Cert.ReferenceDwGluIdeal.main (F := Ideal))) ⟨m, fun _ => 0, g⟩ (fun r => (∀ c : Dev Cert.ReferenceDwGluIdeal.nD,
      r.2.mem ((c.tc : Thread Cert.ReferenceDwGluIdeal.nD Cert.ReferenceDwGluIdeal.τ).loc Cert.ReferenceDwGluIdeal.main_arg0) = m ((c.tc : Thread Cert.ReferenceDwGluIdeal.nD Cert.ReferenceDwGluIdeal.τ).loc Cert.ReferenceDwGluIdeal.main_arg0)
      ∧ r.2.mem ((c.tc : Thread Cert.ReferenceDwGluIdeal.nD Cert.ReferenceDwGluIdeal.τ).loc Cert.ReferenceDwGluIdeal.main_arg1) = m ((c.tc : Thread Cert.ReferenceDwGluIdeal.nD Cert.ReferenceDwGluIdeal.τ).loc Cert.ReferenceDwGluIdeal.main_arg1))
      ∧ r.2.sem = fun _ => 0)

def quiescent_KernelDhProj [hKernelDhProj : Cert.KernelDhProj.Facts] : Prop :=
  ∀ (m : (ℓ : Loc Cert.KernelDhProj.nD Cert.KernelDhProj.τ Cert.KernelDhProj.sig) → Buf (Elt Bits) ℓ) (g : Dev Cert.KernelDhProj.nD → PrngReg), Pre_KernelDhProj m →
    θ_run (Cert.KernelDhProj.defs (F := Bits)) (onTc (τ := Cert.KernelDhProj.τ) (Cert.KernelDhProj.main (F := Bits))) ⟨m, fun _ => 0, g⟩ (fun r => (∀ c : Dev Cert.KernelDhProj.nD,
      r.2.mem ((c.tc : Thread Cert.KernelDhProj.nD Cert.KernelDhProj.τ).loc Cert.KernelDhProj.main_arg0) = m ((c.tc : Thread Cert.KernelDhProj.nD Cert.KernelDhProj.τ).loc Cert.KernelDhProj.main_arg0)
      ∧ r.2.mem ((c.tc : Thread Cert.KernelDhProj.nD Cert.KernelDhProj.τ).loc Cert.KernelDhProj.main_arg1) = m ((c.tc : Thread Cert.KernelDhProj.nD Cert.KernelDhProj.τ).loc Cert.KernelDhProj.main_arg1))
      ∧ r.2.sem = fun _ => 0)

def quiescent_KernelDhProjIdeal [hKernelDhProjIdeal : Cert.KernelDhProjIdeal.Facts] : Prop :=
  ∀ (m : (ℓ : Loc Cert.KernelDhProjIdeal.nD Cert.KernelDhProjIdeal.τ Cert.KernelDhProjIdeal.sig) → Buf (Elt Ideal) ℓ) (g : Dev Cert.KernelDhProjIdeal.nD → PrngReg), Pre_KernelDhProjIdeal m →
    θ_run (Cert.KernelDhProjIdeal.defs (F := Ideal)) (onTc (τ := Cert.KernelDhProjIdeal.τ) (Cert.KernelDhProjIdeal.main (F := Ideal))) ⟨m, fun _ => 0, g⟩ (fun r => (∀ c : Dev Cert.KernelDhProjIdeal.nD,
      r.2.mem ((c.tc : Thread Cert.KernelDhProjIdeal.nD Cert.KernelDhProjIdeal.τ).loc Cert.KernelDhProjIdeal.main_arg0) = m ((c.tc : Thread Cert.KernelDhProjIdeal.nD Cert.KernelDhProjIdeal.τ).loc Cert.KernelDhProjIdeal.main_arg0)
      ∧ r.2.mem ((c.tc : Thread Cert.KernelDhProjIdeal.nD Cert.KernelDhProjIdeal.τ).loc Cert.KernelDhProjIdeal.main_arg1) = m ((c.tc : Thread Cert.KernelDhProjIdeal.nD Cert.KernelDhProjIdeal.τ).loc Cert.KernelDhProjIdeal.main_arg1))
      ∧ r.2.sem = fun _ => 0)

def quiescent_ReferenceDhProjIdeal [hReferenceDhProjIdeal : Cert.ReferenceDhProjIdeal.Facts] : Prop :=
  ∀ (m : (ℓ : Loc Cert.ReferenceDhProjIdeal.nD Cert.ReferenceDhProjIdeal.τ Cert.ReferenceDhProjIdeal.sig) → Buf (Elt Ideal) ℓ) (g : Dev Cert.ReferenceDhProjIdeal.nD → PrngReg), Pre_ReferenceDhProjIdeal m →
    θ_run (Cert.ReferenceDhProjIdeal.defs (F := Ideal)) (onTc (τ := Cert.ReferenceDhProjIdeal.τ) (Cert.ReferenceDhProjIdeal.main (F := Ideal))) ⟨m, fun _ => 0, g⟩ (fun r => (∀ c : Dev Cert.ReferenceDhProjIdeal.nD,
      r.2.mem ((c.tc : Thread Cert.ReferenceDhProjIdeal.nD Cert.ReferenceDhProjIdeal.τ).loc Cert.ReferenceDhProjIdeal.main_arg0) = m ((c.tc : Thread Cert.ReferenceDhProjIdeal.nD Cert.ReferenceDhProjIdeal.τ).loc Cert.ReferenceDhProjIdeal.main_arg0)
      ∧ r.2.mem ((c.tc : Thread Cert.ReferenceDhProjIdeal.nD Cert.ReferenceDhProjIdeal.τ).loc Cert.ReferenceDhProjIdeal.main_arg1) = m ((c.tc : Thread Cert.ReferenceDhProjIdeal.nD Cert.ReferenceDhProjIdeal.τ).loc Cert.ReferenceDhProjIdeal.main_arg1))
      ∧ r.2.sem = fun _ => 0)

def quiescent_KernelDo [hKernelDo : Cert.KernelDo.Facts] : Prop :=
  ∀ (m : (ℓ : Loc Cert.KernelDo.nD Cert.KernelDo.τ Cert.KernelDo.sig) → Buf (Elt Bits) ℓ) (g : Dev Cert.KernelDo.nD → PrngReg), Pre_KernelDo m →
    θ_run (Cert.KernelDo.defs (F := Bits)) (onTc (τ := Cert.KernelDo.τ) (Cert.KernelDo.main (F := Bits))) ⟨m, fun _ => 0, g⟩ (fun r => (∀ c : Dev Cert.KernelDo.nD,
      r.2.mem ((c.tc : Thread Cert.KernelDo.nD Cert.KernelDo.τ).loc Cert.KernelDo.main_arg0) = m ((c.tc : Thread Cert.KernelDo.nD Cert.KernelDo.τ).loc Cert.KernelDo.main_arg0)
      ∧ r.2.mem ((c.tc : Thread Cert.KernelDo.nD Cert.KernelDo.τ).loc Cert.KernelDo.main_arg1) = m ((c.tc : Thread Cert.KernelDo.nD Cert.KernelDo.τ).loc Cert.KernelDo.main_arg1))
      ∧ r.2.sem = fun _ => 0)

def quiescent_KernelDoIdeal [hKernelDoIdeal : Cert.KernelDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg), Pre_KernelDoIdeal m →
    θ_run (Cert.KernelDoIdeal.defs (F := Ideal)) (onTc (τ := Cert.KernelDoIdeal.τ) (Cert.KernelDoIdeal.main (F := Ideal))) ⟨m, fun _ => 0, g⟩ (fun r => (∀ c : Dev Cert.KernelDoIdeal.nD,
      r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
      ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ r.2.sem = fun _ => 0)

def quiescent_ReferenceDoIdeal [hReferenceDoIdeal : Cert.ReferenceDoIdeal.Facts] : Prop :=
  ∀ (m : (ℓ : Loc Cert.ReferenceDoIdeal.nD Cert.ReferenceDoIdeal.τ Cert.ReferenceDoIdeal.sig) → Buf (Elt Ideal) ℓ) (g : Dev Cert.ReferenceDoIdeal.nD → PrngReg), Pre_ReferenceDoIdeal m →
    θ_run (Cert.ReferenceDoIdeal.defs (F := Ideal)) (onTc (τ := Cert.ReferenceDoIdeal.τ) (Cert.ReferenceDoIdeal.main (F := Ideal))) ⟨m, fun _ => 0, g⟩ (fun r => (∀ c : Dev Cert.ReferenceDoIdeal.nD,
      r.2.mem ((c.tc : Thread Cert.ReferenceDoIdeal.nD Cert.ReferenceDoIdeal.τ).loc Cert.ReferenceDoIdeal.main_arg0) = m ((c.tc : Thread Cert.ReferenceDoIdeal.nD Cert.ReferenceDoIdeal.τ).loc Cert.ReferenceDoIdeal.main_arg0)
      ∧ r.2.mem ((c.tc : Thread Cert.ReferenceDoIdeal.nD Cert.ReferenceDoIdeal.τ).loc Cert.ReferenceDoIdeal.main_arg1) = m ((c.tc : Thread Cert.ReferenceDoIdeal.nD Cert.ReferenceDoIdeal.τ).loc Cert.ReferenceDoIdeal.main_arg1))
      ∧ r.2.sem = fun _ => 0)

def quiescent_KernelDhAdd [hKernelDhAdd : Cert.KernelDhAdd.Facts] : Prop :=
  ∀ (m : (ℓ : Loc Cert.KernelDhAdd.nD Cert.KernelDhAdd.τ Cert.KernelDhAdd.sig) → Buf (Elt Bits) ℓ) (g : Dev Cert.KernelDhAdd.nD → PrngReg), Pre_KernelDhAdd m →
    θ_run (Cert.KernelDhAdd.defs (F := Bits)) (onTc (τ := Cert.KernelDhAdd.τ) (Cert.KernelDhAdd.main (F := Bits))) ⟨m, fun _ => 0, g⟩ (fun r => (∀ c : Dev Cert.KernelDhAdd.nD,
      r.2.mem ((c.tc : Thread Cert.KernelDhAdd.nD Cert.KernelDhAdd.τ).loc Cert.KernelDhAdd.main_arg0) = m ((c.tc : Thread Cert.KernelDhAdd.nD Cert.KernelDhAdd.τ).loc Cert.KernelDhAdd.main_arg0)
      ∧ r.2.mem ((c.tc : Thread Cert.KernelDhAdd.nD Cert.KernelDhAdd.τ).loc Cert.KernelDhAdd.main_arg1) = m ((c.tc : Thread Cert.KernelDhAdd.nD Cert.KernelDhAdd.τ).loc Cert.KernelDhAdd.main_arg1)
      ∧ r.2.mem ((c.tc : Thread Cert.KernelDhAdd.nD Cert.KernelDhAdd.τ).loc Cert.KernelDhAdd.main_arg2) = m ((c.tc : Thread Cert.KernelDhAdd.nD Cert.KernelDhAdd.τ).loc Cert.KernelDhAdd.main_arg2))
      ∧ r.2.sem = fun _ => 0)

def quiescent_KernelDhAddIdeal [hKernelDhAddIdeal : Cert.KernelDhAddIdeal.Facts] : Prop :=
  ∀ (m : (ℓ : Loc Cert.KernelDhAddIdeal.nD Cert.KernelDhAddIdeal.τ Cert.KernelDhAddIdeal.sig) → Buf (Elt Ideal) ℓ) (g : Dev Cert.KernelDhAddIdeal.nD → PrngReg), Pre_KernelDhAddIdeal m →
    θ_run (Cert.KernelDhAddIdeal.defs (F := Ideal)) (onTc (τ := Cert.KernelDhAddIdeal.τ) (Cert.KernelDhAddIdeal.main (F := Ideal))) ⟨m, fun _ => 0, g⟩ (fun r => (∀ c : Dev Cert.KernelDhAddIdeal.nD,
      r.2.mem ((c.tc : Thread Cert.KernelDhAddIdeal.nD Cert.KernelDhAddIdeal.τ).loc Cert.KernelDhAddIdeal.main_arg0) = m ((c.tc : Thread Cert.KernelDhAddIdeal.nD Cert.KernelDhAddIdeal.τ).loc Cert.KernelDhAddIdeal.main_arg0)
      ∧ r.2.mem ((c.tc : Thread Cert.KernelDhAddIdeal.nD Cert.KernelDhAddIdeal.τ).loc Cert.KernelDhAddIdeal.main_arg1) = m ((c.tc : Thread Cert.KernelDhAddIdeal.nD Cert.KernelDhAddIdeal.τ).loc Cert.KernelDhAddIdeal.main_arg1)
      ∧ r.2.mem ((c.tc : Thread Cert.KernelDhAddIdeal.nD Cert.KernelDhAddIdeal.τ).loc Cert.KernelDhAddIdeal.main_arg2) = m ((c.tc : Thread Cert.KernelDhAddIdeal.nD Cert.KernelDhAddIdeal.τ).loc Cert.KernelDhAddIdeal.main_arg2))
      ∧ r.2.sem = fun _ => 0)

def quiescent_ReferenceDhAddIdeal [hReferenceDhAddIdeal : Cert.ReferenceDhAddIdeal.Facts] : Prop :=
  ∀ (m : (ℓ : Loc Cert.ReferenceDhAddIdeal.nD Cert.ReferenceDhAddIdeal.τ Cert.ReferenceDhAddIdeal.sig) → Buf (Elt Ideal) ℓ) (g : Dev Cert.ReferenceDhAddIdeal.nD → PrngReg), Pre_ReferenceDhAddIdeal m →
    θ_run (Cert.ReferenceDhAddIdeal.defs (F := Ideal)) (onTc (τ := Cert.ReferenceDhAddIdeal.τ) (Cert.ReferenceDhAddIdeal.main (F := Ideal))) ⟨m, fun _ => 0, g⟩ (fun r => (∀ c : Dev Cert.ReferenceDhAddIdeal.nD,
      r.2.mem ((c.tc : Thread Cert.ReferenceDhAddIdeal.nD Cert.ReferenceDhAddIdeal.τ).loc Cert.ReferenceDhAddIdeal.main_arg0) = m ((c.tc : Thread Cert.ReferenceDhAddIdeal.nD Cert.ReferenceDhAddIdeal.τ).loc Cert.ReferenceDhAddIdeal.main_arg0)
      ∧ r.2.mem ((c.tc : Thread Cert.ReferenceDhAddIdeal.nD Cert.ReferenceDhAddIdeal.τ).loc Cert.ReferenceDhAddIdeal.main_arg1) = m ((c.tc : Thread Cert.ReferenceDhAddIdeal.nD Cert.ReferenceDhAddIdeal.τ).loc Cert.ReferenceDhAddIdeal.main_arg1)
      ∧ r.2.mem ((c.tc : Thread Cert.ReferenceDhAddIdeal.nD Cert.ReferenceDhAddIdeal.τ).loc Cert.ReferenceDhAddIdeal.main_arg2) = m ((c.tc : Thread Cert.ReferenceDhAddIdeal.nD Cert.ReferenceDhAddIdeal.τ).loc Cert.ReferenceDhAddIdeal.main_arg2))
      ∧ r.2.sem = fun _ => 0)

def quiescent_KernelDyg [hKernelDyg : Cert.KernelDyg.Facts] : Prop :=
  ∀ (m : (ℓ : Loc Cert.KernelDyg.nD Cert.KernelDyg.τ Cert.KernelDyg.sig) → Buf (Elt Bits) ℓ) (g : Dev Cert.KernelDyg.nD → PrngReg), Pre_KernelDyg m →
    θ_run (Cert.KernelDyg.defs (F := Bits)) (onTc (τ := Cert.KernelDyg.τ) (Cert.KernelDyg.main (F := Bits))) ⟨m, fun _ => 0, g⟩ (fun r => (∀ c : Dev Cert.KernelDyg.nD,
      r.2.mem ((c.tc : Thread Cert.KernelDyg.nD Cert.KernelDyg.τ).loc Cert.KernelDyg.main_arg0) = m ((c.tc : Thread Cert.KernelDyg.nD Cert.KernelDyg.τ).loc Cert.KernelDyg.main_arg0)
      ∧ r.2.mem ((c.tc : Thread Cert.KernelDyg.nD Cert.KernelDyg.τ).loc Cert.KernelDyg.main_arg1) = m ((c.tc : Thread Cert.KernelDyg.nD Cert.KernelDyg.τ).loc Cert.KernelDyg.main_arg1))
      ∧ r.2.sem = fun _ => 0)

def quiescent_KernelDygIdeal [hKernelDygIdeal : Cert.KernelDygIdeal.Facts] : Prop :=
  ∀ (m : (ℓ : Loc Cert.KernelDygIdeal.nD Cert.KernelDygIdeal.τ Cert.KernelDygIdeal.sig) → Buf (Elt Ideal) ℓ) (g : Dev Cert.KernelDygIdeal.nD → PrngReg), Pre_KernelDygIdeal m →
    θ_run (Cert.KernelDygIdeal.defs (F := Ideal)) (onTc (τ := Cert.KernelDygIdeal.τ) (Cert.KernelDygIdeal.main (F := Ideal))) ⟨m, fun _ => 0, g⟩ (fun r => (∀ c : Dev Cert.KernelDygIdeal.nD,
      r.2.mem ((c.tc : Thread Cert.KernelDygIdeal.nD Cert.KernelDygIdeal.τ).loc Cert.KernelDygIdeal.main_arg0) = m ((c.tc : Thread Cert.KernelDygIdeal.nD Cert.KernelDygIdeal.τ).loc Cert.KernelDygIdeal.main_arg0)
      ∧ r.2.mem ((c.tc : Thread Cert.KernelDygIdeal.nD Cert.KernelDygIdeal.τ).loc Cert.KernelDygIdeal.main_arg1) = m ((c.tc : Thread Cert.KernelDygIdeal.nD Cert.KernelDygIdeal.τ).loc Cert.KernelDygIdeal.main_arg1))
      ∧ r.2.sem = fun _ => 0)

def quiescent_ReferenceDygIdeal [hReferenceDygIdeal : Cert.ReferenceDygIdeal.Facts] : Prop :=
  ∀ (m : (ℓ : Loc Cert.ReferenceDygIdeal.nD Cert.ReferenceDygIdeal.τ Cert.ReferenceDygIdeal.sig) → Buf (Elt Ideal) ℓ) (g : Dev Cert.ReferenceDygIdeal.nD → PrngReg), Pre_ReferenceDygIdeal m →
    θ_run (Cert.ReferenceDygIdeal.defs (F := Ideal)) (onTc (τ := Cert.ReferenceDygIdeal.τ) (Cert.ReferenceDygIdeal.main (F := Ideal))) ⟨m, fun _ => 0, g⟩ (fun r => (∀ c : Dev Cert.ReferenceDygIdeal.nD,
      r.2.mem ((c.tc : Thread Cert.ReferenceDygIdeal.nD Cert.ReferenceDygIdeal.τ).loc Cert.ReferenceDygIdeal.main_arg0) = m ((c.tc : Thread Cert.ReferenceDygIdeal.nD Cert.ReferenceDygIdeal.τ).loc Cert.ReferenceDygIdeal.main_arg0)
      ∧ r.2.mem ((c.tc : Thread Cert.ReferenceDygIdeal.nD Cert.ReferenceDygIdeal.τ).loc Cert.ReferenceDygIdeal.main_arg1) = m ((c.tc : Thread Cert.ReferenceDygIdeal.nD Cert.ReferenceDygIdeal.τ).loc Cert.ReferenceDygIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelNormBwd [hKernelNormBwd : Cert.KernelNormBwd.Facts] : Prop :=
  ∀ (m : (ℓ : Loc Cert.KernelNormBwd.nD Cert.KernelNormBwd.τ Cert.KernelNormBwd.sig) → Buf (Elt Bits) ℓ) (g : Dev Cert.KernelNormBwd.nD → PrngReg), Pre_KernelNormBwd m →
    θ_run (Cert.KernelNormBwd.defs (F := Bits)) (onTc (τ := Cert.KernelNormBwd.τ) (Cert.KernelNormBwd.main (F := Bits))) ⟨m, fun _ => 0, g⟩ (fun r => (∀ c : Dev Cert.KernelNormBwd.nD,
      r.2.mem ((c.tc : Thread Cert.KernelNormBwd.nD Cert.KernelNormBwd.τ).loc Cert.KernelNormBwd.main_arg0) = m ((c.tc : Thread Cert.KernelNormBwd.nD Cert.KernelNormBwd.τ).loc Cert.KernelNormBwd.main_arg0)
      ∧ r.2.mem ((c.tc : Thread Cert.KernelNormBwd.nD Cert.KernelNormBwd.τ).loc Cert.KernelNormBwd.main_arg1) = m ((c.tc : Thread Cert.KernelNormBwd.nD Cert.KernelNormBwd.τ).loc Cert.KernelNormBwd.main_arg1)
      ∧ r.2.mem ((c.tc : Thread Cert.KernelNormBwd.nD Cert.KernelNormBwd.τ).loc Cert.KernelNormBwd.main_arg2) = m ((c.tc : Thread Cert.KernelNormBwd.nD Cert.KernelNormBwd.τ).loc Cert.KernelNormBwd.main_arg2)
      ∧ r.2.mem ((c.tc : Thread Cert.KernelNormBwd.nD Cert.KernelNormBwd.τ).loc Cert.KernelNormBwd.main_arg3) = m ((c.tc : Thread Cert.KernelNormBwd.nD Cert.KernelNormBwd.τ).loc Cert.KernelNormBwd.main_arg3))
      ∧ r.2.sem = fun _ => 0)

def quiescent_KernelNormBwdIdeal [hKernelNormBwdIdeal : Cert.KernelNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg), Pre_KernelNormBwdIdeal m →
    θ_run (Cert.KernelNormBwdIdeal.defs (F := Ideal)) (onTc (τ := Cert.KernelNormBwdIdeal.τ) (Cert.KernelNormBwdIdeal.main (F := Ideal))) ⟨m, fun _ => 0, g⟩ (fun r => (∀ c : Dev Cert.KernelNormBwdIdeal.nD,
      r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
      ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
      ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
      ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ r.2.sem = fun _ => 0)

def quiescent_ReferenceNormBwdIdeal [hReferenceNormBwdIdeal : Cert.ReferenceNormBwdIdeal.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3))
      ∧ r.2.sem = fun _ => 0)

def quiescent_KernelGluBwd [hKernelGluBwd : Cert.KernelGluBwd.Facts] : Prop :=
  ∀ (m : (ℓ : Loc Cert.KernelGluBwd.nD Cert.KernelGluBwd.τ Cert.KernelGluBwd.sig) → Buf (Elt Bits) ℓ) (g : Dev Cert.KernelGluBwd.nD → PrngReg), Pre_KernelGluBwd m →
    θ_run (Cert.KernelGluBwd.defs (F := Bits)) (onTc (τ := Cert.KernelGluBwd.τ) (Cert.KernelGluBwd.main (F := Bits))) ⟨m, fun _ => 0, g⟩ (fun r => (∀ c : Dev Cert.KernelGluBwd.nD,
      r.2.mem ((c.tc : Thread Cert.KernelGluBwd.nD Cert.KernelGluBwd.τ).loc Cert.KernelGluBwd.main_arg0) = m ((c.tc : Thread Cert.KernelGluBwd.nD Cert.KernelGluBwd.τ).loc Cert.KernelGluBwd.main_arg0)
      ∧ r.2.mem ((c.tc : Thread Cert.KernelGluBwd.nD Cert.KernelGluBwd.τ).loc Cert.KernelGluBwd.main_arg1) = m ((c.tc : Thread Cert.KernelGluBwd.nD Cert.KernelGluBwd.τ).loc Cert.KernelGluBwd.main_arg1))
      ∧ r.2.sem = fun _ => 0)

def quiescent_KernelGluBwdIdeal [hKernelGluBwdIdeal : Cert.KernelGluBwdIdeal.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg), Pre_KernelGluBwdIdeal m →
    θ_run (Cert.KernelGluBwdIdeal.defs (F := Ideal)) (onTc (τ := Cert.KernelGluBwdIdeal.τ) (Cert.KernelGluBwdIdeal.main (F := Ideal))) ⟨m, fun _ => 0, g⟩ (fun r => (∀ c : Dev Cert.KernelGluBwdIdeal.nD,
      r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
      ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1))
      ∧ r.2.sem = fun _ => 0)

def quiescent_ReferenceGluBwdIdeal [hReferenceGluBwdIdeal : Cert.ReferenceGluBwdIdeal.Facts] : Prop :=
  ∀ (m : (ℓ : Loc Cert.ReferenceGluBwdIdeal.nD Cert.ReferenceGluBwdIdeal.τ Cert.ReferenceGluBwdIdeal.sig) → Buf (Elt Ideal) ℓ) (g : Dev Cert.ReferenceGluBwdIdeal.nD → PrngReg), Pre_ReferenceGluBwdIdeal m →
    θ_run (Cert.ReferenceGluBwdIdeal.defs (F := Ideal)) (onTc (τ := Cert.ReferenceGluBwdIdeal.τ) (Cert.ReferenceGluBwdIdeal.main (F := Ideal))) ⟨m, fun _ => 0, g⟩ (fun r => (∀ c : Dev Cert.ReferenceGluBwdIdeal.nD,
      r.2.mem ((c.tc : Thread Cert.ReferenceGluBwdIdeal.nD Cert.ReferenceGluBwdIdeal.τ).loc Cert.ReferenceGluBwdIdeal.main_arg0) = m ((c.tc : Thread Cert.ReferenceGluBwdIdeal.nD Cert.ReferenceGluBwdIdeal.τ).loc Cert.ReferenceGluBwdIdeal.main_arg0)
      ∧ r.2.mem ((c.tc : Thread Cert.ReferenceGluBwdIdeal.nD Cert.ReferenceGluBwdIdeal.τ).loc Cert.ReferenceGluBwdIdeal.main_arg1) = m ((c.tc : Thread Cert.ReferenceGluBwdIdeal.nD Cert.ReferenceGluBwdIdeal.τ).loc Cert.ReferenceGluBwdIdeal.main_arg1))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelGluFwd [hKernelGluFwd : Cert.KernelGluFwd.Facts] : Prop :=
  ∀ (m : (ℓ : Loc Cert.KernelGluFwd.nD Cert.KernelGluFwd.τ Cert.KernelGluFwd.sig) → Buf (Elt Bits) ℓ) (g : Dev Cert.KernelGluFwd.nD → PrngReg), Pre_KernelGluFwd m →
    θ_run (Cert.KernelGluFwd.defs (F := Bits)) (onTc (τ := Cert.KernelGluFwd.τ) (Cert.KernelGluFwd.main (F := Bits))) ⟨m, fun _ => 0, g⟩ (fun r => (∀ c : Dev Cert.KernelGluFwd.nD,
      r.2.mem ((c.tc : Thread Cert.KernelGluFwd.nD Cert.KernelGluFwd.τ).loc Cert.KernelGluFwd.main_arg0) = m ((c.tc : Thread Cert.KernelGluFwd.nD Cert.KernelGluFwd.τ).loc Cert.KernelGluFwd.main_arg0)
      ∧ r.2.mem ((c.tc : Thread Cert.KernelGluFwd.nD Cert.KernelGluFwd.τ).loc Cert.KernelGluFwd.main_arg1) = m ((c.tc : Thread Cert.KernelGluFwd.nD Cert.KernelGluFwd.τ).loc Cert.KernelGluFwd.main_arg1))
      ∧ r.2.sem = fun _ => 0)

def quiescent_KernelGluFwdIdeal [hKernelGluFwdIdeal : Cert.KernelGluFwdIdeal.Facts] : Prop :=
  ∀ (m : (ℓ : Loc Cert.KernelGluFwdIdeal.nD Cert.KernelGluFwdIdeal.τ Cert.KernelGluFwdIdeal.sig) → Buf (Elt Ideal) ℓ) (g : Dev Cert.KernelGluFwdIdeal.nD → PrngReg), Pre_KernelGluFwdIdeal m →
    θ_run (Cert.KernelGluFwdIdeal.defs (F := Ideal)) (onTc (τ := Cert.KernelGluFwdIdeal.τ) (Cert.KernelGluFwdIdeal.main (F := Ideal))) ⟨m, fun _ => 0, g⟩ (fun r => (∀ c : Dev Cert.KernelGluFwdIdeal.nD,
      r.2.mem ((c.tc : Thread Cert.KernelGluFwdIdeal.nD Cert.KernelGluFwdIdeal.τ).loc Cert.KernelGluFwdIdeal.main_arg0) = m ((c.tc : Thread Cert.KernelGluFwdIdeal.nD Cert.KernelGluFwdIdeal.τ).loc Cert.KernelGluFwdIdeal.main_arg0)
      ∧ r.2.mem ((c.tc : Thread Cert.KernelGluFwdIdeal.nD Cert.KernelGluFwdIdeal.τ).loc Cert.KernelGluFwdIdeal.main_arg1) = m ((c.tc : Thread Cert.KernelGluFwdIdeal.nD Cert.KernelGluFwdIdeal.τ).loc Cert.KernelGluFwdIdeal.main_arg1))
      ∧ r.2.sem = fun _ => 0)

def quiescent_ReferenceGluFwdIdeal [hReferenceGluFwdIdeal : Cert.ReferenceGluFwdIdeal.Facts] : Prop :=
  ∀ (m : (ℓ : Loc Cert.ReferenceGluFwdIdeal.nD Cert.ReferenceGluFwdIdeal.τ Cert.ReferenceGluFwdIdeal.sig) → Buf (Elt Ideal) ℓ) (g : Dev Cert.ReferenceGluFwdIdeal.nD → PrngReg), Pre_ReferenceGluFwdIdeal m →
    θ_run (Cert.ReferenceGluFwdIdeal.defs (F := Ideal)) (onTc (τ := Cert.ReferenceGluFwdIdeal.τ) (Cert.ReferenceGluFwdIdeal.main (F := Ideal))) ⟨m, fun _ => 0, g⟩ (fun r => (∀ c : Dev Cert.ReferenceGluFwdIdeal.nD,
      r.2.mem ((c.tc : Thread Cert.ReferenceGluFwdIdeal.nD Cert.ReferenceGluFwdIdeal.τ).loc Cert.ReferenceGluFwdIdeal.main_arg0) = m ((c.tc : Thread Cert.ReferenceGluFwdIdeal.nD Cert.ReferenceGluFwdIdeal.τ).loc Cert.ReferenceGluFwdIdeal.main_arg0)
      ∧ r.2.mem ((c.tc : Thread Cert.ReferenceGluFwdIdeal.nD Cert.ReferenceGluFwdIdeal.τ).loc Cert.ReferenceGluFwdIdeal.main_arg1) = m ((c.tc : Thread Cert.ReferenceGluFwdIdeal.nD Cert.ReferenceGluFwdIdeal.τ).loc Cert.ReferenceGluFwdIdeal.main_arg1))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v14_1)) (v3 : (c : Dev Cert.KernelIdeal.nD) → Buf (Elt Ideal) ((c.tc : Thread Cert.KernelIdeal.nD Cert.KernelIdeal.τ).loc Cert.KernelIdeal.main_v14_2)) (v4 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_v14_2) = v3 c
          ∧ r.2.mem ((c.tc : Thread Cert.KernelIdeal.nD Cert.KernelIdeal.τ).loc Cert.KernelIdeal.main_v3_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)) →
    ∃ (v0 : (c : Dev Cert.KernelDwUpIdeal.nD) → Buf (Elt Ideal) ((c.tc : Thread Cert.KernelDwUpIdeal.nD Cert.KernelDwUpIdeal.τ).loc Cert.KernelDwUpIdeal.main_v0)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v0) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v6) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)) →
    ∃ (v0 : (c : Dev Cert.KernelDhIdeal.nD) → Buf (Elt Ideal) ((c.tc : Thread Cert.KernelDhIdeal.nD Cert.KernelDhIdeal.τ).loc Cert.KernelDhIdeal.main_v0)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v4) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)) →
    ∃ (v0 : (c : Dev Cert.KernelDwDownIdeal.nD) → Buf (Elt Ideal) ((c.tc : Thread Cert.KernelDwDownIdeal.nD Cert.KernelDwDownIdeal.τ).loc Cert.KernelDwDownIdeal.main_v0)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v0) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v6) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1))

def preserves_KernelDa_KernelDaIdeal : Prop :=
  True

def algebraic_KernelDaIdeal_ReferenceDaIdeal [hKernelDaIdeal : Cert.KernelDaIdeal.Facts] [hReferenceDaIdeal : Cert.ReferenceDaIdeal.Facts] : Prop :=
  ∀ (m : (ℓ : Loc Cert.KernelDaIdeal.nD Cert.KernelDaIdeal.τ Cert.KernelDaIdeal.sig) → Buf (Elt Ideal) ℓ) (g : Dev Cert.KernelDaIdeal.nD → PrngReg)
    (m' : (ℓ : Loc Cert.ReferenceDaIdeal.nD Cert.ReferenceDaIdeal.τ Cert.ReferenceDaIdeal.sig) → Buf (Elt Ideal) ℓ) (g' : Dev Cert.ReferenceDaIdeal.nD → PrngReg), Pre_KernelDaIdeal m →
    (∀ c : Dev Cert.KernelDaIdeal.nD,
      m' ((c.tc : Thread Cert.ReferenceDaIdeal.nD Cert.ReferenceDaIdeal.τ).loc Cert.ReferenceDaIdeal.main_arg0) = m ((c.tc : Thread Cert.KernelDaIdeal.nD Cert.KernelDaIdeal.τ).loc Cert.KernelDaIdeal.main_arg0)
      ∧ m' ((c.tc : Thread Cert.ReferenceDaIdeal.nD Cert.ReferenceDaIdeal.τ).loc Cert.ReferenceDaIdeal.main_arg1) = m ((c.tc : Thread Cert.KernelDaIdeal.nD Cert.KernelDaIdeal.τ).loc Cert.KernelDaIdeal.main_arg1)) →
    ∃ (v0 : (c : Dev Cert.KernelDaIdeal.nD) → Buf (Elt Ideal) ((c.tc : Thread Cert.KernelDaIdeal.nD Cert.KernelDaIdeal.τ).loc Cert.KernelDaIdeal.main_v0)),
      θ_run (Cert.KernelDaIdeal.defs (F := Ideal)) (onTc (τ := Cert.KernelDaIdeal.τ) (Cert.KernelDaIdeal.main (F := Ideal))) ⟨m, fun _ => 0, g⟩ (fun r => ∀ c : Dev Cert.KernelDaIdeal.nD,
          r.2.mem ((c.tc : Thread Cert.KernelDaIdeal.nD Cert.KernelDaIdeal.τ).loc Cert.KernelDaIdeal.main_v0) = v0 c
          ∧ r.2.mem ((c.tc : Thread Cert.KernelDaIdeal.nD Cert.KernelDaIdeal.τ).loc Cert.KernelDaIdeal.main_arg0) = m ((c.tc : Thread Cert.KernelDaIdeal.nD Cert.KernelDaIdeal.τ).loc Cert.KernelDaIdeal.main_arg0)
          ∧ r.2.mem ((c.tc : Thread Cert.KernelDaIdeal.nD Cert.KernelDaIdeal.τ).loc Cert.KernelDaIdeal.main_arg1) = m ((c.tc : Thread Cert.KernelDaIdeal.nD Cert.KernelDaIdeal.τ).loc Cert.KernelDaIdeal.main_arg1))
      ∧ θ_run (Cert.ReferenceDaIdeal.defs (F := Ideal)) (onTc (τ := Cert.ReferenceDaIdeal.τ) (Cert.ReferenceDaIdeal.main (F := Ideal))) ⟨m', fun _ => 0, g'⟩ (fun r => ∀ c : Dev Cert.ReferenceDaIdeal.nD,
          r.2.mem ((c.tc : Thread Cert.ReferenceDaIdeal.nD Cert.ReferenceDaIdeal.τ).loc Cert.ReferenceDaIdeal.main_v4) = v0 c
          ∧ r.2.mem ((c.tc : Thread Cert.ReferenceDaIdeal.nD Cert.ReferenceDaIdeal.τ).loc Cert.ReferenceDaIdeal.main_arg0) = m' ((c.tc : Thread Cert.ReferenceDaIdeal.nD Cert.ReferenceDaIdeal.τ).loc Cert.ReferenceDaIdeal.main_arg0)
          ∧ r.2.mem ((c.tc : Thread Cert.ReferenceDaIdeal.nD Cert.ReferenceDaIdeal.τ).loc Cert.ReferenceDaIdeal.main_arg1) = m' ((c.tc : Thread Cert.ReferenceDaIdeal.nD Cert.ReferenceDaIdeal.τ).loc Cert.ReferenceDaIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v3) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelDwProj_KernelDwProjIdeal : Prop :=
  True

def algebraic_KernelDwProjIdeal_ReferenceDwProjIdeal [hKernelDwProjIdeal : Cert.KernelDwProjIdeal.Facts] [hReferenceDwProjIdeal : Cert.ReferenceDwProjIdeal.Facts] : Prop :=
  ∀ (m : (ℓ : Loc Cert.KernelDwProjIdeal.nD Cert.KernelDwProjIdeal.τ Cert.KernelDwProjIdeal.sig) → Buf (Elt Ideal) ℓ) (g : Dev Cert.KernelDwProjIdeal.nD → PrngReg)
    (m' : (ℓ : Loc Cert.ReferenceDwProjIdeal.nD Cert.ReferenceDwProjIdeal.τ Cert.ReferenceDwProjIdeal.sig) → Buf (Elt Ideal) ℓ) (g' : Dev Cert.ReferenceDwProjIdeal.nD → PrngReg), Pre_KernelDwProjIdeal m →
    (∀ c : Dev Cert.KernelDwProjIdeal.nD,
      m' ((c.tc : Thread Cert.ReferenceDwProjIdeal.nD Cert.ReferenceDwProjIdeal.τ).loc Cert.ReferenceDwProjIdeal.main_arg0) = m ((c.tc : Thread Cert.KernelDwProjIdeal.nD Cert.KernelDwProjIdeal.τ).loc Cert.KernelDwProjIdeal.main_arg0)
      ∧ m' ((c.tc : Thread Cert.ReferenceDwProjIdeal.nD Cert.ReferenceDwProjIdeal.τ).loc Cert.ReferenceDwProjIdeal.main_arg1) = m ((c.tc : Thread Cert.KernelDwProjIdeal.nD Cert.KernelDwProjIdeal.τ).loc Cert.KernelDwProjIdeal.main_arg1)) →
    ∃ (v0 : (c : Dev Cert.KernelDwProjIdeal.nD) → Buf (Elt Ideal) ((c.tc : Thread Cert.KernelDwProjIdeal.nD Cert.KernelDwProjIdeal.τ).loc Cert.KernelDwProjIdeal.main_v0)),
      θ_run (Cert.KernelDwProjIdeal.defs (F := Ideal)) (onTc (τ := Cert.KernelDwProjIdeal.τ) (Cert.KernelDwProjIdeal.main (F := Ideal))) ⟨m, fun _ => 0, g⟩ (fun r => ∀ c : Dev Cert.KernelDwProjIdeal.nD,
          r.2.mem ((c.tc : Thread Cert.KernelDwProjIdeal.nD Cert.KernelDwProjIdeal.τ).loc Cert.KernelDwProjIdeal.main_v0) = v0 c
          ∧ r.2.mem ((c.tc : Thread Cert.KernelDwProjIdeal.nD Cert.KernelDwProjIdeal.τ).loc Cert.KernelDwProjIdeal.main_arg0) = m ((c.tc : Thread Cert.KernelDwProjIdeal.nD Cert.KernelDwProjIdeal.τ).loc Cert.KernelDwProjIdeal.main_arg0)
          ∧ r.2.mem ((c.tc : Thread Cert.KernelDwProjIdeal.nD Cert.KernelDwProjIdeal.τ).loc Cert.KernelDwProjIdeal.main_arg1) = m ((c.tc : Thread Cert.KernelDwProjIdeal.nD Cert.KernelDwProjIdeal.τ).loc Cert.KernelDwProjIdeal.main_arg1))
      ∧ θ_run (Cert.ReferenceDwProjIdeal.defs (F := Ideal)) (onTc (τ := Cert.ReferenceDwProjIdeal.τ) (Cert.ReferenceDwProjIdeal.main (F := Ideal))) ⟨m', fun _ => 0, g'⟩ (fun r => ∀ c : Dev Cert.ReferenceDwProjIdeal.nD,
          r.2.mem ((c.tc : Thread Cert.ReferenceDwProjIdeal.nD Cert.ReferenceDwProjIdeal.τ).loc Cert.ReferenceDwProjIdeal.main_v6) = v0 c
          ∧ r.2.mem ((c.tc : Thread Cert.ReferenceDwProjIdeal.nD Cert.ReferenceDwProjIdeal.τ).loc Cert.ReferenceDwProjIdeal.main_arg0) = m' ((c.tc : Thread Cert.ReferenceDwProjIdeal.nD Cert.ReferenceDwProjIdeal.τ).loc Cert.ReferenceDwProjIdeal.main_arg0)
          ∧ r.2.mem ((c.tc : Thread Cert.ReferenceDwProjIdeal.nD Cert.ReferenceDwProjIdeal.τ).loc Cert.ReferenceDwProjIdeal.main_arg1) = m' ((c.tc : Thread Cert.ReferenceDwProjIdeal.nD Cert.ReferenceDwProjIdeal.τ).loc Cert.ReferenceDwProjIdeal.main_arg1))

def preserves_KernelDwGlu_KernelDwGluIdeal : Prop :=
  True

def algebraic_KernelDwGluIdeal_ReferenceDwGluIdeal [hKernelDwGluIdeal : Cert.KernelDwGluIdeal.Facts] [hReferenceDwGluIdeal : Cert.ReferenceDwGluIdeal.Facts] : Prop :=
  ∀ (m : (ℓ : Loc Cert.KernelDwGluIdeal.nD Cert.KernelDwGluIdeal.τ Cert.KernelDwGluIdeal.sig) → Buf (Elt Ideal) ℓ) (g : Dev Cert.KernelDwGluIdeal.nD → PrngReg)
    (m' : (ℓ : Loc Cert.ReferenceDwGluIdeal.nD Cert.ReferenceDwGluIdeal.τ Cert.ReferenceDwGluIdeal.sig) → Buf (Elt Ideal) ℓ) (g' : Dev Cert.ReferenceDwGluIdeal.nD → PrngReg), Pre_KernelDwGluIdeal m →
    (∀ c : Dev Cert.KernelDwGluIdeal.nD,
      m' ((c.tc : Thread Cert.ReferenceDwGluIdeal.nD Cert.ReferenceDwGluIdeal.τ).loc Cert.ReferenceDwGluIdeal.main_arg0) = m ((c.tc : Thread Cert.KernelDwGluIdeal.nD Cert.KernelDwGluIdeal.τ).loc Cert.KernelDwGluIdeal.main_arg0)
      ∧ m' ((c.tc : Thread Cert.ReferenceDwGluIdeal.nD Cert.ReferenceDwGluIdeal.τ).loc Cert.ReferenceDwGluIdeal.main_arg1) = m ((c.tc : Thread Cert.KernelDwGluIdeal.nD Cert.KernelDwGluIdeal.τ).loc Cert.KernelDwGluIdeal.main_arg1)) →
    ∃ (v0 : (c : Dev Cert.KernelDwGluIdeal.nD) → Buf (Elt Ideal) ((c.tc : Thread Cert.KernelDwGluIdeal.nD Cert.KernelDwGluIdeal.τ).loc Cert.KernelDwGluIdeal.main_v0)),
      θ_run (Cert.KernelDwGluIdeal.defs (F := Ideal)) (onTc (τ := Cert.KernelDwGluIdeal.τ) (Cert.KernelDwGluIdeal.main (F := Ideal))) ⟨m, fun _ => 0, g⟩ (fun r => ∀ c : Dev Cert.KernelDwGluIdeal.nD,
          r.2.mem ((c.tc : Thread Cert.KernelDwGluIdeal.nD Cert.KernelDwGluIdeal.τ).loc Cert.KernelDwGluIdeal.main_v0) = v0 c
          ∧ r.2.mem ((c.tc : Thread Cert.KernelDwGluIdeal.nD Cert.KernelDwGluIdeal.τ).loc Cert.KernelDwGluIdeal.main_arg0) = m ((c.tc : Thread Cert.KernelDwGluIdeal.nD Cert.KernelDwGluIdeal.τ).loc Cert.KernelDwGluIdeal.main_arg0)
          ∧ r.2.mem ((c.tc : Thread Cert.KernelDwGluIdeal.nD Cert.KernelDwGluIdeal.τ).loc Cert.KernelDwGluIdeal.main_arg1) = m ((c.tc : Thread Cert.KernelDwGluIdeal.nD Cert.KernelDwGluIdeal.τ).loc Cert.KernelDwGluIdeal.main_arg1))
      ∧ θ_run (Cert.ReferenceDwGluIdeal.defs (F := Ideal)) (onTc (τ := Cert.ReferenceDwGluIdeal.τ) (Cert.ReferenceDwGluIdeal.main (F := Ideal))) ⟨m', fun _ => 0, g'⟩ (fun r => ∀ c : Dev Cert.ReferenceDwGluIdeal.nD,
          r.2.mem ((c.tc : Thread Cert.ReferenceDwGluIdeal.nD Cert.ReferenceDwGluIdeal.τ).loc Cert.ReferenceDwGluIdeal.main_v6) = v0 c
          ∧ r.2.mem ((c.tc : Thread Cert.ReferenceDwGluIdeal.nD Cert.ReferenceDwGluIdeal.τ).loc Cert.ReferenceDwGluIdeal.main_arg0) = m' ((c.tc : Thread Cert.ReferenceDwGluIdeal.nD Cert.ReferenceDwGluIdeal.τ).loc Cert.ReferenceDwGluIdeal.main_arg0)
          ∧ r.2.mem ((c.tc : Thread Cert.ReferenceDwGluIdeal.nD Cert.ReferenceDwGluIdeal.τ).loc Cert.ReferenceDwGluIdeal.main_arg1) = m' ((c.tc : Thread Cert.ReferenceDwGluIdeal.nD Cert.ReferenceDwGluIdeal.τ).loc Cert.ReferenceDwGluIdeal.main_arg1))

def preserves_KernelDhProj_KernelDhProjIdeal : Prop :=
  True

def algebraic_KernelDhProjIdeal_ReferenceDhProjIdeal [hKernelDhProjIdeal : Cert.KernelDhProjIdeal.Facts] [hReferenceDhProjIdeal : Cert.ReferenceDhProjIdeal.Facts] : Prop :=
  ∀ (m : (ℓ : Loc Cert.KernelDhProjIdeal.nD Cert.KernelDhProjIdeal.τ Cert.KernelDhProjIdeal.sig) → Buf (Elt Ideal) ℓ) (g : Dev Cert.KernelDhProjIdeal.nD → PrngReg)
    (m' : (ℓ : Loc Cert.ReferenceDhProjIdeal.nD Cert.ReferenceDhProjIdeal.τ Cert.ReferenceDhProjIdeal.sig) → Buf (Elt Ideal) ℓ) (g' : Dev Cert.ReferenceDhProjIdeal.nD → PrngReg), Pre_KernelDhProjIdeal m →
    (∀ c : Dev Cert.KernelDhProjIdeal.nD,
      m' ((c.tc : Thread Cert.ReferenceDhProjIdeal.nD Cert.ReferenceDhProjIdeal.τ).loc Cert.ReferenceDhProjIdeal.main_arg0) = m ((c.tc : Thread Cert.KernelDhProjIdeal.nD Cert.KernelDhProjIdeal.τ).loc Cert.KernelDhProjIdeal.main_arg0)
      ∧ m' ((c.tc : Thread Cert.ReferenceDhProjIdeal.nD Cert.ReferenceDhProjIdeal.τ).loc Cert.ReferenceDhProjIdeal.main_arg1) = m ((c.tc : Thread Cert.KernelDhProjIdeal.nD Cert.KernelDhProjIdeal.τ).loc Cert.KernelDhProjIdeal.main_arg1)) →
    ∃ (v0 : (c : Dev Cert.KernelDhProjIdeal.nD) → Buf (Elt Ideal) ((c.tc : Thread Cert.KernelDhProjIdeal.nD Cert.KernelDhProjIdeal.τ).loc Cert.KernelDhProjIdeal.main_v0)),
      θ_run (Cert.KernelDhProjIdeal.defs (F := Ideal)) (onTc (τ := Cert.KernelDhProjIdeal.τ) (Cert.KernelDhProjIdeal.main (F := Ideal))) ⟨m, fun _ => 0, g⟩ (fun r => ∀ c : Dev Cert.KernelDhProjIdeal.nD,
          r.2.mem ((c.tc : Thread Cert.KernelDhProjIdeal.nD Cert.KernelDhProjIdeal.τ).loc Cert.KernelDhProjIdeal.main_v0) = v0 c
          ∧ r.2.mem ((c.tc : Thread Cert.KernelDhProjIdeal.nD Cert.KernelDhProjIdeal.τ).loc Cert.KernelDhProjIdeal.main_arg0) = m ((c.tc : Thread Cert.KernelDhProjIdeal.nD Cert.KernelDhProjIdeal.τ).loc Cert.KernelDhProjIdeal.main_arg0)
          ∧ r.2.mem ((c.tc : Thread Cert.KernelDhProjIdeal.nD Cert.KernelDhProjIdeal.τ).loc Cert.KernelDhProjIdeal.main_arg1) = m ((c.tc : Thread Cert.KernelDhProjIdeal.nD Cert.KernelDhProjIdeal.τ).loc Cert.KernelDhProjIdeal.main_arg1))
      ∧ θ_run (Cert.ReferenceDhProjIdeal.defs (F := Ideal)) (onTc (τ := Cert.ReferenceDhProjIdeal.τ) (Cert.ReferenceDhProjIdeal.main (F := Ideal))) ⟨m', fun _ => 0, g'⟩ (fun r => ∀ c : Dev Cert.ReferenceDhProjIdeal.nD,
          r.2.mem ((c.tc : Thread Cert.ReferenceDhProjIdeal.nD Cert.ReferenceDhProjIdeal.τ).loc Cert.ReferenceDhProjIdeal.main_v4) = v0 c
          ∧ r.2.mem ((c.tc : Thread Cert.ReferenceDhProjIdeal.nD Cert.ReferenceDhProjIdeal.τ).loc Cert.ReferenceDhProjIdeal.main_arg0) = m' ((c.tc : Thread Cert.ReferenceDhProjIdeal.nD Cert.ReferenceDhProjIdeal.τ).loc Cert.ReferenceDhProjIdeal.main_arg0)
          ∧ r.2.mem ((c.tc : Thread Cert.ReferenceDhProjIdeal.nD Cert.ReferenceDhProjIdeal.τ).loc Cert.ReferenceDhProjIdeal.main_arg1) = m' ((c.tc : Thread Cert.ReferenceDhProjIdeal.nD Cert.ReferenceDhProjIdeal.τ).loc Cert.ReferenceDhProjIdeal.main_arg1))

def preserves_KernelDo_KernelDoIdeal : Prop :=
  True

def algebraic_KernelDoIdeal_ReferenceDoIdeal [hKernelDoIdeal : Cert.KernelDoIdeal.Facts] [hReferenceDoIdeal : Cert.ReferenceDoIdeal.Facts] : Prop :=
  ∀ (m : (ℓ : Loc Cert.KernelDoIdeal.nD Cert.KernelDoIdeal.τ Cert.KernelDoIdeal.sig) → Buf (Elt Ideal) ℓ) (g : Dev Cert.KernelDoIdeal.nD → PrngReg)
    (m' : (ℓ : Loc Cert.ReferenceDoIdeal.nD Cert.ReferenceDoIdeal.τ Cert.ReferenceDoIdeal.sig) → Buf (Elt Ideal) ℓ) (g' : Dev Cert.ReferenceDoIdeal.nD → PrngReg), Pre_KernelDoIdeal m →
    (∀ c : Dev Cert.KernelDoIdeal.nD,
      m' ((c.tc : Thread Cert.ReferenceDoIdeal.nD Cert.ReferenceDoIdeal.τ).loc Cert.ReferenceDoIdeal.main_arg0) = m ((c.tc : Thread Cert.KernelDoIdeal.nD Cert.KernelDoIdeal.τ).loc Cert.KernelDoIdeal.main_arg0)
      ∧ m' ((c.tc : Thread Cert.ReferenceDoIdeal.nD Cert.ReferenceDoIdeal.τ).loc Cert.ReferenceDoIdeal.main_arg1) = m ((c.tc : Thread Cert.KernelDoIdeal.nD Cert.KernelDoIdeal.τ).loc Cert.KernelDoIdeal.main_arg1)) →
    ∃ (v0 : (c : Dev Cert.KernelDoIdeal.nD) → Buf (Elt Ideal) ((c.tc : Thread Cert.KernelDoIdeal.nD Cert.KernelDoIdeal.τ).loc Cert.KernelDoIdeal.main_v0)),
      θ_run (Cert.KernelDoIdeal.defs (F := Ideal)) (onTc (τ := Cert.KernelDoIdeal.τ) (Cert.KernelDoIdeal.main (F := Ideal))) ⟨m, fun _ => 0, g⟩ (fun r => ∀ c : Dev Cert.KernelDoIdeal.nD,
          r.2.mem ((c.tc : Thread Cert.KernelDoIdeal.nD Cert.KernelDoIdeal.τ).loc Cert.KernelDoIdeal.main_v0) = v0 c
          ∧ r.2.mem ((c.tc : Thread Cert.KernelDoIdeal.nD Cert.KernelDoIdeal.τ).loc Cert.KernelDoIdeal.main_arg0) = m ((c.tc : Thread Cert.KernelDoIdeal.nD Cert.KernelDoIdeal.τ).loc Cert.KernelDoIdeal.main_arg0)
          ∧ r.2.mem ((c.tc : Thread Cert.KernelDoIdeal.nD Cert.KernelDoIdeal.τ).loc Cert.KernelDoIdeal.main_arg1) = m ((c.tc : Thread Cert.KernelDoIdeal.nD Cert.KernelDoIdeal.τ).loc Cert.KernelDoIdeal.main_arg1))
      ∧ θ_run (Cert.ReferenceDoIdeal.defs (F := Ideal)) (onTc (τ := Cert.ReferenceDoIdeal.τ) (Cert.ReferenceDoIdeal.main (F := Ideal))) ⟨m', fun _ => 0, g'⟩ (fun r => ∀ c : Dev Cert.ReferenceDoIdeal.nD,
          r.2.mem ((c.tc : Thread Cert.ReferenceDoIdeal.nD Cert.ReferenceDoIdeal.τ).loc Cert.ReferenceDoIdeal.main_v5) = v0 c
          ∧ r.2.mem ((c.tc : Thread Cert.ReferenceDoIdeal.nD Cert.ReferenceDoIdeal.τ).loc Cert.ReferenceDoIdeal.main_arg0) = m' ((c.tc : Thread Cert.ReferenceDoIdeal.nD Cert.ReferenceDoIdeal.τ).loc Cert.ReferenceDoIdeal.main_arg0)
          ∧ r.2.mem ((c.tc : Thread Cert.ReferenceDoIdeal.nD Cert.ReferenceDoIdeal.τ).loc Cert.ReferenceDoIdeal.main_arg1) = m' ((c.tc : Thread Cert.ReferenceDoIdeal.nD Cert.ReferenceDoIdeal.τ).loc Cert.ReferenceDoIdeal.main_arg1))

def preserves_KernelDhAdd_KernelDhAddIdeal : Prop :=
  True

def algebraic_KernelDhAddIdeal_ReferenceDhAddIdeal [hKernelDhAddIdeal : Cert.KernelDhAddIdeal.Facts] [hReferenceDhAddIdeal : Cert.ReferenceDhAddIdeal.Facts] : Prop :=
  ∀ (m : (ℓ : Loc Cert.KernelDhAddIdeal.nD Cert.KernelDhAddIdeal.τ Cert.KernelDhAddIdeal.sig) → Buf (Elt Ideal) ℓ) (g : Dev Cert.KernelDhAddIdeal.nD → PrngReg)
    (m' : (ℓ : Loc Cert.ReferenceDhAddIdeal.nD Cert.ReferenceDhAddIdeal.τ Cert.ReferenceDhAddIdeal.sig) → Buf (Elt Ideal) ℓ) (g' : Dev Cert.ReferenceDhAddIdeal.nD → PrngReg), Pre_KernelDhAddIdeal m →
    (∀ c : Dev Cert.KernelDhAddIdeal.nD,
      m' ((c.tc : Thread Cert.ReferenceDhAddIdeal.nD Cert.ReferenceDhAddIdeal.τ).loc Cert.ReferenceDhAddIdeal.main_arg0) = m ((c.tc : Thread Cert.KernelDhAddIdeal.nD Cert.KernelDhAddIdeal.τ).loc Cert.KernelDhAddIdeal.main_arg0)
      ∧ m' ((c.tc : Thread Cert.ReferenceDhAddIdeal.nD Cert.ReferenceDhAddIdeal.τ).loc Cert.ReferenceDhAddIdeal.main_arg1) = m ((c.tc : Thread Cert.KernelDhAddIdeal.nD Cert.KernelDhAddIdeal.τ).loc Cert.KernelDhAddIdeal.main_arg1)
      ∧ m' ((c.tc : Thread Cert.ReferenceDhAddIdeal.nD Cert.ReferenceDhAddIdeal.τ).loc Cert.ReferenceDhAddIdeal.main_arg2) = m ((c.tc : Thread Cert.KernelDhAddIdeal.nD Cert.KernelDhAddIdeal.τ).loc Cert.KernelDhAddIdeal.main_arg2)) →
    ∃ (v0 : (c : Dev Cert.KernelDhAddIdeal.nD) → Buf (Elt Ideal) ((c.tc : Thread Cert.KernelDhAddIdeal.nD Cert.KernelDhAddIdeal.τ).loc Cert.KernelDhAddIdeal.main_v0)),
      θ_run (Cert.KernelDhAddIdeal.defs (F := Ideal)) (onTc (τ := Cert.KernelDhAddIdeal.τ) (Cert.KernelDhAddIdeal.main (F := Ideal))) ⟨m, fun _ => 0, g⟩ (fun r => ∀ c : Dev Cert.KernelDhAddIdeal.nD,
          r.2.mem ((c.tc : Thread Cert.KernelDhAddIdeal.nD Cert.KernelDhAddIdeal.τ).loc Cert.KernelDhAddIdeal.main_v0) = v0 c
          ∧ r.2.mem ((c.tc : Thread Cert.KernelDhAddIdeal.nD Cert.KernelDhAddIdeal.τ).loc Cert.KernelDhAddIdeal.main_arg0) = m ((c.tc : Thread Cert.KernelDhAddIdeal.nD Cert.KernelDhAddIdeal.τ).loc Cert.KernelDhAddIdeal.main_arg0)
          ∧ r.2.mem ((c.tc : Thread Cert.KernelDhAddIdeal.nD Cert.KernelDhAddIdeal.τ).loc Cert.KernelDhAddIdeal.main_arg1) = m ((c.tc : Thread Cert.KernelDhAddIdeal.nD Cert.KernelDhAddIdeal.τ).loc Cert.KernelDhAddIdeal.main_arg1)
          ∧ r.2.mem ((c.tc : Thread Cert.KernelDhAddIdeal.nD Cert.KernelDhAddIdeal.τ).loc Cert.KernelDhAddIdeal.main_arg2) = m ((c.tc : Thread Cert.KernelDhAddIdeal.nD Cert.KernelDhAddIdeal.τ).loc Cert.KernelDhAddIdeal.main_arg2))
      ∧ θ_run (Cert.ReferenceDhAddIdeal.defs (F := Ideal)) (onTc (τ := Cert.ReferenceDhAddIdeal.τ) (Cert.ReferenceDhAddIdeal.main (F := Ideal))) ⟨m', fun _ => 0, g'⟩ (fun r => ∀ c : Dev Cert.ReferenceDhAddIdeal.nD,
          r.2.mem ((c.tc : Thread Cert.ReferenceDhAddIdeal.nD Cert.ReferenceDhAddIdeal.τ).loc Cert.ReferenceDhAddIdeal.main_v5) = v0 c
          ∧ r.2.mem ((c.tc : Thread Cert.ReferenceDhAddIdeal.nD Cert.ReferenceDhAddIdeal.τ).loc Cert.ReferenceDhAddIdeal.main_arg0) = m' ((c.tc : Thread Cert.ReferenceDhAddIdeal.nD Cert.ReferenceDhAddIdeal.τ).loc Cert.ReferenceDhAddIdeal.main_arg0)
          ∧ r.2.mem ((c.tc : Thread Cert.ReferenceDhAddIdeal.nD Cert.ReferenceDhAddIdeal.τ).loc Cert.ReferenceDhAddIdeal.main_arg1) = m' ((c.tc : Thread Cert.ReferenceDhAddIdeal.nD Cert.ReferenceDhAddIdeal.τ).loc Cert.ReferenceDhAddIdeal.main_arg1)
          ∧ r.2.mem ((c.tc : Thread Cert.ReferenceDhAddIdeal.nD Cert.ReferenceDhAddIdeal.τ).loc Cert.ReferenceDhAddIdeal.main_arg2) = m' ((c.tc : Thread Cert.ReferenceDhAddIdeal.nD Cert.ReferenceDhAddIdeal.τ).loc Cert.ReferenceDhAddIdeal.main_arg2))

def preserves_KernelDyg_KernelDygIdeal : Prop :=
  True

def algebraic_KernelDygIdeal_ReferenceDygIdeal [hKernelDygIdeal : Cert.KernelDygIdeal.Facts] [hReferenceDygIdeal : Cert.ReferenceDygIdeal.Facts] : Prop :=
  ∀ (m : (ℓ : Loc Cert.KernelDygIdeal.nD Cert.KernelDygIdeal.τ Cert.KernelDygIdeal.sig) → Buf (Elt Ideal) ℓ) (g : Dev Cert.KernelDygIdeal.nD → PrngReg)
    (m' : (ℓ : Loc Cert.ReferenceDygIdeal.nD Cert.ReferenceDygIdeal.τ Cert.ReferenceDygIdeal.sig) → Buf (Elt Ideal) ℓ) (g' : Dev Cert.ReferenceDygIdeal.nD → PrngReg), Pre_KernelDygIdeal m →
    (∀ c : Dev Cert.KernelDygIdeal.nD,
      m' ((c.tc : Thread Cert.ReferenceDygIdeal.nD Cert.ReferenceDygIdeal.τ).loc Cert.ReferenceDygIdeal.main_arg0) = m ((c.tc : Thread Cert.KernelDygIdeal.nD Cert.KernelDygIdeal.τ).loc Cert.KernelDygIdeal.main_arg0)
      ∧ m' ((c.tc : Thread Cert.ReferenceDygIdeal.nD Cert.ReferenceDygIdeal.τ).loc Cert.ReferenceDygIdeal.main_arg1) = m ((c.tc : Thread Cert.KernelDygIdeal.nD Cert.KernelDygIdeal.τ).loc Cert.KernelDygIdeal.main_arg1)) →
    ∃ (v0 : (c : Dev Cert.KernelDygIdeal.nD) → Buf (Elt Ideal) ((c.tc : Thread Cert.KernelDygIdeal.nD Cert.KernelDygIdeal.τ).loc Cert.KernelDygIdeal.main_v0)),
      θ_run (Cert.KernelDygIdeal.defs (F := Ideal)) (onTc (τ := Cert.KernelDygIdeal.τ) (Cert.KernelDygIdeal.main (F := Ideal))) ⟨m, fun _ => 0, g⟩ (fun r => ∀ c : Dev Cert.KernelDygIdeal.nD,
          r.2.mem ((c.tc : Thread Cert.KernelDygIdeal.nD Cert.KernelDygIdeal.τ).loc Cert.KernelDygIdeal.main_v0) = v0 c
          ∧ r.2.mem ((c.tc : Thread Cert.KernelDygIdeal.nD Cert.KernelDygIdeal.τ).loc Cert.KernelDygIdeal.main_arg0) = m ((c.tc : Thread Cert.KernelDygIdeal.nD Cert.KernelDygIdeal.τ).loc Cert.KernelDygIdeal.main_arg0)
          ∧ r.2.mem ((c.tc : Thread Cert.KernelDygIdeal.nD Cert.KernelDygIdeal.τ).loc Cert.KernelDygIdeal.main_arg1) = m ((c.tc : Thread Cert.KernelDygIdeal.nD Cert.KernelDygIdeal.τ).loc Cert.KernelDygIdeal.main_arg1))
      ∧ θ_run (Cert.ReferenceDygIdeal.defs (F := Ideal)) (onTc (τ := Cert.ReferenceDygIdeal.τ) (Cert.ReferenceDygIdeal.main (F := Ideal))) ⟨m', fun _ => 0, g'⟩ (fun r => ∀ c : Dev Cert.ReferenceDygIdeal.nD,
          r.2.mem ((c.tc : Thread Cert.ReferenceDygIdeal.nD Cert.ReferenceDygIdeal.τ).loc Cert.ReferenceDygIdeal.main_v5) = v0 c
          ∧ r.2.mem ((c.tc : Thread Cert.ReferenceDygIdeal.nD Cert.ReferenceDygIdeal.τ).loc Cert.ReferenceDygIdeal.main_arg0) = m' ((c.tc : Thread Cert.ReferenceDygIdeal.nD Cert.ReferenceDygIdeal.τ).loc Cert.ReferenceDygIdeal.main_arg0)
          ∧ r.2.mem ((c.tc : Thread Cert.ReferenceDygIdeal.nD Cert.ReferenceDygIdeal.τ).loc Cert.ReferenceDygIdeal.main_arg1) = m' ((c.tc : Thread Cert.ReferenceDygIdeal.nD Cert.ReferenceDygIdeal.τ).loc Cert.ReferenceDygIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v3) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v0)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v0) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v2) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelNormBwd_KernelNormBwdIdeal : Prop :=
  True

def algebraic_KernelNormBwdIdeal_ReferenceNormBwdIdeal [hKernelNormBwdIdeal : Cert.KernelNormBwdIdeal.Facts] [hReferenceNormBwdIdeal : Cert.ReferenceNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg)
    (m' : (ℓ : Loc Cert.ReferenceNormBwdIdeal.nD Cert.ReferenceNormBwdIdeal.τ Cert.ReferenceNormBwdIdeal.sig) → Buf (Elt Ideal) ℓ) (g' : Dev Cert.ReferenceNormBwdIdeal.nD → PrngReg), Pre_KernelNormBwdIdeal m →
    (∀ c : Dev Cert.KernelNormBwdIdeal.nD,
      m' ((c.tc : Thread Cert.ReferenceNormBwdIdeal.nD Cert.ReferenceNormBwdIdeal.τ).loc Cert.ReferenceNormBwdIdeal.main_arg0) = m ((c.tc : Thread Cert.KernelNormBwdIdeal.nD Cert.KernelNormBwdIdeal.τ).loc Cert.KernelNormBwdIdeal.main_arg0)
      ∧ m' ((c.tc : Thread Cert.ReferenceNormBwdIdeal.nD Cert.ReferenceNormBwdIdeal.τ).loc Cert.ReferenceNormBwdIdeal.main_arg1) = m ((c.tc : Thread Cert.KernelNormBwdIdeal.nD Cert.KernelNormBwdIdeal.τ).loc Cert.KernelNormBwdIdeal.main_arg1)
      ∧ m' ((c.tc : Thread Cert.ReferenceNormBwdIdeal.nD Cert.ReferenceNormBwdIdeal.τ).loc Cert.ReferenceNormBwdIdeal.main_arg2) = m ((c.tc : Thread Cert.KernelNormBwdIdeal.nD Cert.KernelNormBwdIdeal.τ).loc Cert.KernelNormBwdIdeal.main_arg2)
      ∧ m' ((c.tc : Thread Cert.ReferenceNormBwdIdeal.nD Cert.ReferenceNormBwdIdeal.τ).loc Cert.ReferenceNormBwdIdeal.main_arg3) = m ((c.tc : Thread Cert.KernelNormBwdIdeal.nD Cert.KernelNormBwdIdeal.τ).loc Cert.KernelNormBwdIdeal.main_arg3)) →
    ∃ (v0 : (c : Dev Cert.KernelNormBwdIdeal.nD) → Buf (Elt Ideal) ((c.tc : Thread Cert.KernelNormBwdIdeal.nD Cert.KernelNormBwdIdeal.τ).loc Cert.KernelNormBwdIdeal.main_v0_0)) (v1 : (c : Dev Cert.KernelNormBwdIdeal.nD) → Buf (Elt Ideal) ((c.tc : Thread Cert.KernelNormBwdIdeal.nD Cert.KernelNormBwdIdeal.τ).loc Cert.KernelNormBwdIdeal.main_v0_1)) (v2 : (c : Dev Cert.KernelNormBwdIdeal.nD) → Buf (Elt Ideal) ((c.tc : Thread Cert.KernelNormBwdIdeal.nD Cert.KernelNormBwdIdeal.τ).loc Cert.KernelNormBwdIdeal.main_v0_2)),
      θ_run (Cert.KernelNormBwdIdeal.defs (F := Ideal)) (onTc (τ := Cert.KernelNormBwdIdeal.τ) (Cert.KernelNormBwdIdeal.main (F := Ideal))) ⟨m, fun _ => 0, g⟩ (fun r => ∀ c : Dev Cert.KernelNormBwdIdeal.nD,
          r.2.mem ((c.tc : Thread Cert.KernelNormBwdIdeal.nD Cert.KernelNormBwdIdeal.τ).loc Cert.KernelNormBwdIdeal.main_v0_0) = v0 c
          ∧ r.2.mem ((c.tc : Thread Cert.KernelNormBwdIdeal.nD Cert.KernelNormBwdIdeal.τ).loc Cert.KernelNormBwdIdeal.main_v0_1) = v1 c
          ∧ r.2.mem ((c.tc : Thread Cert.KernelNormBwdIdeal.nD Cert.KernelNormBwdIdeal.τ).loc Cert.KernelNormBwdIdeal.main_v0_2) = v2 c
          ∧ r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
          ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
          ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
          ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ θ_run (Cert.ReferenceNormBwdIdeal.defs (F := Ideal)) (onTc (τ := Cert.ReferenceNormBwdIdeal.τ) (Cert.ReferenceNormBwdIdeal.main (F := Ideal))) ⟨m', fun _ => 0, g'⟩ (fun r => ∀ c : Dev Cert.ReferenceNormBwdIdeal.nD,
          r.2.mem ((c.tc : Thread Cert.ReferenceNormBwdIdeal.nD Cert.ReferenceNormBwdIdeal.τ).loc Cert.ReferenceNormBwdIdeal.main_v34) = v0 c
          ∧ r.2.mem ((c.tc : Thread Cert.ReferenceNormBwdIdeal.nD Cert.ReferenceNormBwdIdeal.τ).loc Cert.ReferenceNormBwdIdeal.main_v35) = v1 c
          ∧ r.2.mem ((c.tc : Thread Cert.ReferenceNormBwdIdeal.nD Cert.ReferenceNormBwdIdeal.τ).loc Cert.ReferenceNormBwdIdeal.main_v17) = v2 c
          ∧ r.2.mem ((c.tc : Thread Cert.ReferenceNormBwdIdeal.nD Cert.ReferenceNormBwdIdeal.τ).loc Cert.ReferenceNormBwdIdeal.main_arg0) = m' ((c.tc : Thread Cert.ReferenceNormBwdIdeal.nD Cert.ReferenceNormBwdIdeal.τ).loc Cert.ReferenceNormBwdIdeal.main_arg0)
          ∧ r.2.mem ((c.tc : Thread Cert.ReferenceNormBwdIdeal.nD Cert.ReferenceNormBwdIdeal.τ).loc Cert.ReferenceNormBwdIdeal.main_arg1) = m' ((c.tc : Thread Cert.ReferenceNormBwdIdeal.nD Cert.ReferenceNormBwdIdeal.τ).loc Cert.ReferenceNormBwdIdeal.main_arg1)
          ∧ r.2.mem ((c.tc : Thread Cert.ReferenceNormBwdIdeal.nD Cert.ReferenceNormBwdIdeal.τ).loc Cert.ReferenceNormBwdIdeal.main_arg2) = m' ((c.tc : Thread Cert.ReferenceNormBwdIdeal.nD Cert.ReferenceNormBwdIdeal.τ).loc Cert.ReferenceNormBwdIdeal.main_arg2)
          ∧ r.2.mem ((c.tc : Thread Cert.ReferenceNormBwdIdeal.nD Cert.ReferenceNormBwdIdeal.τ).loc Cert.ReferenceNormBwdIdeal.main_arg3) = m' ((c.tc : Thread Cert.ReferenceNormBwdIdeal.nD Cert.ReferenceNormBwdIdeal.τ).loc Cert.ReferenceNormBwdIdeal.main_arg3))

def preserves_KernelGluBwd_KernelGluBwdIdeal : Prop :=
  True

def algebraic_KernelGluBwdIdeal_ReferenceGluBwdIdeal [hKernelGluBwdIdeal : Cert.KernelGluBwdIdeal.Facts] [hReferenceGluBwdIdeal : Cert.ReferenceGluBwdIdeal.Facts] : Prop :=
  ∀ (m : (ℓ : Loc Cert.KernelGluBwdIdeal.nD Cert.KernelGluBwdIdeal.τ Cert.KernelGluBwdIdeal.sig) → Buf (Elt Ideal) ℓ) (g : Dev Cert.KernelGluBwdIdeal.nD → PrngReg)
    (m' : (ℓ : Loc Cert.ReferenceGluBwdIdeal.nD Cert.ReferenceGluBwdIdeal.τ Cert.ReferenceGluBwdIdeal.sig) → Buf (Elt Ideal) ℓ) (g' : Dev Cert.ReferenceGluBwdIdeal.nD → PrngReg), Pre_KernelGluBwdIdeal m →
    (∀ c : Dev Cert.KernelGluBwdIdeal.nD,
      m' ((c.tc : Thread Cert.ReferenceGluBwdIdeal.nD Cert.ReferenceGluBwdIdeal.τ).loc Cert.ReferenceGluBwdIdeal.main_arg0) = m ((c.tc : Thread Cert.KernelGluBwdIdeal.nD Cert.KernelGluBwdIdeal.τ).loc Cert.KernelGluBwdIdeal.main_arg0)
      ∧ m' ((c.tc : Thread Cert.ReferenceGluBwdIdeal.nD Cert.ReferenceGluBwdIdeal.τ).loc Cert.ReferenceGluBwdIdeal.main_arg1) = m ((c.tc : Thread Cert.KernelGluBwdIdeal.nD Cert.KernelGluBwdIdeal.τ).loc Cert.KernelGluBwdIdeal.main_arg1)) →
    ∃ (v0 : (c : Dev Cert.KernelGluBwdIdeal.nD) → Buf (Elt Ideal) ((c.tc : Thread Cert.KernelGluBwdIdeal.nD Cert.KernelGluBwdIdeal.τ).loc Cert.KernelGluBwdIdeal.main_v0)),
      θ_run (Cert.KernelGluBwdIdeal.defs (F := Ideal)) (onTc (τ := Cert.KernelGluBwdIdeal.τ) (Cert.KernelGluBwdIdeal.main (F := Ideal))) ⟨m, fun _ => 0, g⟩ (fun r => ∀ c : Dev Cert.KernelGluBwdIdeal.nD,
          r.2.mem ((c.tc : Thread Cert.KernelGluBwdIdeal.nD Cert.KernelGluBwdIdeal.τ).loc Cert.KernelGluBwdIdeal.main_v0) = v0 c
          ∧ r.2.mem ((c.tc : Thread Cert.KernelGluBwdIdeal.nD Cert.KernelGluBwdIdeal.τ).loc Cert.KernelGluBwdIdeal.main_arg0) = m ((c.tc : Thread Cert.KernelGluBwdIdeal.nD Cert.KernelGluBwdIdeal.τ).loc Cert.KernelGluBwdIdeal.main_arg0)
          ∧ r.2.mem ((c.tc : Thread Cert.KernelGluBwdIdeal.nD Cert.KernelGluBwdIdeal.τ).loc Cert.KernelGluBwdIdeal.main_arg1) = m ((c.tc : Thread Cert.KernelGluBwdIdeal.nD Cert.KernelGluBwdIdeal.τ).loc Cert.KernelGluBwdIdeal.main_arg1))
      ∧ θ_run (Cert.ReferenceGluBwdIdeal.defs (F := Ideal)) (onTc (τ := Cert.ReferenceGluBwdIdeal.τ) (Cert.ReferenceGluBwdIdeal.main (F := Ideal))) ⟨m', fun _ => 0, g'⟩ (fun r => ∀ c : Dev Cert.ReferenceGluBwdIdeal.nD,
          r.2.mem ((c.tc : Thread Cert.ReferenceGluBwdIdeal.nD Cert.ReferenceGluBwdIdeal.τ).loc Cert.ReferenceGluBwdIdeal.main_v16) = v0 c
          ∧ r.2.mem ((c.tc : Thread Cert.ReferenceGluBwdIdeal.nD Cert.ReferenceGluBwdIdeal.τ).loc Cert.ReferenceGluBwdIdeal.main_arg0) = m' ((c.tc : Thread Cert.ReferenceGluBwdIdeal.nD Cert.ReferenceGluBwdIdeal.τ).loc Cert.ReferenceGluBwdIdeal.main_arg0)
          ∧ r.2.mem ((c.tc : Thread Cert.ReferenceGluBwdIdeal.nD Cert.ReferenceGluBwdIdeal.τ).loc Cert.ReferenceGluBwdIdeal.main_arg1) = m' ((c.tc : Thread Cert.ReferenceGluBwdIdeal.nD Cert.ReferenceGluBwdIdeal.τ).loc Cert.ReferenceGluBwdIdeal.main_arg1))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v48) = v0 c
          ∧ r.2.mem ((c.tc : Thread Cert.ReferenceLossIdeal.nD Cert.ReferenceLossIdeal.τ).loc Cert.ReferenceLossIdeal.main_v49) = v1 c
          ∧ r.2.mem ((c.tc : Thread Cert.ReferenceLossIdeal.nD Cert.ReferenceLossIdeal.τ).loc Cert.ReferenceLossIdeal.main_v32) = v2 c
          ∧ r.2.mem ((c.tc : Thread Cert.ReferenceLossIdeal.nD Cert.ReferenceLossIdeal.τ).loc Cert.ReferenceLossIdeal.main_v65) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v0)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelGluFwd_KernelGluFwdIdeal : Prop :=
  True

def algebraic_KernelGluFwdIdeal_ReferenceGluFwdIdeal [hKernelGluFwdIdeal : Cert.KernelGluFwdIdeal.Facts] [hReferenceGluFwdIdeal : Cert.ReferenceGluFwdIdeal.Facts] : Prop :=
  ∀ (m : (ℓ : Loc Cert.KernelGluFwdIdeal.nD Cert.KernelGluFwdIdeal.τ Cert.KernelGluFwdIdeal.sig) → Buf (Elt Ideal) ℓ) (g : Dev Cert.KernelGluFwdIdeal.nD → PrngReg)
    (m' : (ℓ : Loc Cert.ReferenceGluFwdIdeal.nD Cert.ReferenceGluFwdIdeal.τ Cert.ReferenceGluFwdIdeal.sig) → Buf (Elt Ideal) ℓ) (g' : Dev Cert.ReferenceGluFwdIdeal.nD → PrngReg), Pre_KernelGluFwdIdeal m →
    (∀ c : Dev Cert.KernelGluFwdIdeal.nD,
      m' ((c.tc : Thread Cert.ReferenceGluFwdIdeal.nD Cert.ReferenceGluFwdIdeal.τ).loc Cert.ReferenceGluFwdIdeal.main_arg0) = m ((c.tc : Thread Cert.KernelGluFwdIdeal.nD Cert.KernelGluFwdIdeal.τ).loc Cert.KernelGluFwdIdeal.main_arg0)
      ∧ m' ((c.tc : Thread Cert.ReferenceGluFwdIdeal.nD Cert.ReferenceGluFwdIdeal.τ).loc Cert.ReferenceGluFwdIdeal.main_arg1) = m ((c.tc : Thread Cert.KernelGluFwdIdeal.nD Cert.KernelGluFwdIdeal.τ).loc Cert.KernelGluFwdIdeal.main_arg1)) →
    ∃ (v0 : (c : Dev Cert.KernelGluFwdIdeal.nD) → Buf (Elt Ideal) ((c.tc : Thread Cert.KernelGluFwdIdeal.nD Cert.KernelGluFwdIdeal.τ).loc Cert.KernelGluFwdIdeal.main_v0)),
      θ_run (Cert.KernelGluFwdIdeal.defs (F := Ideal)) (onTc (τ := Cert.KernelGluFwdIdeal.τ) (Cert.KernelGluFwdIdeal.main (F := Ideal))) ⟨m, fun _ => 0, g⟩ (fun r => ∀ c : Dev Cert.KernelGluFwdIdeal.nD,
          r.2.mem ((c.tc : Thread Cert.KernelGluFwdIdeal.nD Cert.KernelGluFwdIdeal.τ).loc Cert.KernelGluFwdIdeal.main_v0) = v0 c
          ∧ r.2.mem ((c.tc : Thread Cert.KernelGluFwdIdeal.nD Cert.KernelGluFwdIdeal.τ).loc Cert.KernelGluFwdIdeal.main_arg0) = m ((c.tc : Thread Cert.KernelGluFwdIdeal.nD Cert.KernelGluFwdIdeal.τ).loc Cert.KernelGluFwdIdeal.main_arg0)
          ∧ r.2.mem ((c.tc : Thread Cert.KernelGluFwdIdeal.nD Cert.KernelGluFwdIdeal.τ).loc Cert.KernelGluFwdIdeal.main_arg1) = m ((c.tc : Thread Cert.KernelGluFwdIdeal.nD Cert.KernelGluFwdIdeal.τ).loc Cert.KernelGluFwdIdeal.main_arg1))
      ∧ θ_run (Cert.ReferenceGluFwdIdeal.defs (F := Ideal)) (onTc (τ := Cert.ReferenceGluFwdIdeal.τ) (Cert.ReferenceGluFwdIdeal.main (F := Ideal))) ⟨m', fun _ => 0, g'⟩ (fun r => ∀ c : Dev Cert.ReferenceGluFwdIdeal.nD,
          r.2.mem ((c.tc : Thread Cert.ReferenceGluFwdIdeal.nD Cert.ReferenceGluFwdIdeal.τ).loc Cert.ReferenceGluFwdIdeal.main_v9) = v0 c
          ∧ r.2.mem ((c.tc : Thread Cert.ReferenceGluFwdIdeal.nD Cert.ReferenceGluFwdIdeal.τ).loc Cert.ReferenceGluFwdIdeal.main_arg0) = m' ((c.tc : Thread Cert.ReferenceGluFwdIdeal.nD Cert.ReferenceGluFwdIdeal.τ).loc Cert.ReferenceGluFwdIdeal.main_arg0)
          ∧ r.2.mem ((c.tc : Thread Cert.ReferenceGluFwdIdeal.nD Cert.ReferenceGluFwdIdeal.τ).loc Cert.ReferenceGluFwdIdeal.main_arg1) = m' ((c.tc : Thread Cert.ReferenceGluFwdIdeal.nD Cert.ReferenceGluFwdIdeal.τ).loc Cert.ReferenceGluFwdIdeal.main_arg1))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v0)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v43) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def Claim : Prop :=
  ∃ (hKernel : Cert.Kernel.Facts) (hKernelIdeal : Cert.KernelIdeal.Facts) (hReferenceIdeal : Cert.ReferenceIdeal.Facts) (hKernelDwUp : Cert.KernelDwUp.Facts) (hKernelDwUpIdeal : Cert.KernelDwUpIdeal.Facts) (hReferenceDwUpIdeal : Cert.ReferenceDwUpIdeal.Facts) (hKernelDh : Cert.KernelDh.Facts) (hKernelDhIdeal : Cert.KernelDhIdeal.Facts) (hReferenceDhIdeal : Cert.ReferenceDhIdeal.Facts) (hKernelDwDown : Cert.KernelDwDown.Facts) (hKernelDwDownIdeal : Cert.KernelDwDownIdeal.Facts) (hReferenceDwDownIdeal : Cert.ReferenceDwDownIdeal.Facts) (hKernelDa : Cert.KernelDa.Facts) (hKernelDaIdeal : Cert.KernelDaIdeal.Facts) (hReferenceDaIdeal : Cert.ReferenceDaIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelDwProj : Cert.KernelDwProj.Facts) (hKernelDwProjIdeal : Cert.KernelDwProjIdeal.Facts) (hReferenceDwProjIdeal : Cert.ReferenceDwProjIdeal.Facts) (hKernelDwGlu : Cert.KernelDwGlu.Facts) (hKernelDwGluIdeal : Cert.KernelDwGluIdeal.Facts) (hReferenceDwGluIdeal : Cert.ReferenceDwGluIdeal.Facts) (hKernelDhProj : Cert.KernelDhProj.Facts) (hKernelDhProjIdeal : Cert.KernelDhProjIdeal.Facts) (hReferenceDhProjIdeal : Cert.ReferenceDhProjIdeal.Facts) (hKernelDo : Cert.KernelDo.Facts) (hKernelDoIdeal : Cert.KernelDoIdeal.Facts) (hReferenceDoIdeal : Cert.ReferenceDoIdeal.Facts) (hKernelDhAdd : Cert.KernelDhAdd.Facts) (hKernelDhAddIdeal : Cert.KernelDhAddIdeal.Facts) (hReferenceDhAddIdeal : Cert.ReferenceDhAddIdeal.Facts) (hKernelDyg : Cert.KernelDyg.Facts) (hKernelDygIdeal : Cert.KernelDygIdeal.Facts) (hReferenceDygIdeal : Cert.ReferenceDygIdeal.Facts) (hKernelProj : Cert.KernelProj.Facts) (hKernelProjIdeal : Cert.KernelProjIdeal.Facts) (hReferenceProjIdeal : Cert.ReferenceProjIdeal.Facts) (hKernelOut : Cert.KernelOut.Facts) (hKernelOutIdeal : Cert.KernelOutIdeal.Facts) (hReferenceOutIdeal : Cert.ReferenceOutIdeal.Facts) (hKernelGlu : Cert.KernelGlu.Facts) (hKernelGluIdeal : Cert.KernelGluIdeal.Facts) (hReferenceGluIdeal : Cert.ReferenceGluIdeal.Facts) (hKernelNormBwd : Cert.KernelNormBwd.Facts) (hKernelNormBwdIdeal : Cert.KernelNormBwdIdeal.Facts) (hReferenceNormBwdIdeal : Cert.ReferenceNormBwdIdeal.Facts) (hKernelGluBwd : Cert.KernelGluBwd.Facts) (hKernelGluBwdIdeal : Cert.KernelGluBwdIdeal.Facts) (hReferenceGluBwdIdeal : Cert.ReferenceGluBwdIdeal.Facts) (hKernelLoss : Cert.KernelLoss.Facts) (hKernelLossIdeal : Cert.KernelLossIdeal.Facts) (hReferenceLossIdeal : Cert.ReferenceLossIdeal.Facts) (hKernelNorm : Cert.KernelNorm.Facts) (hKernelNormIdeal : Cert.KernelNormIdeal.Facts) (hReferenceNormIdeal : Cert.ReferenceNormIdeal.Facts) (hKernelGluFwd : Cert.KernelGluFwd.Facts) (hKernelGluFwdIdeal : Cert.KernelGluFwdIdeal.Facts) (hReferenceGluFwdIdeal : Cert.ReferenceGluFwdIdeal.Facts) (hKernelConv : Cert.KernelConv.Facts) (hKernelConvIdeal : Cert.KernelConvIdeal.Facts) (hReferenceConvIdeal : Cert.ReferenceConvIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDa (hKernelDa := hKernelDa)
    ∧ quiescent_KernelDaIdeal (hKernelDaIdeal := hKernelDaIdeal)
    ∧ quiescent_ReferenceDaIdeal (hReferenceDaIdeal := hReferenceDaIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDwProj (hKernelDwProj := hKernelDwProj)
    ∧ quiescent_KernelDwProjIdeal (hKernelDwProjIdeal := hKernelDwProjIdeal)
    ∧ quiescent_ReferenceDwProjIdeal (hReferenceDwProjIdeal := hReferenceDwProjIdeal)
    ∧ quiescent_KernelDwGlu (hKernelDwGlu := hKernelDwGlu)
    ∧ quiescent_KernelDwGluIdeal (hKernelDwGluIdeal := hKernelDwGluIdeal)
    ∧ quiescent_ReferenceDwGluIdeal (hReferenceDwGluIdeal := hReferenceDwGluIdeal)
    ∧ quiescent_KernelDhProj (hKernelDhProj := hKernelDhProj)
    ∧ quiescent_KernelDhProjIdeal (hKernelDhProjIdeal := hKernelDhProjIdeal)
    ∧ quiescent_ReferenceDhProjIdeal (hReferenceDhProjIdeal := hReferenceDhProjIdeal)
    ∧ quiescent_KernelDo (hKernelDo := hKernelDo)
    ∧ quiescent_KernelDoIdeal (hKernelDoIdeal := hKernelDoIdeal)
    ∧ quiescent_ReferenceDoIdeal (hReferenceDoIdeal := hReferenceDoIdeal)
    ∧ quiescent_KernelDhAdd (hKernelDhAdd := hKernelDhAdd)
    ∧ quiescent_KernelDhAddIdeal (hKernelDhAddIdeal := hKernelDhAddIdeal)
    ∧ quiescent_ReferenceDhAddIdeal (hReferenceDhAddIdeal := hReferenceDhAddIdeal)
    ∧ quiescent_KernelDyg (hKernelDyg := hKernelDyg)
    ∧ quiescent_KernelDygIdeal (hKernelDygIdeal := hKernelDygIdeal)
    ∧ quiescent_ReferenceDygIdeal (hReferenceDygIdeal := hReferenceDygIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelNormBwd (hKernelNormBwd := hKernelNormBwd)
    ∧ quiescent_KernelNormBwdIdeal (hKernelNormBwdIdeal := hKernelNormBwdIdeal)
    ∧ quiescent_ReferenceNormBwdIdeal (hReferenceNormBwdIdeal := hReferenceNormBwdIdeal)
    ∧ quiescent_KernelGluBwd (hKernelGluBwd := hKernelGluBwd)
    ∧ quiescent_KernelGluBwdIdeal (hKernelGluBwdIdeal := hKernelGluBwdIdeal)
    ∧ quiescent_ReferenceGluBwdIdeal (hReferenceGluBwdIdeal := hReferenceGluBwdIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelGluFwd (hKernelGluFwd := hKernelGluFwd)
    ∧ quiescent_KernelGluFwdIdeal (hKernelGluFwdIdeal := hKernelGluFwdIdeal)
    ∧ quiescent_ReferenceGluFwdIdeal (hReferenceGluFwdIdeal := hReferenceGluFwdIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelDh_KernelDhIdeal
    ∧ algebraic_KernelDhIdeal_ReferenceDhIdeal (hKernelDhIdeal := hKernelDhIdeal) (hReferenceDhIdeal := hReferenceDhIdeal)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDa_KernelDaIdeal
    ∧ algebraic_KernelDaIdeal_ReferenceDaIdeal (hKernelDaIdeal := hKernelDaIdeal) (hReferenceDaIdeal := hReferenceDaIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelDwProj_KernelDwProjIdeal
    ∧ algebraic_KernelDwProjIdeal_ReferenceDwProjIdeal (hKernelDwProjIdeal := hKernelDwProjIdeal) (hReferenceDwProjIdeal := hReferenceDwProjIdeal)
    ∧ preserves_KernelDwGlu_KernelDwGluIdeal
    ∧ algebraic_KernelDwGluIdeal_ReferenceDwGluIdeal (hKernelDwGluIdeal := hKernelDwGluIdeal) (hReferenceDwGluIdeal := hReferenceDwGluIdeal)
    ∧ preserves_KernelDhProj_KernelDhProjIdeal
    ∧ algebraic_KernelDhProjIdeal_ReferenceDhProjIdeal (hKernelDhProjIdeal := hKernelDhProjIdeal) (hReferenceDhProjIdeal := hReferenceDhProjIdeal)
    ∧ preserves_KernelDo_KernelDoIdeal
    ∧ algebraic_KernelDoIdeal_ReferenceDoIdeal (hKernelDoIdeal := hKernelDoIdeal) (hReferenceDoIdeal := hReferenceDoIdeal)
    ∧ preserves_KernelDhAdd_KernelDhAddIdeal
    ∧ algebraic_KernelDhAddIdeal_ReferenceDhAddIdeal (hKernelDhAddIdeal := hKernelDhAddIdeal) (hReferenceDhAddIdeal := hReferenceDhAddIdeal)
    ∧ preserves_KernelDyg_KernelDygIdeal
    ∧ algebraic_KernelDygIdeal_ReferenceDygIdeal (hKernelDygIdeal := hKernelDygIdeal) (hReferenceDygIdeal := hReferenceDygIdeal)
    ∧ preserves_KernelProj_KernelProjIdeal
    ∧ algebraic_KernelProjIdeal_ReferenceProjIdeal (hKernelProjIdeal := hKernelProjIdeal) (hReferenceProjIdeal := hReferenceProjIdeal)
    ∧ preserves_KernelOut_KernelOutIdeal
    ∧ algebraic_KernelOutIdeal_ReferenceOutIdeal (hKernelOutIdeal := hKernelOutIdeal) (hReferenceOutIdeal := hReferenceOutIdeal)
    ∧ preserves_KernelGlu_KernelGluIdeal
    ∧ algebraic_KernelGluIdeal_ReferenceGluIdeal (hKernelGluIdeal := hKernelGluIdeal) (hReferenceGluIdeal := hReferenceGluIdeal)
    ∧ preserves_KernelNormBwd_KernelNormBwdIdeal
    ∧ algebraic_KernelNormBwdIdeal_ReferenceNormBwdIdeal (hKernelNormBwdIdeal := hKernelNormBwdIdeal) (hReferenceNormBwdIdeal := hReferenceNormBwdIdeal)
    ∧ preserves_KernelGluBwd_KernelGluBwdIdeal
    ∧ algebraic_KernelGluBwdIdeal_ReferenceGluBwdIdeal (hKernelGluBwdIdeal := hKernelGluBwdIdeal) (hReferenceGluBwdIdeal := hReferenceGluBwdIdeal)
    ∧ preserves_KernelLoss_KernelLossIdeal
    ∧ algebraic_KernelLossIdeal_ReferenceLossIdeal (hKernelLossIdeal := hKernelLossIdeal) (hReferenceLossIdeal := hReferenceLossIdeal)
    ∧ preserves_KernelNorm_KernelNormIdeal
    ∧ algebraic_KernelNormIdeal_ReferenceNormIdeal (hKernelNormIdeal := hKernelNormIdeal) (hReferenceNormIdeal := hReferenceNormIdeal)
    ∧ preserves_KernelGluFwd_KernelGluFwdIdeal
    ∧ algebraic_KernelGluFwdIdeal_ReferenceGluFwdIdeal (hKernelGluFwdIdeal := hKernelGluFwdIdeal) (hReferenceGluFwdIdeal := hReferenceGluFwdIdeal)
    ∧ preserves_KernelConv_KernelConvIdeal
    ∧ algebraic_KernelConvIdeal_ReferenceConvIdeal (hKernelConvIdeal := hKernelConvIdeal) (hReferenceConvIdeal := hReferenceConvIdeal)
-- ==== Pre_all_finite.lean ====
abbrev S8192x2048 : Shape := ⟨2, ![8192, 2048]⟩
abbrev S16x8192 : Shape := ⟨2, ![16, 8192]⟩
abbrev S_ : Shape := ⟨0, ![]⟩

class Facts : Prop where
  bcast_S_S8192x2048 : S_.BroadcastsInDim S8192x2048 (![] : Fin 0 → Fin S8192x2048.rank)
  bcast_S_S16x8192 : S_.BroadcastsInDim S16x8192 (![] : Fin 0 → Fin S16x8192.rank)

variable [Facts]

def fn {F : FTy → Type} [FloatOps F] (main_arg0 : FVec F S8192x2048 .bf16) (main_arg1 : FVec F S8192x2048 .bf16) (main_arg2 : FVec F S8192x2048 .bf16) (main_arg3 : FVec F S8192x2048 .bf16) (main_arg4 : FVec F S16x8192 .f32) : IVec S8192x2048 1 × IVec S8192x2048 1 × IVec S8192x2048 1 × IVec S8192x2048 1 × IVec S16x8192 1 :=
  let main_v0 : FVec F S8192x2048 .bf16 := Host.absf main_arg0
  let main_cst : FVec F S_ .bf16 := constant S_ .bf16 0x7F80#16
  let main_v1 : FVec F S8192x2048 .bf16 := broadcastInDim S8192x2048 ![] bcast_S_S8192x2048 main_cst
  let main_v2 : IVec S8192x2048 1 := cmpf .olt main_v0 main_v1
  let main_v3 : FVec F S8192x2048 .bf16 := Host.absf main_arg1
  let main_cst_0 : FVec F S_ .bf16 := constant S_ .bf16 0x7F80#16
  let main_v4 : FVec F S8192x2048 .bf16 := broadcastInDim S8192x2048 ![] bcast_S_S8192x2048 main_cst_0
  let main_v5 : IVec S8192x2048 1 := cmpf .olt main_v3 main_v4
  let main_v6 : FVec F S8192x2048 .bf16 := Host.absf main_arg2
  let main_cst_1 : FVec F S_ .bf16 := constant S_ .bf16 0x7F80#16
  let main_v7 : FVec F S8192x2048 .bf16 := broadcastInDim S8192x2048 ![] bcast_S_S8192x2048 main_cst_1
  let main_v8 : IVec S8192x2048 1 := cmpf .olt main_v6 main_v7
  let main_v9 : FVec F S8192x2048 .bf16 := Host.absf main_arg3
  let main_cst_2 : FVec F S_ .bf16 := constant S_ .bf16 0x7F80#16
  let main_v10 : FVec F S8192x2048 .bf16 := broadcastInDim S8192x2048 ![] bcast_S_S8192x2048 main_cst_2
  let main_v11 : IVec S8192x2048 1 := cmpf .olt main_v9 main_v10
  let main_v12 : FVec F S16x8192 .f32 := Host.absf main_arg4
  let main_cst_3 : FVec F S_ .f32 := constant S_ .f32 0x7F800000#32
  let main_v13 : FVec F S16x8192 .f32 := broadcastInDim S16x8192 ![] bcast_S_S16x8192 main_cst_3
  let main_v14 : IVec S16x8192 1 := cmpf .olt main_v12 main_v13
  (main_v2, main_v5, main_v8, main_v11, main_v14)
-- ==== Kernel.lean ====
abbrev S8192x2048 : Shape := ⟨2, ![8192, 2048]⟩
abbrev S16x8192 : Shape := ⟨2, ![16, 8192]⟩
abbrev S16x16x512 : Shape := ⟨3, ![16, 16, 512]⟩
abbrev S16x8192x1 : Shape := ⟨3, ![16, 8192, 1]⟩
abbrev S512x128 : Shape := ⟨2, ![512, 128]⟩
abbrev S8192x128 : Shape := ⟨2, ![8192, 128]⟩
abbrev S1x512x1 : Shape := ⟨3, ![1, 512, 1]⟩
abbrev S1x16x512 : Shape := ⟨3, ![1, 16, 512]⟩
abbrev S16x512 : Shape := ⟨2, ![16, 512]⟩
abbrev S1 : Shape := ⟨1, ![1]⟩
abbrev S1x1x1 : Shape := ⟨3, ![1, 1, 1]⟩
abbrev S1x1 : Shape := ⟨2, ![1, 1]⟩
abbrev S512x1 : Shape := ⟨2, ![512, 1]⟩
abbrev S512x512 : Shape := ⟨2, ![512, 512]⟩
abbrev S512 : Shape := ⟨1, ![512]⟩
abbrev S1x512 : Shape := ⟨2, ![1, 512]⟩

abbrev nBuf : Space → Nat
  | .hbm => 24
  | .vmem => 53
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S16x8192, .f32⟩
  | .hbm, ⟨5, _⟩ => ⟨S16x16x512, .f32⟩
  | .hbm, ⟨6, _⟩ => ⟨S16x16x512, .f32⟩
  | .hbm, ⟨7, _⟩ => ⟨S16x8192x1, .f32⟩
  | .hbm, ⟨8, _⟩ => ⟨S8192x2048, .bf16⟩
  | .hbm, ⟨9, _⟩ => ⟨S8192x2048, .f32⟩
  | .hbm, ⟨10, _⟩ => ⟨S16x8192x1, .f32⟩
  | .hbm, ⟨11, _⟩ => ⟨S16x8192x1, .f32⟩
  | .hbm, ⟨12, _⟩ => ⟨S8192x2048, .bf16⟩
  | .hbm, ⟨13, _⟩ => ⟨S16x8192, .f32⟩
  | .hbm, ⟨14, _⟩ => ⟨S16x16x512, .f32⟩
  | .hbm, ⟨15, _⟩ => ⟨S16x16x512, .f32⟩
  | .hbm, ⟨16, _⟩ => ⟨S16x8192x1, .f32⟩
  | .hbm, ⟨17, _⟩ => ⟨S16x8192, .f32⟩
  | .hbm, ⟨18, _⟩ => ⟨S16x16x512, .f32⟩
  | .hbm, ⟨19, _⟩ => ⟨S16x16x512, .f32⟩
  | .hbm, ⟨20, _⟩ => ⟨S16x8192x1, .f32⟩
  | .hbm, ⟨21, _⟩ => ⟨S8192x2048, .f32⟩
  | .hbm, ⟨22, _⟩ => ⟨S8192x2048, .f32⟩
  | .hbm, ⟨23, _⟩ => ⟨S16x8192x1, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S16x16x512, .f32⟩
  | .local _ .vmem, ⟨7, _⟩ => ⟨S512x128, .bf16⟩
  | .local _ .vmem, ⟨8, _⟩ => ⟨S512x128, .bf16⟩
  | .local _ .vmem, ⟨9, _⟩ => ⟨S512x128, .f32⟩
  | .local _ .vmem, ⟨10, _⟩ => ⟨S512x128, .f32⟩
  | .local _ .vmem, ⟨11, _⟩ => ⟨S1x512x1, .f32⟩
  | .local _ .vmem, ⟨12, _⟩ => ⟨S1x512x1, .f32⟩
  | .local _ .vmem, ⟨13, _⟩ => ⟨S512x128, .bf16⟩
  | .local _ .vmem, ⟨14, _⟩ => ⟨S512x128, .bf16⟩
  | .local _ .vmem, ⟨15, _⟩ => ⟨S512x128, .f32⟩
  | .local _ .vmem, ⟨16, _⟩ => ⟨S512x128, .f32⟩
  | .local _ .vmem, ⟨17, _⟩ => ⟨S1x512x1, .f32⟩
  | .local _ .vmem, ⟨18, _⟩ => ⟨S1x512x1, .f32⟩
  | .local _ .vmem, ⟨19, _⟩ => ⟨S512x128, .bf16⟩
  | .local _ .vmem, ⟨20, _⟩ => ⟨S512x128, .bf16⟩
  | .local _ .vmem, ⟨21, _⟩ => ⟨S8192x128, .bf16⟩
  | .local _ .vmem, ⟨22, _⟩ => ⟨S8192x128, .bf16⟩
  | .local _ .vmem, ⟨23, _⟩ => ⟨S8192x128, .bf16⟩
  | .local _ .vmem, ⟨24, _⟩ => ⟨S8192x128, .bf16⟩
  | .local _ .vmem, ⟨25, _⟩ => ⟨S512x128, .bf16⟩
  | .local _ .vmem, ⟨26, _⟩ => ⟨S512x128, .bf16⟩
  | .local _ .vmem, ⟨27, _⟩ => ⟨S16x16x512, .f32⟩
  | .local _ .vmem, ⟨28, _⟩ => ⟨S1x512x1, .f32⟩
  | .local _ .vmem, ⟨29, _⟩ => ⟨S1x512x1, .f32⟩
  | .local _ .vmem, ⟨30, _⟩ => ⟨S1x512x1, .f32⟩
  | .local _ .vmem, ⟨31, _⟩ => ⟨S1x512x1, .f32⟩
  | .local _ .vmem, ⟨32, _⟩ => ⟨S512x128, .bf16⟩
  | .local _ .vmem, ⟨33, _⟩ => ⟨S512x128, .bf16⟩
  | .local _ .vmem, ⟨34, _⟩ => ⟨S8192x128, .bf16⟩
  | .local _ .vmem, ⟨35, _⟩ => ⟨S8192x128, .bf16⟩
  | .local _ .vmem, ⟨36, _⟩ => ⟨S512x128, .bf16⟩
  | .local _ .vmem, ⟨37, _⟩ => ⟨S512x128, .bf16⟩
  | .local _ .vmem, ⟨38, _⟩ => ⟨S512x128, .bf16⟩
  | .local _ .vmem, ⟨39, _⟩ => ⟨S512x128, .bf16⟩
  | .local _ .vmem, ⟨40, _⟩ => ⟨S8192x128, .bf16⟩
  | .local _ .vmem, ⟨41, _⟩ => ⟨S8192x128, .bf16⟩
  | .local _ .vmem, ⟨42, _⟩ => ⟨S16x16x512, .f32⟩
  | .local _ .vmem, ⟨43, _⟩ => ⟨S1x512x1, .f32⟩
  | .local _ .vmem, ⟨44, _⟩ => ⟨S1x512x1, .f32⟩
  | .local _ .vmem, ⟨45, _⟩ => ⟨S16x16x512, .f32⟩
  | .local _ .vmem, ⟨46, _⟩ => ⟨S16x16x512, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | .local _ .vmem, ⟨51, _⟩ => ⟨S1x512x1, .f32⟩
  | .local _ .vmem, ⟨52, _⟩ => ⟨S1x512x1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v14_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg8_0 : Ref sig .tc := ⟨.vmem, 47, rfl⟩
abbrev cc3_stg8_1 : Ref sig .tc := ⟨.vmem, 48, rfl⟩
abbrev cc3_stg9_0 : Ref sig .tc := ⟨.vmem, 49, rfl⟩
abbrev cc3_stg9_1 : Ref sig .tc := ⟨.vmem, 50, rfl⟩
abbrev cc3_stg10_0 : Ref sig .tc := ⟨.vmem, 51, rfl⟩
abbrev cc3_stg10_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem5_0 : DmaSem sig := 43
abbrev cc3_sem5_1 : DmaSem sig := 44
abbrev cc3_sem6_0 : DmaSem sig := 45
abbrev cc3_sem7_0 : DmaSem sig := 46
abbrev cc3_sem8_0 : DmaSem sig := 47
abbrev cc3_sem8_1 : DmaSem sig := 48
abbrev cc3_sem9_0 : DmaSem sig := 49
abbrev cc3_sem9_1 : DmaSem sig := 50
abbrev cc3_sem10_0 : DmaSem sig := 51
abbrev cc3_sem10_1 : DmaSem sig := 52

abbrev nD : Nat := 1
abbrev τ : Topo := Topo.v7x

variable {F : FTy → Type} [FloatOps F]

abbrev grid0 : Pipeline.Grid := ⟨2, ![16, 16], ![false, false]⟩

def k0_off1 (i : grid0.Coords) : Fin 3 → Nat :=
  let arg1 : BitVec 32 := BitVec.ofNat 32 (i 1).val
  let v1 : Index := Scalar.indexCast arg1
  let c0_1 : Index := 0#32
  let c0_2 : Index := 0#32
  ![v1.toNat, 0, 0]
@[reducible] def k0_t1_loop (i : grid0.Coords) : Scf.Loop 32 :=
  let c0_i32_7 : BitVec 32 := 0#32
  let arg1 : BitVec 32 := BitVec.ofNat 32 (i 1).val
  let v21 : BitVec 32 := Scalar.subi arg1 c0_i32_7
  let c1_i32 : BitVec 32 := 1#32
  let v23 : BitVec 32 := Scalar.divsi v21 c1_i32
  let v24 : BitVec 32 := Scalar.muli v23 c1_i32
  let v25 : BitVec 32 := Scalar.addi c0_i32_7 v24
  let c1_i32_8 : BitVec 32 := 1#32
  ⟨c0_i32_7, v25, c1_i32_8⟩
def k0_mult1 (i : grid0.Coords) (k0_t1 : Fin (k0_t1_loop i).trips) : BitVec 32 :=
  let c0_i32_7 : BitVec 32 := 0#32
  let c1_i32_8 : BitVec 32 := 1#32
  let arg9 : BitVec 32 := Scf.iv c0_i32_7 c1_i32_8 k0_t1
  let c512_i32_30 : BitVec 32 := 512#32
  let v88 : BitVec 32 := Scalar.muli arg9 c512_i32_30
  v88
def k0_off2 (i : grid0.Coords) (k0_t1 : Fin (k0_t1_loop i).trips) : Fin 2 → Nat :=
  let c0_i32_7 : BitVec 32 := 0#32
  let c1_i32_8 : BitVec 32 := 1#32
  let arg9 : BitVec 32 := Scf.iv c0_i32_7 c1_i32_8 k0_t1
  let c512_i32_30 : BitVec 32 := 512#32
  let v88 : BitVec 32 := Scalar.muli arg9 c512_i32_30
  let v89 : BitVec 32 := v88
  let v90 : Index := Scalar.indexCast v89
  let c0_31 : Index := 0#32
  ![v90.toNat, 0]
def k0_off3 (i : grid0.Coords) (k0_t1 : Fin (k0_t1_loop i).trips) : Fin 3 → Nat :=
  let c0_i32_7 : BitVec 32 := 0#32
  let c1_i32_8 : BitVec 32 := 1#32
  let arg9 : BitVec 32 := Scf.iv c0_i32_7 c1_i32_8 k0_t1
  let v95 : Index := Scalar.indexCast arg9
  let c0_34 : Index := 0#32
  let c0_35 : Index := 0#32
  ![v95.toNat, 0, 0]
@[reducible] def k0_t2_loop (i : grid0.Coords) : Scf.Loop 32 :=
  let c0_i32_7 : BitVec 32 := 0#32
  let arg1 : BitVec 32 := BitVec.ofNat 32 (i 1).val
  let v21 : BitVec 32 := Scalar.subi arg1 c0_i32_7
  let c1_i32 : BitVec 32 := 1#32
  let v23 : BitVec 32 := Scalar.divsi v21 c1_i32
  let v24 : BitVec 32 := Scalar.muli v23 c1_i32
  let v25 : BitVec 32 := Scalar.addi c0_i32_7 v24
  let v22 : BitVec 32 := Scalar.addi c0_i32_7 v21
  let c1_i32_9 : BitVec 32 := 1#32
  ⟨v25, v22, c1_i32_9⟩
def k0_mult2 (i : grid0.Coords) (k0_t2 : Fin (k0_t2_loop i).trips) : BitVec 32 :=
  let c0_i32_7 : BitVec 32 := 0#32
  let arg1 : BitVec 32 := BitVec.ofNat 32 (i 1).val
  let v21 : BitVec 32 := Scalar.subi arg1 c0_i32_7
  let c1_i32 : BitVec 32 := 1#32
  let v23 : BitVec 32 := Scalar.divsi v21 c1_i32
  let v24 : BitVec 32 := Scalar.muli v23 c1_i32
  let v25 : BitVec 32 := Scalar.addi c0_i32_7 v24
  let c1_i32_9 : BitVec 32 := 1#32
  let arg9 : BitVec 32 := Scf.iv v25 c1_i32_9 k0_t2
  let c512_i32_30 : BitVec 32 := 512#32
  let v88 : BitVec 32 := Scalar.muli arg9 c512_i32_30
  v88
def k0_off4 (i : grid0.Coords) (k0_t2 : Fin (k0_t2_loop i).trips) : Fin 2 → Nat :=
  let c0_i32_7 : BitVec 32 := 0#32
  let arg1 : BitVec 32 := BitVec.ofNat 32 (i 1).val
  let v21 : BitVec 32 := Scalar.subi arg1 c0_i32_7
  let c1_i32 : BitVec 32 := 1#32
  let v23 : BitVec 32 := Scalar.divsi v21 c1_i32
  let v24 : BitVec 32 := Scalar.muli v23 c1_i32
  let v25 : BitVec 32 := Scalar.addi c0_i32_7 v24
  let c1_i32_9 : BitVec 32 := 1#32
  let arg9 : BitVec 32 := Scf.iv v25 c1_i32_9 k0_t2
  let c512_i32_30 : BitVec 32 := 512#32
  let v88 : BitVec 32 := Scalar.muli arg9 c512_i32_30
  let v89 : BitVec 32 := v88
  let v90 : Index := Scalar.indexCast v89
  let c0_31 : Index := 0#32
  ![v90.toNat, 0]
def k0_off5 (i : grid0.Coords) (k0_t2 : Fin (k0_t2_loop i).trips) : Fin 3 → Nat :=
  let c0_i32_7 : BitVec 32 := 0#32
  let arg1 : BitVec 32 := BitVec.ofNat 32 (i 1).val
  let v21 : BitVec 32 := Scalar.subi arg1 c0_i32_7
  let c1_i32 : BitVec 32 := 1#32
  let v23 : BitVec 32 := Scalar.divsi v21 c1_i32
  let v24 : BitVec 32 := Scalar.muli v23 c1_i32
  let v25 : BitVec 32 := Scalar.addi c0_i32_7 v24
  let c1_i32_9 : BitVec 32 := 1#32
  let arg9 : BitVec 32 := Scf.iv v25 c1_i32_9 k0_t2
  let v95 : Index := Scalar.indexCast arg9
  let c0_34 : Index := 0#32
  let c0_35 : Index := 0#32
  ![v95.toNat, 0, 0]
def k0_mult3 (i : grid0.Coords) : BitVec 32 :=
  let arg1 : BitVec 32 := BitVec.ofNat 32 (i 1).val
  let c512_i32 : BitVec 32 := 512#32
  let v28 : BitVec 32 := Scalar.muli arg1 c512_i32
  v28
def k0_off6 (i : grid0.Coords) : Fin 2 → Nat :=
  let arg1 : BitVec 32 := BitVec.ofNat 32 (i 1).val
  let c512_i32 : BitVec 32 := 512#32
  let v28 : BitVec 32 := Scalar.muli arg1 c512_i32
  let v29 : BitVec 32 := v28
  let v30 : Index := Scalar.indexCast v29
  let c0_10 : Index := 0#32
  ![v30.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 16], ![false, false]⟩

def k2_off1 (i : grid2.Coords) : Fin 3 → Nat :=
  let arg1 : BitVec 32 := BitVec.ofNat 32 (i 1).val
  let v6 : Index := Scalar.indexCast arg1
  let c0_9 : Index := 0#32
  let c0_10 : Index := 0#32
  ![v6.toNat, 0, 0]
@[reducible] def k2_t1_loop (i : grid2.Coords) : Scf.Loop 32 :=
  let c0_i32_13 : BitVec 32 := 0#32
  let arg1 : BitVec 32 := BitVec.ofNat 32 (i 1).val
  let v24 : BitVec 32 := Scalar.subi arg1 c0_i32_13
  let c1_i32 : BitVec 32 := 1#32
  let v26 : BitVec 32 := Scalar.divsi v24 c1_i32
  let v27 : BitVec 32 := Scalar.muli v26 c1_i32
  let v28 : BitVec 32 := Scalar.addi c0_i32_13 v27
  let c1_i32_14 : BitVec 32 := 1#32
  ⟨c0_i32_13, v28, c1_i32_14⟩
def k2_mult1 (i : grid2.Coords) (k2_t1 : Fin (k2_t1_loop i).trips) : BitVec 32 :=
  let c0_i32_13 : BitVec 32 := 0#32
  let c1_i32_14 : BitVec 32 := 1#32
  let arg10 : BitVec 32 := Scf.iv c0_i32_13 c1_i32_14 k2_t1
  let c512_i32_30 : BitVec 32 := 512#32
  let v73 : BitVec 32 := Scalar.muli arg10 c512_i32_30
  v73
def k2_off2 (i : grid2.Coords) (k2_t1 : Fin (k2_t1_loop i).trips) : Fin 2 → Nat :=
  let c0_i32_13 : BitVec 32 := 0#32
  let c1_i32_14 : BitVec 32 := 1#32
  let arg10 : BitVec 32 := Scf.iv c0_i32_13 c1_i32_14 k2_t1
  let c512_i32_30 : BitVec 32 := 512#32
  let v73 : BitVec 32 := Scalar.muli arg10 c512_i32_30
  let v74 : BitVec 32 := v73
  let v75 : Index := Scalar.indexCast v74
  let c0_31 : Index := 0#32
  ![v75.toNat, 0]
def k2_off3 (i : grid2.Coords) (k2_t1 : Fin (k2_t1_loop i).trips) : Fin 3 → Nat :=
  let c0_i32_13 : BitVec 32 := 0#32
  let c1_i32_14 : BitVec 32 := 1#32
  let arg10 : BitVec 32 := Scf.iv c0_i32_13 c1_i32_14 k2_t1
  let v80 : Index := Scalar.indexCast arg10
  let c0_34 : Index := 0#32
  let c0_35 : Index := 0#32
  ![v80.toNat, 0, 0]
@[reducible] def k2_t2_loop (i : grid2.Coords) : Scf.Loop 32 :=
  let c0_i32_13 : BitVec 32 := 0#32
  let arg1 : BitVec 32 := BitVec.ofNat 32 (i 1).val
  let v24 : BitVec 32 := Scalar.subi arg1 c0_i32_13
  let c1_i32 : BitVec 32 := 1#32
  let v26 : BitVec 32 := Scalar.divsi v24 c1_i32
  let v27 : BitVec 32 := Scalar.muli v26 c1_i32
  let v28 : BitVec 32 := Scalar.addi c0_i32_13 v27
  let v25 : BitVec 32 := Scalar.addi c0_i32_13 v24
  let c1_i32_15 : BitVec 32 := 1#32
  ⟨v28, v25, c1_i32_15⟩
def k2_mult2 (i : grid2.Coords) (k2_t2 : Fin (k2_t2_loop i).trips) : BitVec 32 :=
  let c0_i32_13 : BitVec 32 := 0#32
  let arg1 : BitVec 32 := BitVec.ofNat 32 (i 1).val
  let v24 : BitVec 32 := Scalar.subi arg1 c0_i32_13
  let c1_i32 : BitVec 32 := 1#32
  let v26 : BitVec 32 := Scalar.divsi v24 c1_i32
  let v27 : BitVec 32 := Scalar.muli v26 c1_i32
  let v28 : BitVec 32 := Scalar.addi c0_i32_13 v27
  let c1_i32_15 : BitVec 32 := 1#32
  let arg10 : BitVec 32 := Scf.iv v28 c1_i32_15 k2_t2
  let c512_i32_30 : BitVec 32 := 512#32
  let v73 : BitVec 32 := Scalar.muli arg10 c512_i32_30
  v73
def k2_off4 (i : grid2.Coords) (k2_t2 : Fin (k2_t2_loop i).trips) : Fin 2 → Nat :=
  let c0_i32_13 : BitVec 32 := 0#32
  let arg1 : BitVec 32 := BitVec.ofNat 32 (i 1).val
  let v24 : BitVec 32 := Scalar.subi arg1 c0_i32_13
  let c1_i32 : BitVec 32 := 1#32
  let v26 : BitVec 32 := Scalar.divsi v24 c1_i32
  let v27 : BitVec 32 := Scalar.muli v26 c1_i32
  let v28 : BitVec 32 := Scalar.addi c0_i32_13 v27
  let c1_i32_15 : BitVec 32 := 1#32
  let arg10 : BitVec 32 := Scf.iv v28 c1_i32_15 k2_t2
  let c512_i32_30 : BitVec 32 := 512#32
  let v73 : BitVec 32 := Scalar.muli arg10 c512_i32_30
  let v74 : BitVec 32 := v73
  let v75 : Index := Scalar.indexCast v74
  let c0_31 : Index := 0#32
  ![v75.toNat, 0]
def k2_off5 (i : grid2.Coords) (k2_t2 : Fin (k2_t2_loop i).trips) : Fin 3 → Nat :=
  let c0_i32_13 : BitVec 32 := 0#32
  let arg1 : BitVec 32 := BitVec.ofNat 32 (i 1).val
  let v24 : BitVec 32 := Scalar.subi arg1 c0_i32_13
  let c1_i32 : BitVec 32 := 1#32
  let v26 : BitVec 32 := Scalar.divsi v24 c1_i32
  let v27 : BitVec 32 := Scalar.muli v26 c1_i32
  let v28 : BitVec 32 := Scalar.addi c0_i32_13 v27
  let c1_i32_15 : BitVec 32 := 1#32
  let arg10 : BitVec 32 := Scf.iv v28 c1_i32_15 k2_t2
  let v80 : Index := Scalar.indexCast arg10
  let c0_34 : Index := 0#32
  let c0_35 : Index := 0#32
  ![v80.toNat, 0, 0]
def k2_mult3 (i : grid2.Coords) : BitVec 32 :=
  let arg1 : BitVec 32 := BitVec.ofNat 32 (i 1).val
  let c512_i32 : BitVec 32 := 512#32
  let v31 : BitVec 32 := Scalar.muli arg1 c512_i32
  v31
def k2_off6 (i : grid2.Coords) : Fin 2 → Nat :=
  let arg1 : BitVec 32 := BitVec.ofNat 32 (i 1).val
  let c512_i32 : BitVec 32 := 512#32
  let v31 : BitVec 32 := Scalar.muli arg1 c512_i32
  let v32 : BitVec 32 := v31
  let v33 : Index := Scalar.indexCast v32
  let c0_16 : Index := 0#32
  ![v33.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S8192x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S8192x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S16x16x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S512x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![16, 16], ![false, false]⟩

def k3_mult1 (i : grid3.Coords) : BitVec 32 :=
  let arg1 : BitVec 32 := BitVec.ofNat 32 (i 1).val
  let c512_i32 : BitVec 32 := 512#32
  let v6 : BitVec 32 := Scalar.muli arg1 c512_i32
  v6
def k3_off1 (i : grid3.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_7 : Index := 0#32
  ![v8.toNat, 0]
def k3_off2 (i : grid3.Coords) : Fin 3 → Nat :=
  let arg1 : BitVec 32 := BitVec.ofNat 32 (i 1).val
  let v15 : Index := Scalar.indexCast arg1
  let c0_11 : Index := 0#32
  let c0_12 : Index := 0#32
  ![v15.toNat, 0, 0]
@[reducible] def k3_t1_loop (i : grid3.Coords) : Scf.Loop 32 :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_28 : BitVec 32 := 1#32
  let v80 : BitVec 32 := Scalar.divsi v78 c1_i32_28
  let v81 : BitVec 32 := Scalar.muli v80 c1_i32_28
  let v82 : BitVec 32 := Scalar.addi v77 v81
  let c1_i32_29 : BitVec 32 := 1#32
  ⟨v77, v82, c1_i32_29⟩
def k3_mult2 (i : grid3.Coords) (k3_t1 : Fin (k3_t1_loop i).trips) : BitVec 32 :=
  let arg1 : BitVec 32 := BitVec.ofNat 32 (i 1).val
  let c1_i32 : BitVec 32 := 1#32
  let v77 : BitVec 32 := Scalar.addi arg1 c1_i32
  let c1_i32_29 : BitVec 32 := 1#32
  let arg13 : BitVec 32 := Scf.iv v77 c1_i32_29 k3_t1
  let c512_i32_39 : BitVec 32 := 512#32
  let v92 : BitVec 32 := Scalar.muli arg13 c512_i32_39
  v92
def k3_off3 (i : grid3.Coords) (k3_t1 : Fin (k3_t1_loop i).trips) : Fin 2 → Nat :=
  let arg1 : BitVec 32 := BitVec.ofNat 32 (i 1).val
  let c1_i32 : BitVec 32 := 1#32
  let v77 : BitVec 32 := Scalar.addi arg1 c1_i32
  let c1_i32_29 : BitVec 32 := 1#32
  let arg13 : BitVec 32 := Scf.iv v77 c1_i32_29 k3_t1
  let c512_i32_39 : BitVec 32 := 512#32
  let v92 : BitVec 32 := Scalar.muli arg13 c512_i32_39
  let v93 : BitVec 32 := v92
  let v94 : Index := Scalar.indexCast v93
  let c0_40 : Index := 0#32
  ![v94.toNat, 0]
def k3_off4 (i : grid3.Coords) (k3_t1 : Fin (k3_t1_loop i).trips) : Fin 3 → Nat :=
  let arg1 : BitVec 32 := BitVec.ofNat 32 (i 1).val
  let c1_i32 : BitVec 32 := 1#32
  let v77 : BitVec 32 := Scalar.addi arg1 c1_i32
  let c1_i32_29 : BitVec 32 := 1#32
  let arg13 : BitVec 32 := Scf.iv v77 c1_i32_29 k3_t1
  let v101 : Index := Scalar.indexCast arg13
  let c0_44 : Index := 0#32
  let c0_45 : Index := 0#32
  ![v101.toNat, 0, 0]
@[reducible] def k3_t2_loop (i : grid3.Coords) : Scf.Loop 32 :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_28 : BitVec 32 := 1#32
  let v80 : BitVec 32 := Scalar.divsi v78 c1_i32_28
  let v81 : BitVec 32 := Scalar.muli v80 c1_i32_28
  let v82 : BitVec 32 := Scalar.addi v77 v81
  let v79 : BitVec 32 := Scalar.addi v77 v78
  let c1_i32_30 : BitVec 32 := 1#32
  ⟨v82, v79, c1_i32_30⟩
def k3_mult3 (i : grid3.Coords) (k3_t2 : Fin (k3_t2_loop i).trips) : BitVec 32 :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_28 : BitVec 32 := 1#32
  let v80 : BitVec 32 := Scalar.divsi v78 c1_i32_28
  let v81 : BitVec 32 := Scalar.muli v80 c1_i32_28
  let v82 : BitVec 32 := Scalar.addi v77 v81
  let c1_i32_30 : BitVec 32 := 1#32
  let arg13 : BitVec 32 := Scf.iv v82 c1_i32_30 k3_t2
  let c512_i32_39 : BitVec 32 := 512#32
  let v92 : BitVec 32 := Scalar.muli arg13 c512_i32_39
  v92
def k3_off5 (i : grid3.Coords) (k3_t2 : Fin (k3_t2_loop i).trips) : Fin 2 → Nat :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_28 : BitVec 32 := 1#32
  let v80 : BitVec 32 := Scalar.divsi v78 c1_i32_28
  let v81 : BitVec 32 := Scalar.muli v80 c1_i32_28
  let v82 : BitVec 32 := Scalar.addi v77 v81
  let c1_i32_30 : BitVec 32 := 1#32
  let arg13 : BitVec 32 := Scf.iv v82 c1_i32_30 k3_t2
  let c512_i32_39 : BitVec 32 := 512#32
  let v92 : BitVec 32 := Scalar.muli arg13 c512_i32_39
  let v93 : BitVec 32 := v92
  let v94 : Index := Scalar.indexCast v93
  let c0_40 : Index := 0#32
  ![v94.toNat, 0]
def k3_off6 (i : grid3.Coords) (k3_t2 : Fin (k3_t2_loop i).trips) : Fin 3 → Nat :=
  let arg1 : BitVec 32 := BitVec.ofNat 32 (i 1).val
  let c1_i32 : BitVec 32 := 1#32
  let v77 : BitVec 32 := Scalar.addi arg1 c1_i32
  let c16_i32 : BitVec 32 := 16#32
  let v78 : BitVec 32 := Scalar.subi c16_i32 v77
  let c1_i32_28 : BitVec 32 := 1#32
  let v80 : BitVec 32 := Scalar.divsi v78 c1_i32_28
  let v81 : BitVec 32 := Scalar.muli v80 c1_i32_28
  let v82 : BitVec 32 := Scalar.addi v77 v81
  let c1_i32_30 : BitVec 32 := 1#32
  let arg13 : BitVec 32 := Scf.iv v82 c1_i32_30 k3_t2
  let v101 : Index := Scalar.indexCast arg13
  let c0_44 : Index := 0#32
  let c0_45 : Index := 0#32
  ![v101.toNat, 0, 0]
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_10 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S8192x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S8192x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S16x16x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x512x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 1 → Memref sig .tc .vmem S16x16x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S16x16x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 2 → Memref sig .tc .vmem S512x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S512x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1x512x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]
-- ==== KernelIdeal.lean ====
variable {F : FTy → Type} [FloatOps F] [Named F]
def κ : String → Option EReal := fun
  | "mask" => some ⊥
  | _ => none
-- ==== ReferenceIdeal.lean ====
abbrev S8192x2048 : Shape := ⟨2, ![8192, 2048]⟩
abbrev S16x8192 : Shape := ⟨2, ![16, 8192]⟩
abbrev S8192x16x128 : Shape := ⟨3, ![8192, 16, 128]⟩
abbrev S8192 : Shape := ⟨1, ![8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩
abbrev S16x8192x128 : Shape := ⟨3, ![16, 8192, 128]⟩

abbrev nBuf : Space → Nat
  | .hbm => 123
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S16x8192, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x16x128, .f32⟩
  | .hbm, ⟨10, _⟩ => ⟨S8192x16x128, .f32⟩
  | .hbm, ⟨11, _⟩ => ⟨S8192x16x128, .f32⟩
  | .hbm, ⟨12, _⟩ => ⟨S8192, .i32⟩
  | .hbm, ⟨13, _⟩ => ⟨S16x8192x8192, .f32⟩
  | .hbm, ⟨14, _⟩ => ⟨S_, .f32⟩
  | .hbm, ⟨15, _⟩ => ⟨S16x8192x8192, .f32⟩
  | .hbm, ⟨16, _⟩ => ⟨S16x8192x8192, .f32⟩
  | .hbm, ⟨17, _⟩ => ⟨S16x8192x1, .f32⟩
  | .hbm, ⟨18, _⟩ => ⟨S16x1x8192, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S16x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S16x8192x8192, .i1⟩
  | .hbm, ⟨31, _⟩ => ⟨S16x8192x8192, .f32⟩
  | .hbm, ⟨32, _⟩ => ⟨S16x8192x8192, .f32⟩
  | .hbm, ⟨33, _⟩ => ⟨S_, .f32⟩
  | .hbm, ⟨34, _⟩ => ⟨S16x8192x8192, .f32⟩
  | .hbm, ⟨35, _⟩ => ⟨S_, .f32⟩
  | .hbm, ⟨36, _⟩ => ⟨S16x8192, .f32⟩
  | .hbm, ⟨37, _⟩ => ⟨S16x8192x1, .f32⟩
  | .hbm, ⟨38, _⟩ => ⟨S16x8192x8192, .f32⟩
  | .hbm, ⟨39, _⟩ => ⟨S16x8192x8192, .i1⟩
  | .hbm, ⟨40, _⟩ => ⟨S16x8192x8192, .f32⟩
  | .hbm, ⟨41, _⟩ => ⟨S_, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .f32⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S16x8192, .i1⟩
  | .hbm, ⟨52, _⟩ => ⟨S_, .f32⟩
  | .hbm, ⟨53, _⟩ => ⟨S16x8192, .f32⟩
  | .hbm, ⟨54, _⟩ => ⟨S_, .f32⟩
  | .hbm, ⟨55, _⟩ => ⟨S16x8192, .f32⟩
  | .hbm, ⟨56, _⟩ => ⟨S_, .f32⟩
  | .hbm, ⟨57, _⟩ => ⟨S16x8192, .f32⟩
  | .hbm, ⟨58, _⟩ => ⟨S16x8192, .f32⟩
  | .hbm, ⟨59, _⟩ => ⟨S16x8192, .f32⟩
  | .hbm, ⟨60, _⟩ => ⟨S16x8192x1, .f32⟩
  | .hbm, ⟨61, _⟩ => ⟨S16x8192x8192, .f32⟩
  | .hbm, ⟨62, _⟩ => ⟨S16x8192x8192, .f32⟩
  | .hbm, ⟨63, _⟩ => ⟨S16x8192x8192, .f32⟩
  | .hbm, ⟨64, _⟩ => ⟨S_, .f32⟩
  | .hbm, ⟨65, _⟩ => ⟨S16x8192, .f32⟩
  | .hbm, ⟨66, _⟩ => ⟨S16x8192x1, .f32⟩
  | .hbm, ⟨67, _⟩ => ⟨S16x8192x8192, .f32⟩
  | .hbm, ⟨68, _⟩ => ⟨S16x8192x8192, .f32⟩
  | .hbm, ⟨69, _⟩ => ⟨S16x8192x1, .f32⟩
  | .hbm, ⟨70, _⟩ => ⟨S_, .f32⟩
  | .hbm, ⟨71, _⟩ => ⟨S16x8192x1, .f32⟩
  | .hbm, ⟨72, _⟩ => ⟨S16x8192x1, .f32⟩
  | .hbm, ⟨73, _⟩ => ⟨S16x128x8192, .f32⟩
  | .hbm, ⟨74, _⟩ => ⟨S8192x16x128, .f32⟩
  | .hbm, ⟨75, _⟩ => ⟨S8192x2048, .f32⟩
  | .hbm, ⟨76, _⟩ => ⟨S8192x16x128, .f32⟩
  | .hbm, ⟨77, _⟩ => ⟨S16x128x8192, .f32⟩
  | .hbm, ⟨78, _⟩ => ⟨S16x8192x8192, .f32⟩
  | .hbm, ⟨79, _⟩ => ⟨S16x128x8192, .f32⟩
  | .hbm, ⟨80, _⟩ => ⟨S8192x16x128, .f32⟩
  | .hbm, ⟨81, _⟩ => ⟨S16x8192x8192, .f32⟩
  | .hbm, ⟨82, _⟩ => ⟨S16x8192x8192, .f32⟩
  | .hbm, ⟨83, _⟩ => ⟨S16x8192x8192, .f32⟩
  | .hbm, ⟨84, _⟩ => ⟨S_, .f32⟩
  | .hbm, ⟨85, _⟩ => ⟨S16x8192, .f32⟩
  | .hbm, ⟨86, _⟩ => ⟨S16x8192x1, .f32⟩
  | .hbm, ⟨87, _⟩ => ⟨S16x8192x1, .f32⟩
  | .hbm, ⟨88, _⟩ => ⟨S16x8192x8192, .f32⟩
  | .hbm, ⟨89, _⟩ => ⟨S16x8192x8192, .f32⟩
  | .hbm, ⟨90, _⟩ => ⟨S_, .f32⟩
  | .hbm, ⟨91, _⟩ => ⟨S16x8192, .f32⟩
  | .hbm, ⟨92, _⟩ => ⟨S16x8192x8192, .f32⟩
  | .hbm, ⟨93, _⟩ => ⟨S16x8192x8192, .f32⟩
  | .hbm, ⟨94, _⟩ => ⟨S16x8192x8192, .f32⟩
  | .hbm, ⟨95, _⟩ => ⟨S_, .f32⟩
  | .hbm, ⟨96, _⟩ => ⟨S16x8192x8192, .f32⟩
  | .hbm, ⟨97, _⟩ => ⟨S16x8192x8192, .f32⟩
  | .hbm, ⟨98, _⟩ => ⟨S_, .f32⟩
  | .hbm, ⟨99, _⟩ => ⟨S16x8192, .f32⟩
  | .hbm, ⟨100, _⟩ => ⟨S16x8192x1, .f32⟩
  | .hbm, ⟨101, _⟩ => ⟨S16x8192x8192, .f32⟩
  | .hbm, ⟨102, _⟩ => ⟨S_, .f32⟩
  | .hbm, ⟨103, _⟩ => ⟨S16x8192, .f32⟩
  | .hbm, ⟨104, _⟩ => ⟨S16x1x8192, .f32⟩
  | .hbm, ⟨105, _⟩ => ⟨S_, .f32⟩
  | .hbm, ⟨106, _⟩ => ⟨S16x8192, .f32⟩
  | .hbm, ⟨107, _⟩ => ⟨S_, .f32⟩
  | .hbm, ⟨108, _⟩ => ⟨S16x8192, .f32⟩
  | .hbm, ⟨109, _⟩ => ⟨S16x8192, .f32⟩
  | .hbm, ⟨110, _⟩ => ⟨S_, .f32⟩
  | .hbm, ⟨111, _⟩ => ⟨S16x8192x8192, .f32⟩
  | .hbm, ⟨112, _⟩ => ⟨S16x8192x8192, .f32⟩
  | .hbm, ⟨113, _⟩ => ⟨S16x8192x128, .f32⟩
  | .hbm, ⟨114, _⟩ => ⟨S8192x16x128, .f32⟩
  | .hbm, ⟨115, _⟩ => ⟨S16x8192x128, .f32⟩
  | .hbm, ⟨116, _⟩ => ⟨S8192x16x128, .f32⟩
  | .hbm, ⟨117, _⟩ => ⟨S8192x2048, .f32⟩
  | .hbm, ⟨118, _⟩ => ⟨S8192x2048, .f32⟩
  | .hbm, ⟨119, _⟩ => ⟨S8192x2048, .f32⟩
  | .hbm, ⟨120, _⟩ => ⟨S8192x2048, .bf16⟩
  | .hbm, ⟨121, _⟩ => ⟨S16x8192x1, .f32⟩
  | .hbm, ⟨122, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_v22_1 : Ref sig .tc := ⟨.hbm, 30, rfl⟩
abbrev main_call0_v2 : Ref sig .tc := ⟨.hbm, 31, rfl⟩
abbrev main_v22_0 : Ref sig .tc := ⟨.hbm, 32, rfl⟩
abbrev main_call0_cst : Ref sig .tc := ⟨.hbm, 33, rfl⟩
abbrev main_v22_2 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_cst_15 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]
-- ==== KernelDwUp.lean ====
abbrev S8192x2048 : Shape := ⟨2, ![8192, 2048]⟩
abbrev S8192x11264 : Shape := ⟨2, ![8192, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwUpIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8192x2048, .f32⟩
  | .hbm, ⟨3, _⟩ => ⟨S8192x11264, .f32⟩
  | .hbm, ⟨4, _⟩ => ⟨S_, .f32⟩
  | .hbm, ⟨5, _⟩ => ⟨S2048x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDh.lean ====
abbrev S8192x11264 : Shape := ⟨2, ![8192, 11264]⟩
abbrev S2048x11264 : Shape := ⟨2, ![2048, 11264]⟩
abbrev S8192x2048 : Shape := ⟨2, ![8192, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhIdeal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .bf16⟩
  | .hbm, ⟨2, _⟩ => ⟨S8192x11264, .f32⟩
  | .hbm, ⟨3, _⟩ => ⟨S2048x11264, .f32⟩
  | .hbm, ⟨4, _⟩ => ⟨S_, .f32⟩
  | .hbm, ⟨5, _⟩ => ⟨S8192x2048, .f32⟩
  | .hbm, ⟨6, _⟩ => ⟨S8192x11264, .f32⟩
  | .hbm, ⟨7, _⟩ => ⟨S8192x2048, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDwDown.lean ====
abbrev S8192x5632 : Shape := ⟨2, ![8192, 5632]⟩
abbrev S8192x2048 : Shape := ⟨2, ![8192, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwDownIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDa.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDaIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x2048, .f32⟩
  | .hbm, ⟨3, _⟩ => ⟨S5632x2048, .f32⟩
  | .hbm, ⟨4, _⟩ => ⟨S_, .f32⟩
  | .hbm, ⟨5, _⟩ => ⟨S8192x5632, .f32⟩
  | .hbm, ⟨6, _⟩ => ⟨S8192x2048, .f32⟩
  | .hbm, ⟨7, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelUp.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | .hbm, ⟨5, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelDown.lean ====
abbrev S8192x5632 : Shape := ⟨2, ![8192, 5632]⟩
abbrev S5632x2048 : Shape := ⟨2, ![5632, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwProj.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwProjIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDwGlu.lean ====
abbrev S8192x2048 : Shape := ⟨2, ![8192, 2048]⟩
abbrev S8192x4096 : Shape := ⟨2, ![8192, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwGluIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2048, .f32⟩
  | .hbm, ⟨3, _⟩ => ⟨S8192x4096, .f32⟩
  | .hbm, ⟨4, _⟩ => ⟨S_, .f32⟩
  | .hbm, ⟨5, _⟩ => ⟨S2048x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDhProj.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDhProjIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDo.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDhAdd.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhAddIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelDyg.lean ====
abbrev S8192x4096 : Shape := ⟨2, ![8192, 4096]⟩
abbrev S2048x4096 : Shape := ⟨2, ![2048, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDygIdeal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .bf16⟩
  | .hbm, ⟨2, _⟩ => ⟨S8192x4096, .f32⟩
  | .hbm, ⟨3, _⟩ => ⟨S2048x4096, .f32⟩
  | .hbm, ⟨4, _⟩ => ⟨S_, .f32⟩
  | .hbm, ⟨5, _⟩ => ⟨S8192x2048, .f32⟩
  | .hbm, ⟨6, _⟩ => ⟨S8192x4096, .f32⟩
  | .hbm, ⟨7, _⟩ => ⟨S8192x2048, .f32⟩
  | .hbm, ⟨8, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelProj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelGlu.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGluIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelNormBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormBwdIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelGluBwd.lean ====
abbrev S8192x4096 : Shape := ⟨2, ![8192, 4096]⟩
abbrev S8192x2048 : Shape := ⟨2, ![8192, 2048]⟩
abbrev S256x4096 : Shape := ⟨2, ![256, 4096]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x4096, .bf16⟩
  | .local _ .vmem, ⟨5, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceGluBwdIdeal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== KernelLoss.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLossIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .bf16⟩
  | .hbm, ⟨69, _⟩ => ⟨S8192x2048, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S2048, .f32⟩
  | .hbm, ⟨88, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_15 : Ref sig .tc := ⟨.hbm, 70, rfl⟩
abbrev main_v51 : Ref sig .tc := ⟨.hbm, 71, rfl⟩
abbrev main_v52 : Ref sig .tc := ⟨.hbm, 72, rfl⟩
abbrev main_cst_16 : Ref sig .tc := ⟨.hbm, 73, rfl⟩
abbrev main_v53 : Ref sig .tc := ⟨.hbm, 74, rfl⟩
abbrev main_v54 : Ref sig .tc := ⟨.hbm, 75, rfl⟩
abbrev main_cst_17 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_18 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== KernelNorm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelGluFwd.lean ====
abbrev S8192x4096 : Shape := ⟨2, ![8192, 4096]⟩
abbrev S8192x2048 : Shape := ⟨2, ![8192, 2048]⟩
abbrev S256x4096 : Shape := ⟨2, ![256, 4096]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .local _ .vmem, ⟨0, _⟩ => ⟨S256x4096, .f32⟩
  | .local _ .vmem, ⟨1, _⟩ => ⟨S256x4096, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceGluFwdIdeal.lean ====
abbrev S8192x4096 : Shape := ⟨2, ![8192, 4096]⟩
abbrev S8192x2048 : Shape := ⟨2, ![8192, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelConv.lean ====
abbrev S8192x11264 : Shape := ⟨2, ![8192, 11264]⟩
abbrev S3x5632 : Shape := ⟨2, ![3, 5632]⟩
abbrev S1x5632 : Shape := ⟨2, ![1, 5632]⟩
abbrev S8192x5632 : Shape := ⟨2, ![8192, 5632]⟩
abbrev S256x512 : Shape := ⟨2, ![256, 512]⟩
abbrev S16x512 : Shape := ⟨2, ![16, 512]⟩
abbrev S3x512 : Shape := ⟨2, ![3, 512]⟩
abbrev S1x512 : Shape := ⟨2, ![1, 512]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S8192x11264, .bf16⟩
  | .hbm, ⟨1, _⟩ => ⟨S3x5632, .f32⟩
  | .hbm, ⟨2, _⟩ => ⟨S1x5632, .f32⟩
  | .hbm, ⟨3, _⟩ => ⟨S8192x5632, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S16x512, .bf16⟩
  | .local _ .vmem, ⟨5, _⟩ => ⟨S16x512, .bf16⟩
  | .local _ .vmem, ⟨6, _⟩ => ⟨S3x512, .f32⟩
  | .local _ .vmem, ⟨7, _⟩ => ⟨S3x512, .f32⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![11, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceConvIdeal.lean ====
abbrev S8192x11264 : Shape := ⟨2, ![8192, 11264]⟩
abbrev S3x5632 : Shape := ⟨2, ![3, 5632]⟩
abbrev S1x5632 : Shape := ⟨2, ![1, 5632]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩

abbrev nBuf : Space → Nat
  | .hbm => 53
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S3x5632, .f32⟩
  | .hbm, ⟨2, _⟩ => ⟨S1x5632, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S5632, .f32⟩
  | .hbm, ⟨20, _⟩ => ⟨S8192x5632, .f32⟩
  | .hbm, ⟨21, _⟩ => ⟨S1x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S1x5632, .f32⟩
  | .hbm, ⟨26, _⟩ => ⟨S5632, .f32⟩
  | .hbm, ⟨27, _⟩ => ⟨S8192x5632, .f32⟩
  | .hbm, ⟨28, _⟩ => ⟨S1x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S_, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S_, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Proof.Core.lean ====
module

public import Idealize.ShloMosaic.Lib.Pointwise

@[expose] public section

/-! The mathematics of gated causal attention over real numbers, for one head: scores, weights, and the gradients of
a head's queries, keys, values and log gates.  A score may be offset by a number that depends on the query alone; the
weights do not change. -/

namespace Cert.Attn

open Finset

/-- The `r`-th row of the `i`-th block of 512. -/
def row (i : Fin 16) (r : Fin 512) : Fin 8192 := ⟨512 * i.1 + r.1, by omega⟩

/-- The block a row lies in. -/
def blk (t : Fin 8192) : Fin 16 := ⟨t.1 / 512, by omega⟩

/-- A row's place within its block. -/
def pos (t : Fin 8192) : Fin 512 := ⟨t.1 % 512, by omega⟩

@[simp] theorem blk_row (i : Fin 16) (r : Fin 512) : blk (row i r) = i := by
  apply Fin.ext; show (512 * i.1 + r.1) / 512 = i.1; omega

@[simp] theorem pos_row (i : Fin 16) (r : Fin 512) : pos (row i r) = r := by
  apply Fin.ext; show (512 * i.1 + r.1) % 512 = r.1; omega

@[simp] theorem row_blk_pos (t : Fin 8192) : row (blk t) (pos t) = t := by
  apply Fin.ext; show 512 * (t.1 / 512) + t.1 % 512 = t.1; omega

/-- A row is a block and a place in it. -/
def rowEquiv : Fin 16 × Fin 512 ≃ Fin 8192 where
  toFun p := row p.1 p.2
  invFun t := (blk t, pos t)
  left_inv p := by simp
  right_inv t := by simp

/-- A sum over the rows is a sum over the blocks of sums within a block. -/
theorem sum_row {M : Type*} [AddCommMonoid M] (f : Fin 8192 → M) : ∑ t, f t = ∑ i, ∑ r, f (row i r) := by
  rw [← rowEquiv.sum_comp, Fintype.sum_prod_type]; rfl

variable (σ : ℝ) (q k v w : Fin 8192 → Fin 128 → ℝ) (g : Fin 8192 → ℝ)

/-- The score of query `t` and key `s`, offset by `a` instead of by the query's own log gate. -/
noncomputable def sc (a : ℝ) (t s : Fin 8192) : ℝ := (∑ d, q t d * k s d) * σ + (a - g s)

/-- The unnormalised causal weight. -/
noncomputable def ex (a : ℝ) (t s : Fin 8192) : ℝ := if s ≤ t then Real.exp (sc σ q k g a t s) else 0

/-- The sum of the unnormalised weights of a query. -/
noncomputable def tot (a : ℝ) (t : Fin 8192) : ℝ := ∑ s, ex σ q k g a t s

/-- The causal weight. -/
noncomputable def wt (t s : Fin 8192) : ℝ := ex σ q k g 0 t s / tot σ q k g 0 t

/-- The attention's output. -/
noncomputable def outp (t : Fin 8192) (d : Fin 128) : ℝ := ∑ s, wt σ q k g t s * v s d

/-- The cotangent of a weight. -/
noncomputable def dwt (t s : Fin 8192) : ℝ := ∑ d, w t d * v s d

/-- The inner product of the output and its cotangent. -/
noncomputable def dlt (t : Fin 8192) : ℝ := ∑ d, w t d * outp σ q k v g t d

/-- The cotangent of a score. -/
noncomputable def dsc (t s : Fin 8192) : ℝ := wt σ q k g t s * (dwt v w t s - dlt σ q k v w g t)

/-- The gradient of the queries. -/
noncomputable def gradQ (t : Fin 8192) (d : Fin 128) : ℝ := (∑ s, dsc σ q k v w g t s * k s d) * σ

/-- The gradient of the keys. -/
noncomputable def gradK (s : Fin 8192) (d : Fin 128) : ℝ := (∑ t, dsc σ q k v w g t s * q t d) * σ

/-- The gradient of the values. -/
noncomputable def gradV (s : Fin 8192) (d : Fin 128) : ℝ := ∑ t, wt σ q k g t s * w t d

/-- The gradient of the cumulative log gates. -/
noncomputable def gradG (s : Fin 8192) : ℝ := -∑ t, dsc σ q k v w g t s

theorem ex_nonneg (a : ℝ) (t s : Fin 8192) : 0 ≤ ex σ q k g a t s := by
  unfold ex; split
  · exact (Real.exp_pos _).le
  · exact le_rfl

theorem tot_pos (a : ℝ) (t : Fin 8192) : 0 < tot σ q k g a t := by
  refine Finset.sum_pos' (fun s _ => ex_nonneg σ q k g a t s) ⟨t, Finset.mem_univ _, ?_⟩
  unfold ex; rw [if_pos le_rfl]; exact Real.exp_pos _

theorem ex_shift (a b : ℝ) (t s : Fin 8192) : ex σ q k g (a + b) t s = Real.exp b * ex σ q k g a t s := by
  unfold ex; split
  · rw [← Real.exp_add]; congr 1; unfold sc; ring
  · simp

theorem tot_shift (a b : ℝ) (t : Fin 8192) : tot σ q k g (a + b) t = Real.exp b * tot σ q k g a t := by
  unfold tot; rw [Finset.mul_sum]; exact Finset.sum_congr rfl fun s _ => ex_shift σ q k g a b t s

/-- The weight does not depend on the offset. -/
theorem wt_eq (a : ℝ) (t s : Fin 8192) : wt σ q k g t s = ex σ q k g a t s / tot σ q k g a t := by
  have h1 := ex_shift σ q k g 0 a t s
  have h2 := tot_shift σ q k g 0 a t
  rw [zero_add] at h1 h2
  rw [h1, h2, mul_div_mul_left _ _ (Real.exp_pos a).ne']; rfl

theorem wt_of_lt {t s : Fin 8192} (h : t < s) : wt σ q k g t s = 0 := by
  unfold wt ex; rw [if_neg (not_le.mpr h), zero_div]

theorem wt_exp (a : ℝ) {t s : Fin 8192} (h : s ≤ t) :
    Real.exp (sc σ q k g a t s - Real.log (tot σ q k g a t)) = wt σ q k g t s := by
  rw [Real.exp_sub, Real.exp_log (tot_pos σ q k g a t), wt_eq σ q k g a]
  unfold ex; rw [if_pos h]

theorem sum_wt (t : Fin 8192) : ∑ s, wt σ q k g t s = 1 := by
  unfold wt; rw [← Finset.sum_div]; exact div_self (tot_pos σ q k g 0 t).ne'

/-- The inner product of the output and its cotangent is the mean of the weights' cotangents. -/
theorem sum_wt_dwt (t : Fin 8192) : ∑ s, wt σ q k g t s * dwt v w t s = dlt σ q k v w g t := by
  unfold dlt outp dwt
  simp only [Finset.mul_sum]
  rw [Finset.sum_comm]
  exact Finset.sum_congr rfl fun d _ => Finset.sum_congr rfl fun s _ => by ring

theorem sum_dsc (t : Fin 8192) : ∑ s, dsc σ q k v w g t s = 0 := by
  unfold dsc
  simp only [mul_sub, Finset.sum_sub_distrib]
  rw [sum_wt_dwt, ← Finset.sum_mul, sum_wt]; ring

theorem dsc_of_lt {t s : Fin 8192} (h : t < s) : dsc σ q k v w g t s = 0 := by
  unfold dsc; rw [wt_of_lt σ q k g h, zero_mul]

/-! ### Sums over blocks -/

/-- A sum over the rows of a function that vanishes above the row `t` is the sum of the blocks below the block of `t`
and of that block. -/
theorem sum_below {i : Fin 16} {f : Fin 8192 → ℝ} (h : ∀ s, 512 * (i.1 + 1) ≤ s.1 → f s = 0) :
    ∑ s, f s = (∑ j ∈ univ.filter (fun j : Fin 16 => j < i), ∑ c, f (row j c)) + ∑ c, f (row i c) := by
  rw [sum_row, ← Finset.sum_filter_add_sum_filter_not univ (fun j : Fin 16 => j < i)]
  congr 1
  refine Finset.sum_eq_single_of_mem i (by simp) fun j hj hne => Finset.sum_eq_zero fun c _ => h _ ?_
  have h1 : ¬ j < i := (Finset.mem_filter.mp hj).2
  have h2 : i.1 < j.1 := lt_of_le_of_ne (not_lt.mp h1) fun h => hne (Fin.ext h.symm)
  show 512 * (i.1 + 1) ≤ 512 * j.1 + c.1
  omega

/-- A sum over the rows of a function that vanishes below the block `i` is the sum of that block and of the blocks
above it. -/
theorem sum_above {i : Fin 16} {f : Fin 8192 → ℝ} (h : ∀ s, s.1 < 512 * i.1 → f s = 0) :
    ∑ s, f s = ∑ c, f (row i c) + (∑ j ∈ univ.filter (fun j : Fin 16 => i < j), ∑ c, f (row j c)) := by
  rw [sum_row, ← Finset.sum_filter_add_sum_filter_not univ (fun j : Fin 16 => i < j), add_comm]
  congr 1
  refine Finset.sum_eq_single_of_mem i (by simp) fun j hj hne => Finset.sum_eq_zero fun c _ => h _ ?_
  have h1 : ¬ i < j := (Finset.mem_filter.mp hj).2
  have h2 : j.1 < i.1 := lt_of_le_of_ne (not_lt.mp h1) fun h => hne (Fin.ext h)
  show 512 * j.1 + c.1 < 512 * i.1
  omega

/-- The blocks below `n`. -/
def lower (n : ℕ) : Finset (Fin 16) := univ.filter fun j => j.1 < n

theorem lower_zero : lower 0 = ∅ := by simp [lower]

theorem sum_lower_succ {M : Type*} [AddCommMonoid M] {n : ℕ} (hn : n < 16) (f : Fin 16 → M) :
    ∑ j ∈ lower (n + 1), f j = ∑ j ∈ lower n, f j + f ⟨n, hn⟩ := by
  have : lower (n + 1) = insert ⟨n, hn⟩ (lower n) := by
    ext j; simp only [lower, mem_filter, mem_univ, true_and, mem_insert, Fin.ext_iff]; omega
  rw [this, Finset.sum_insert (by simp [lower]), add_comm]

theorem sum_below' {i : Fin 16} {f : Fin 8192 → ℝ} (h : ∀ s, 512 * (i.1 + 1) ≤ s.1 → f s = 0) :
    ∑ s, f s = (∑ j ∈ lower i.1, ∑ c, f (row j c)) + ∑ c, f (row i c) := sum_below h

/-- The blocks from `i + 1` on, `n` of them. -/
def upper (i : Fin 16) (n : ℕ) : Finset (Fin 16) := univ.filter fun j => i < j ∧ j.1 < i.1 + 1 + n

theorem upper_zero (i : Fin 16) : upper i 0 = ∅ := by
  ext j; simp only [upper, mem_filter, mem_univ, true_and, notMem_empty, iff_false, Fin.lt_def]; omega

theorem sum_upper_succ {M : Type*} [AddCommMonoid M] {i : Fin 16} {n : ℕ} (hn : i.1 + 1 + n < 16) (f : Fin 16 → M) :
    ∑ j ∈ upper i (n + 1), f j = ∑ j ∈ upper i n, f j + f ⟨i.1 + 1 + n, hn⟩ := by
  have : upper i (n + 1) = insert ⟨i.1 + 1 + n, hn⟩ (upper i n) := by
    ext j; simp only [upper, mem_filter, mem_univ, true_and, mem_insert, Fin.ext_iff, Fin.lt_def]; omega
  rw [this, Finset.sum_insert (by simp [upper]), add_comm]

theorem sum_above' {i : Fin 16} {n : ℕ} (hn : i.1 + 1 + n = 16) {f : Fin 8192 → ℝ} (h : ∀ s, s.1 < 512 * i.1 → f s = 0) :
    ∑ s, f s = ∑ c, f (row i c) + (∑ j ∈ upper i n, ∑ c, f (row j c)) := by
  rw [sum_above h]; congr 2
  ext j; simp only [upper, mem_filter, mem_univ, true_and]
  have := j.2
  constructor
  · intro h; exact ⟨h, by omega⟩
  · exact fun h => h.1

/-! ### Weighted sums, block by block -/

theorem row_le_row {i j : Fin 16} {r c : Fin 512} : row j c ≤ row i r ↔ j < i ∨ (j = i ∧ c ≤ r) := by
  have hr := r.2; have hc := c.2
  rw [Fin.le_def, Fin.lt_def, Fin.ext_iff, Fin.le_def]
  show 512 * j.1 + c.1 ≤ 512 * i.1 + r.1 ↔ _
  omega

theorem row_lt_of {i : Fin 16} {r : Fin 512} {s : Fin 8192} (h : 512 * (i.1 + 1) ≤ s.1) : row i r < s := by
  have hr := r.2
  rw [Fin.lt_def]; show 512 * i.1 + r.1 < s.1; omega

theorem lt_row_of {i : Fin 16} {r : Fin 512} {s : Fin 8192} (h : s.1 < 512 * i.1) : s < row i r := by
  rw [Fin.lt_def]; show s.1 < 512 * i.1 + r.1; omega

theorem mem_lower {n : ℕ} {j : Fin 16} (h : j ∈ lower n) : j.1 < n := (Finset.mem_filter.mp h).2

theorem mem_upper {i : Fin 16} {n : ℕ} {j : Fin 16} (h : j ∈ upper i n) : i < j := (Finset.mem_filter.mp h).2.1

/-- The logarithm of a query's sum of weights, offset by the log gate of its block's first row. -/
noncomputable def lse (t : Fin 8192) : ℝ := Real.log (tot σ q k g (g (row (blk t) 0)) t)

/-- The unnormalised weights of one query against any numbers. -/
theorem sum_ex_mul (a : ℝ) (i : Fin 16) (r : Fin 512) (f : Fin 8192 → ℝ) :
    ∑ s, ex σ q k g a (row i r) s * f s
      = (∑ j ∈ lower i.1, ∑ c, Real.exp (sc σ q k g a (row i r) (row j c)) * f (row j c))
        + ∑ c, (if c ≤ r then Real.exp (sc σ q k g a (row i r) (row i c)) else 0) * f (row i c) := by
  rw [sum_below' (i := i) fun s hs => by unfold ex; rw [if_neg (not_le.mpr (row_lt_of hs)), zero_mul]]
  congr 1
  · refine Finset.sum_congr rfl fun j hj => Finset.sum_congr rfl fun c _ => ?_
    unfold ex; rw [if_pos (row_le_row.mpr (Or.inl (mem_lower hj)))]
  · refine Finset.sum_congr rfl fun c _ => ?_
    unfold ex
    simp only [row_le_row, lt_irrefl, true_and, false_or]

theorem tot_blocks (a : ℝ) (i : Fin 16) (r : Fin 512) :
    tot σ q k g a (row i r) = (∑ j ∈ lower i.1, ∑ c, Real.exp (sc σ q k g a (row i r) (row j c)))
      + ∑ c, if c ≤ r then Real.exp (sc σ q k g a (row i r) (row i c)) else 0 := by
  have h := sum_ex_mul σ q k g a i r fun _ => 1
  simp only [mul_one] at h
  exact h

theorem outp_blocks (a : ℝ) (i : Fin 16) (r : Fin 512) (d : Fin 128) :
    outp σ q k v g (row i r) d
      = ((∑ j ∈ lower i.1, ∑ c, Real.exp (sc σ q k g a (row i r) (row j c)) * v (row j c) d)
          + ∑ c, (if c ≤ r then Real.exp (sc σ q k g a (row i r) (row i c)) else 0) * v (row i c) d)
        / ((∑ j ∈ lower i.1, ∑ c, Real.exp (sc σ q k g a (row i r) (row j c)))
          + ∑ c, if c ≤ r then Real.exp (sc σ q k g a (row i r) (row i c)) else 0) := by
  rw [← tot_blocks, ← sum_ex_mul σ q k g a i r fun s => v s d]
  unfold outp
  rw [Finset.sum_div]
  exact Finset.sum_congr rfl fun s _ => by rw [wt_eq σ q k g a]; ring

theorem wt_lse {t s : Fin 8192} (h : s ≤ t) : Real.exp (sc σ q k g (g (row (blk t) 0)) t s - lse σ q k g t) = wt σ q k g t s :=
  wt_exp σ q k g _ h

/-- The weights of one query against any numbers. -/
theorem sum_wt_mul (i : Fin 16) (r : Fin 512) (f : Fin 8192 → ℝ) :
    ∑ s, wt σ q k g (row i r) s * f s
      = (∑ j ∈ lower i.1, ∑ c, Real.exp (sc σ q k g (g (row i 0)) (row i r) (row j c) - lse σ q k g (row i r)) * f (row j c))
        + ∑ c, (if c ≤ r then Real.exp (sc σ q k g (g (row i 0)) (row i r) (row i c) - lse σ q k g (row i r)) else 0) * f (row i c) := by
  have hw : ∀ s, s ≤ row i r → Real.exp (sc σ q k g (g (row i 0)) (row i r) s - lse σ q k g (row i r)) = wt σ q k g (row i r) s := by
    intro s hs
    have h := wt_lse σ q k g hs
    rwa [blk_row] at h
  rw [sum_below' (i := i) fun s hs => by rw [wt_of_lt σ q k g (row_lt_of hs), zero_mul]]
  congr 1
  · refine Finset.sum_congr rfl fun j hj => Finset.sum_congr rfl fun c _ => ?_
    rw [hw _ (row_le_row.mpr (Or.inl (mem_lower hj)))]
  · refine Finset.sum_congr rfl fun c _ => ?_
    split
    · rename_i h; rw [hw _ (row_le_row.mpr (Or.inr ⟨rfl, h⟩))]
    · rename_i h
      rw [wt_of_lt σ q k g (lt_of_not_ge fun h' => h (by rcases row_le_row.mp h' with h' | h'; exact absurd h' (lt_irrefl _); exact h'.2))]

/-- The weights of one key against any numbers. -/
theorem sum_mul_wt (i : Fin 16) (r : Fin 512) {n : ℕ} (hn : i.1 + 1 + n = 16) (f : Fin 8192 → ℝ) :
    ∑ t, wt σ q k g t (row i r) * f t
      = ∑ c, (if r ≤ c then Real.exp (sc σ q k g (g (row i 0)) (row i c) (row i r) - lse σ q k g (row i c)) else 0) * f (row i c)
        + ∑ j ∈ upper i n, ∑ c, Real.exp (sc σ q k g (g (row j 0)) (row j c) (row i r) - lse σ q k g (row j c)) * f (row j c) := by
  have hw : ∀ (j : Fin 16) (c : Fin 512), row i r ≤ row j c →
      Real.exp (sc σ q k g (g (row j 0)) (row j c) (row i r) - lse σ q k g (row j c)) = wt σ q k g (row j c) (row i r) := by
    intro j c hs
    have h := wt_lse σ q k g hs
    rwa [blk_row] at h
  rw [sum_above' (i := i) hn fun t ht => by rw [wt_of_lt σ q k g (lt_row_of ht), zero_mul]]
  congr 1
  · refine Finset.sum_congr rfl fun c _ => ?_
    split
    · rename_i h; rw [hw _ _ (row_le_row.mpr (Or.inr ⟨rfl, h⟩))]
    · rename_i h
      rw [wt_of_lt σ q k g (lt_of_not_ge fun h' => h (by rcases row_le_row.mp h' with h' | h'; exact absurd h' (lt_irrefl _); exact h'.2))]
  · refine Finset.sum_congr rfl fun j hj => Finset.sum_congr rfl fun c _ => ?_
    rw [hw _ _ (row_le_row.mpr (Or.inl (mem_upper hj)))]

end Cert.Attn
-- ==== Proof.Scal.lean ====
module

public import Idealize.ShloMosaic.Lib.Pointwise

@[expose] public section

/-! Extended real numbers that are real: sums, products, exponentials and maxima of them, the words of a mask, and one
step of the online softmax. -/

namespace Cert.Attn

open Idealize.ShloMosaic

/-- The scale of the scores, the constant both programs hold: `0x3DB504F3`. -/
noncomputable def sg : ℝ := 11863283 / 134217728

theorem bits_scale : Ideal.ofBits FTy.f32 1035273459#32 = ((sg : ℝ) : EReal) := by
  simp [Ideal.ofBits, Ideal.ieee, sg, -EReal.coe_mul]; norm_num

theorem bits_bot : Ideal.ofBits FTy.f32 4286578688#32 = (⊥ : EReal) := by
  simp [Ideal.ofBits, Ideal.ieee]

/-- A comparison of two words of small numbers. -/
theorem select_eq {α : Type} {n : ℕ} (hn : n ≤ 8192) (x y : Fin n) (a b : α) :
    Scalar.select (IntOp.cmpi .eq (BitVec.ofNat 32 x.1) (BitVec.ofNat 32 y.1)) a b = if x = y then a else b := by
  have hx := x.2; have hy := y.2
  have : (BitVec.ofNat 32 x.1 == BitVec.ofNat 32 y.1) = decide (x = y) := by
    rw [Bool.eq_iff_iff, beq_iff_eq, decide_eq_true_iff, ← BitVec.toNat_inj, Fin.ext_iff]
    simp only [BitVec.toNat_ofNat]
    rw [Nat.mod_eq_of_lt (by omega), Nat.mod_eq_of_lt (by omega)]
  unfold Scalar.select IntOp.cmpi
  simp only [this]
  by_cases h : x = y <;> simp [h]

theorem select_sle {α : Type} {n : ℕ} (hn : n ≤ 8192) (x y : Fin n) (a b : α) :
    Scalar.select (IntOp.cmpi .sle (BitVec.ofNat 32 x.1) (BitVec.ofNat 32 y.1)) a b = if x ≤ y then a else b := by
  have hx := x.2; have hy := y.2
  have : (BitVec.ofNat 32 x.1).sle (BitVec.ofNat 32 y.1) = decide (x ≤ y) := by
    rw [Bool.eq_iff_iff, BitVec.sle_iff_toInt_le, decide_eq_true_iff, Fin.le_def]
    rw [BitVec.toInt_eq_toNat_of_lt (by simp only [BitVec.toNat_ofNat]; omega),
      BitVec.toInt_eq_toNat_of_lt (by simp only [BitVec.toNat_ofNat]; omega)]
    simp only [BitVec.toNat_ofNat]
    omega
  unfold Scalar.select IntOp.cmpi
  simp only [this]
  by_cases h : x ≤ y <;> simp [h]

/-- Picking the entry of one row and the first column. -/
theorem select_and {α : Type} {n k : ℕ} (hn : n ≤ 8192) (hk : k + 1 ≤ 8192) (x y : Fin n) (c : Fin (k + 1)) (a b : α) :
    Scalar.select (IntOp.andi (IntOp.cmpi .eq (BitVec.ofNat 32 x.1) (BitVec.ofNat 32 y.1))
      (IntOp.cmpi .eq (BitVec.ofNat 32 c.1) 0#32)) a b = if x = y then (if c = 0 then a else b) else b := by
  have hx := x.2; have hy := y.2; have hc := c.2
  have h1 : (BitVec.ofNat 32 x.1 == BitVec.ofNat 32 y.1) = decide (x = y) := by
    rw [Bool.eq_iff_iff, beq_iff_eq, decide_eq_true_iff, ← BitVec.toNat_inj, Fin.ext_iff]
    simp only [BitVec.toNat_ofNat]
    rw [Nat.mod_eq_of_lt (by omega), Nat.mod_eq_of_lt (by omega)]
  have h2 : (BitVec.ofNat 32 c.1 == 0#32) = decide (c = 0) := by
    rw [Bool.eq_iff_iff, beq_iff_eq, decide_eq_true_iff, ← BitVec.toNat_inj, Fin.ext_iff]
    simp only [BitVec.toNat_ofNat, Fin.val_zero]
    rw [Nat.mod_eq_of_lt (by omega), Nat.mod_eq_of_lt (by omega)]
  unfold Scalar.select IntOp.cmpi IntOp.andi
  simp only [h1, h2]
  by_cases h : x = y <;> by_cases h' : c = 0 <;> simp [h, h']

/-- A sum of real numbers. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

theorem exp_coe (x : ℝ) : Ideal.exp (x : EReal) = ((Real.exp x : ℝ) : EReal) := rfl
theorem exp_bot : Ideal.exp (⊥ : EReal) = 0 := rfl

theorem log_coe {x : ℝ} (h : 0 < x) : Ideal.log (x : EReal) = ((Real.log x : ℝ) : EReal) := by
  show (if x ≤ 0 then (⊥ : EReal) else ((Real.log x : ℝ) : EReal)) = _
  rw [if_neg (not_le.mpr h)]

theorem div_coe {x y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

/-- The maximum of numbers that are real or `⊥`, one of them real, is real. -/
theorem fold_max_real {K : Type*} [Fintype K] (s : K → EReal) (h : ∀ c, s c ≠ ⊤) (hb : ∃ c, s c ≠ ⊥) :
    ∃ x : ℝ, Finset.univ.fold max (⊥ : EReal) s = x := by
  have h1 : Finset.univ.fold max (⊥ : EReal) s ≠ ⊤ := by
    refine ne_of_lt ((Finset.fold_max_lt _).mpr ⟨bot_lt_top, fun c _ => lt_top_iff_ne_top.mpr (h c)⟩)
  have h2 : Finset.univ.fold max (⊥ : EReal) s ≠ ⊥ := by
    obtain ⟨c, hc⟩ := hb
    exact ne_of_gt ((Finset.lt_fold_max _).mpr (Or.inr ⟨c, Finset.mem_univ c, bot_lt_iff_ne_bot.mpr hc⟩))
  exact ⟨_, (EReal.coe_toReal h1 h2).symm⟩

/-- What the online softmax carries for one query: the maximum `m`, the sum `l` and the mean `acc`, relative to the
maximum, of the weights seen so far, whose sum is `L` and whose mean is `A`. -/
def Online {D : Type*} (m l : EReal) (acc : D → EReal) (L : ℝ) (A : D → ℝ) : Prop :=
  (m = ⊥ ∧ l = 0 ∧ (∀ d, acc d = 0) ∧ L = 0 ∧ ∀ d, A d = 0) ∨
    ∃ μ : ℝ, m = μ ∧ l = ((Real.exp (-μ) * L : ℝ) : EReal) ∧ ∀ d, acc d = ((Real.exp (-μ) * A d : ℝ) : EReal)

/-- One step of the online softmax takes the scores `s`, of which the ones outside `b` are masked. -/
theorem online_step {K D : Type*} [Fintype K] {m l : EReal} {acc : D → EReal} {L : ℝ} {A : D → ℝ} (h : Online m l acc L A)
    (b : K → Prop) [DecidablePred b] (hb : ∃ c, b c) (z : K → ℝ) (s : K → EReal)
    (hs : ∀ c, s c = if b c then ((z c : ℝ) : EReal) else ⊥) (v : K → D → ℝ) :
    ∃ μ : ℝ, max m (Finset.univ.fold max (⊥ : EReal) s) = μ ∧
      (Ideal.exp (m - (μ : EReal)) * l + ∑ c, Ideal.exp (s c - (μ : EReal))
        = ((Real.exp (-μ) * (L + ∑ c, if b c then Real.exp (z c) else 0) : ℝ) : EReal)) ∧
      ∀ d, Ideal.exp (m - (μ : EReal)) * acc d + (∑ c, Ideal.exp (s c - (μ : EReal)) * ((v c d : ℝ) : EReal)
          + ∑ c, (Ideal.exp (s c - (μ : EReal)) - Ideal.exp (s c - (μ : EReal))) * ((v c d : ℝ) : EReal))
        = ((Real.exp (-μ) * (A d + ∑ c, (if b c then Real.exp (z c) else 0) * v c d) : ℝ) : EReal) := by
  obtain ⟨x, hx⟩ := fold_max_real s (fun c => by rw [hs]; split <;> simp) (by
    obtain ⟨c, hc⟩ := hb; exact ⟨c, by rw [hs, if_pos hc]; simp⟩)
  rw [hx]
  have key : ∀ μ : ℝ, ∀ c, Ideal.exp (s c - (μ : EReal)) = ((Real.exp (-μ) * (if b c then Real.exp (z c) else 0) : ℝ) : EReal) := by
    intro μ c
    rw [hs]
    split
    · rw [← EReal.coe_sub, exp_coe, ← Real.exp_add]; congr 2; ring
    · rw [EReal.bot_sub, exp_bot, mul_zero, EReal.coe_zero]
  have p1 : ∀ μ : ℝ, ∑ c, Ideal.exp (s c - (μ : EReal)) = ((Real.exp (-μ) * ∑ c, (if b c then Real.exp (z c) else 0) : ℝ) : EReal) := by
    intro μ
    simp only [key, coe_sum, Finset.mul_sum]
  have p2 : ∀ (μ : ℝ) (d : D), ∑ c, Ideal.exp (s c - (μ : EReal)) * ((v c d : ℝ) : EReal)
      + ∑ c, (Ideal.exp (s c - (μ : EReal)) - Ideal.exp (s c - (μ : EReal))) * ((v c d : ℝ) : EReal)
      = ((Real.exp (-μ) * ∑ c, (if b c then Real.exp (z c) else 0) * v c d : ℝ) : EReal) := by
    intro μ d
    simp only [key, ← EReal.coe_sub, sub_self, EReal.coe_zero, zero_mul, Finset.sum_const_zero, add_zero, ← EReal.coe_mul,
      coe_sum, Finset.mul_sum, mul_assoc]
  rcases h with ⟨rfl, rfl, ha, rfl, hA⟩ | ⟨ν, rfl, rfl, ha⟩
  · refine ⟨x, by simp, ?_, fun d => ?_⟩
    · rw [EReal.bot_sub, exp_bot, zero_mul, zero_add, zero_add, p1]
    · rw [ha, mul_zero, zero_add, hA, zero_add, p2]
  · refine ⟨max ν x, (EReal.coe_strictMono.monotone.map_max).symm, ?_, fun d => ?_⟩
    · rw [p1, ← EReal.coe_sub, exp_coe, ← EReal.coe_mul, ← EReal.coe_add]
      congr 1
      rw [mul_add, ← mul_assoc, ← Real.exp_add]; congr 3; ring
    · rw [p2, ha, ← EReal.coe_sub, exp_coe, ← EReal.coe_mul, ← EReal.coe_add]
      congr 1
      rw [mul_add, ← mul_assoc, ← Real.exp_add]; congr 3; ring

end Cert.Attn
-- ==== Proof.Pay0.lean ====
module

public import proofs.«01_k».proof.Proof.Gen.KernelIdeal.Skeleton
public import proofs.«01_k».proof.Proof.Scal

@[expose] public section

/-! What the forward body computes from one block of keys, read at an index, where every number it reads is real. -/

set_option maxRecDepth 16384

noncomputable section

namespace Cert.Attn

open Cert.KernelIdeal Cert.KernelIdeal.Gen Idealize.ShloMosaic

/-- The masking constant is the smallest extended real. -/
theorem named_mask : (Named.named (F := Idealize.ShloMosaic.Ideal) (φ := .f32) κ "mask" 4048155338#32) = (⊥ : EReal) :=
  IdealRules.named_const.ideal_named_scalar _ _ _ _ rfl

/-- The score of row `r` of a block of queries and column `c` of a block of keys. -/
def bsc (q k : Fin 512 → Fin 128 → ℝ) (a : ℝ) (g : Fin 512 → ℝ) (r c : Fin 512) : ℝ := (∑ x, q r x * k c x) * sg + (a - g c)

section Fwd

variable {q k v : Fin 512 → Fin 128 → ℝ} {a : ℝ} {g : Fin 512 → ℝ} (i : grid0.Coords) {h : Fin 16}
  {v0 v91 v122 : Vec Ideal S512x128 .bf16} {v2 v96 : Vec Ideal S1x16x512 .f32}

theorem k0_first (hh : (i 0).1 = h.1) (ha : v2 (ix3 0 h 0) = (a : EReal)) : k0_pay2 (F := Ideal) i v2 (ix2 0 0) = (a : EReal) := by
  pointwise [k0_pay2]
  simp only [hh, select_and (n := 16) (k := 511) (by norm_num) (by norm_num)]
  simp [ha, Finset.sum_ite_eq']

theorem k0_score (hh : (i 0).1 = h.1) (hq : ∀ r x, v0 (ix2 r x) = (q r x : EReal)) (ha : v2 (ix3 0 h 0) = (a : EReal))
    (hk : ∀ r x, v91 (ix2 r x) = (k r x : EReal)) (hg : ∀ c, v96 (ix3 0 h c) = (g c : EReal)) (r c : Fin 512) :
    k0_pay6 (F := Ideal) i v0 v2 v91 v96 (ix2 r c) = ((bsc q k a g r c : ℝ) : EReal) := by
  pointwise [k0_pay6]
  rw [k0_first i hh ha]
  simp only [hh, select_eq (n := 16) (by norm_num), Finset.sum_ite_eq', Finset.mem_univ, if_true, hq, hk, hg, bits_scale,
    ← EReal.coe_mul, coe_sum, ← EReal.coe_sub, ← EReal.coe_add, bsc]

/-- One trip of the forward loop is one step of the online softmax. -/
theorem k0_trip (hh : (i 0).1 = h.1) (hq : ∀ r x, v0 (ix2 r x) = (q r x : EReal)) (ha : v2 (ix3 0 h 0) = (a : EReal))
    (hk : ∀ r x, v91 (ix2 r x) = (k r x : EReal)) (hg : ∀ c, v96 (ix3 0 h c) = (g c : EReal))
    (hv : ∀ r x, v122 (ix2 r x) = (v r x : EReal)) {m l : FVec Ideal S512x1 .f32} {acc : FVec Ideal S512x128 .f32} {r : Fin 512}
    {L : ℝ} {A : Fin 128 → ℝ} (H : Online (m (ix2 r 0)) (l (ix2 r 0)) (fun d : Fin 128 => acc (ix2 r d)) L A) :
    Online (k0_pay7 (F := Ideal) i v0 v2 m v91 v96 (ix2 r 0)) (k0_pay10 (F := Ideal) i v0 v2 m l v91 v96 (ix2 r 0))
      (fun d : Fin 128 => k0_pay11 (F := Ideal) i v0 v2 m acc v91 v96 v122 (ix2 r d))
      (L + ∑ c, Real.exp (bsc q k a g r c)) (fun d => A d + ∑ c, Real.exp (bsc q k a g r c) * v c d) := by
  obtain ⟨μ, h1, h2, h3⟩ := online_step H (fun _ : Fin 512 => True) ⟨0, trivial⟩ (bsc q k a g r)
    (fun c => ((bsc q k a g r c : ℝ) : EReal)) (fun c => by simp) v
  simp only [if_true] at h2 h3
  have e7 : k0_pay7 (F := Ideal) i v0 v2 m v91 v96 (ix2 r 0) = (μ : EReal) := by
    pointwise [k0_pay7]
    simp only [k0_score i hh hq ha hk hg, bits_bot]
    exact h1
  have e8 : ∀ c : Fin 512, k0_pay8 (F := Ideal) i v0 v2 m v91 v96 (ix2 r c) = Ideal.exp (((bsc q k a g r c : ℝ) : EReal) - (μ : EReal)) := by
    intro c
    pointwise [k0_pay8]
    rw [e7, k0_score i hh hq ha hk hg]
  have e9 : k0_pay9 (F := Ideal) i v0 v2 m v91 v96 (ix2 r 0) = Ideal.exp (m (ix2 r 0) - (μ : EReal)) := by
    pointwise [k0_pay9]
    rw [e7]
  refine Or.inr ⟨μ, e7, ?_, fun d => ?_⟩
  · pointwise [k0_pay10]
    simp only [e8, e9]
    exact h2
  · pointwise [k0_pay11]
    simp only [e8, e9, hv]
    exact h3 d

/-- The last step takes the diagonal block under the causal mask, divides by the sum, and adds the logarithm of the sum
to the maximum. -/
theorem k0_last (hh : (i 0).1 = h.1) (hq : ∀ r x, v0 (ix2 r x) = (q r x : EReal)) (ha : v2 (ix3 0 h 0) = (a : EReal))
    (hk : ∀ r x, v91 (ix2 r x) = (k r x : EReal)) (hg : ∀ c, v96 (ix3 0 h c) = (g c : EReal))
    (hv : ∀ r x, v122 (ix2 r x) = (v r x : EReal)) {m l : FVec Ideal S512x1 .f32} {acc : FVec Ideal S512x128 .f32} {r : Fin 512}
    {L : ℝ} {A : Fin 128 → ℝ} (H : Online (m (ix2 r 0)) (l (ix2 r 0)) (fun d : Fin 128 => acc (ix2 r d)) L A) (hL : 0 ≤ L) :
    (∀ d : Fin 128, k0_pay25 (F := Ideal) (BitVec.ofNat 32 (i 0).1) (k0_pay2 i v2) m l acc (k0_pay18 v0 v91) (k0_pay19 v96) v122 (ix2 r d)
      = (((A d + ∑ c, (if c ≤ r then Real.exp (bsc q k a g r c) else 0) * v c d)
          / (L + ∑ c, if c ≤ r then Real.exp (bsc q k a g r c) else 0) : ℝ) : EReal)) ∧
    k0_pay1 (F := Ideal) (k0_pay21 (BitVec.ofNat 32 (i 0).1) (k0_pay2 i v2) m (k0_pay18 v0 v91) (k0_pay19 v96))
        (k0_pay27 (BitVec.ofNat 32 (i 0).1) (k0_pay2 i v2) m l (k0_pay18 v0 v91) (k0_pay19 v96)) (ix3 0 r 0)
      = ((Real.log (L + ∑ c, if c ≤ r then Real.exp (bsc q k a g r c) else 0) : ℝ) : EReal) := by
  have e20 : ∀ c : Fin 512, k0_pay20 (F := Ideal) (BitVec.ofNat 32 (i 0).1) (k0_pay2 i v2) (k0_pay18 v0 v91) (k0_pay19 v96) (ix2 r c)
      = if c ≤ r then ((bsc q k a g r c : ℝ) : EReal) else ⊥ := by
    intro c
    pointwise [k0_pay20, k0_pay18, k0_pay19]
    rw [k0_first i hh ha, select_sle (n := 512) (by norm_num)]
    simp only [hh, select_eq (n := 16) (by norm_num), Finset.sum_ite_eq', Finset.mem_univ, if_true, hq, hk, hg, bits_scale,
      ← EReal.coe_mul, coe_sum, ← EReal.coe_sub, ← EReal.coe_add, bsc, named_mask]
  obtain ⟨μ, h1, h2, h3⟩ := online_step H (fun c : Fin 512 => c ≤ r) ⟨r, le_rfl⟩ (bsc q k a g r) _ (fun c => e20 c) v
  have hpos : 0 < L + ∑ c, if c ≤ r then Real.exp (bsc q k a g r c) else 0 := by
    refine add_pos_of_nonneg_of_pos hL (Finset.sum_pos' (fun c _ => ?_) ⟨r, Finset.mem_univ r, ?_⟩)
    · split
      · exact (Real.exp_pos _).le
      · exact le_rfl
    · rw [if_pos le_rfl]; exact Real.exp_pos _
  have e21 : k0_pay21 (F := Ideal) (BitVec.ofNat 32 (i 0).1) (k0_pay2 i v2) m (k0_pay18 v0 v91) (k0_pay19 v96) (ix2 r 0) = (μ : EReal) := by
    pointwise [k0_pay21]
    rw [bits_bot]
    exact h1
  have e22 : ∀ c : Fin 512, k0_pay22 (F := Ideal) (BitVec.ofNat 32 (i 0).1) (k0_pay2 i v2) m (k0_pay18 v0 v91) (k0_pay19 v96) (ix2 r c)
      = Ideal.exp (k0_pay20 (F := Ideal) (BitVec.ofNat 32 (i 0).1) (k0_pay2 i v2) (k0_pay18 v0 v91) (k0_pay19 v96) (ix2 r c) - (μ : EReal)) := by
    intro c
    pointwise [k0_pay22]
    rw [e21]
  have e23 : k0_pay23 (F := Ideal) (BitVec.ofNat 32 (i 0).1) (k0_pay2 i v2) m (k0_pay18 v0 v91) (k0_pay19 v96) (ix2 r 0)
      = Ideal.exp (m (ix2 r 0) - (μ : EReal)) := by
    pointwise [k0_pay23]
    rw [e21]
  have e24 : k0_pay24 (F := Ideal) (BitVec.ofNat 32 (i 0).1) (k0_pay2 i v2) m l (k0_pay18 v0 v91) (k0_pay19 v96) (ix2 r 0)
      = ((Real.exp (-μ) * (L + ∑ c, if c ≤ r then Real.exp (bsc q k a g r c) else 0) : ℝ) : EReal) := by
    pointwise [k0_pay24]
    simp only [e22, e23]
    exact h2
  constructor
  · intro d
    pointwise [k0_pay25]
    simp only [e22, e23, e24, hv]
    refine (congrArg (fun x => Ideal.div x _) (h3 d)).trans ?_
    rw [div_coe (mul_pos (Real.exp_pos _) hpos).ne', mul_div_mul_left _ _ (Real.exp_pos (-μ)).ne']
  · pointwise [k0_pay1, k0_pay27]
    rw [e21, e24, log_coe (mul_pos (Real.exp_pos _) hpos), ← EReal.coe_add, Real.log_mul (Real.exp_pos _).ne' hpos.ne', Real.log_exp]
    congr 1; ring

end Fwd

end Cert.Attn

end
-- ==== Proof.Body0.lean ====
module

public import proofs.«01_k».proof.Proof.Core
public import proofs.«01_k».proof.Proof.Pay0
public import proofs.«01_k».proof.Proof.Gen.KernelIdeal.Frame

@[expose] public section

/-! What one run of the forward body leaves: the attention's output for a block of queries of a head, and the logarithms
of the queries' sums of weights. -/

set_option maxRecDepth 16384

noncomputable section

namespace Cert.Attn

open Cert.KernelIdeal Cert.KernelIdeal.Gen Idealize.ShloMosaic

/-! ### Blocks read out of an array -/

theorem off_block (n : ℕ) (h : n < 16) : (Scalar.indexCast (Scalar.muli (BitVec.ofNat 32 n) 512#32)).toNat = 512 * n :=
  (by decide +kernel : ∀ n : Fin 16, (Scalar.indexCast (Scalar.muli (BitVec.ofNat 32 n.1) 512#32)).toNat = 512 * n.1) ⟨n, h⟩

theorem off_row (n : ℕ) (h : n < 16) : (Scalar.indexCast (BitVec.ofNat 32 n)).toNat = n :=
  (by decide +kernel : ∀ n : Fin 16, (Scalar.indexCast (BitVec.ofNat 32 n.1)).toNat = n.1) ⟨n, h⟩

theorem off_block_iv (n : ℕ) (h : n < 16) : (Scalar.indexCast (Scalar.muli (Scf.iv 0#32 1#32 n) 512#32)).toNat = 512 * n :=
  (by decide +kernel : ∀ n : Fin 16, (Scalar.indexCast (Scalar.muli (Scf.iv 0#32 1#32 n.1) 512#32)).toNat = 512 * n.1) ⟨n, h⟩

theorem off_row_iv (n : ℕ) (h : n < 16) : (Scalar.indexCast (Scf.iv 0#32 1#32 n)).toNat = n :=
  (by decide +kernel : ∀ n : Fin 16, (Scalar.indexCast (Scf.iv 0#32 1#32 n.1)).toNat = n.1) ⟨n, h⟩

theorem zero2 : (![0, 0] : Fin 2 → ℕ) = fun _ => 0 := by funext a; fin_cases a <;> rfl

theorem zero3 : (![0, 0, 0] : Fin 3 → ℕ) = fun _ => 0 := by funext a; fin_cases a <;> rfl

/-- A block of 512 rows. -/
theorem ld_block {φ : EltTy} (X : Vec Ideal S8192x128 φ) (n : ℕ) (j : Fin 16) (h : n = 512 * j.1)
    (inb : ∀ a, (![n, 0] : Fin 2 → ℕ) a + (![512, 128] : Fin 2 → ℕ) a ≤ S8192x128.size a) (r : Fin 512) (x : Fin 128) :
    View.ld X (Rect.unit ![n, 0] ![512, 128] inb) (ix2 r x) = X (ix2 (row j r) x) := by
  subst h
  pointwise
  rfl

/-- One row of blocks of 512. -/
theorem ld_row (X : Vec Ideal S16x16x512 .f32) (n : ℕ) (j : Fin 16) (hn : n = j.1)
    (inb : ∀ a, (![n, 0, 0] : Fin 3 → ℕ) a + (![1, 16, 512] : Fin 3 → ℕ) a ≤ S16x16x512.size a) (h : Fin 16) (c : Fin 512) :
    View.ld X (Rect.unit ![n, 0, 0] ![1, 16, 512] inb) (ix3 0 h c) = X (ix3 j h c) := by
  subst hn
  pointwise

/-- A whole block. -/
theorem ld_whole {φ : EltTy} (X : Vec Ideal S512x128 φ) (inb : ∀ a, (![0, 0] : Fin 2 → ℕ) a + (![512, 128] : Fin 2 → ℕ) a ≤ S512x128.size a)
    (r : Fin 512) (x : Fin 128) : View.ld X (Rect.unit ![0, 0] ![512, 128] inb) (ix2 r x) = X (ix2 r x) := by
  pointwise

theorem k0_cast (a0 : BitVec 32) (a1 : FVec Ideal S1x1 .f32) (a2 a3 : FVec Ideal S512x1 .f32) (a4 : FVec Ideal S512x128 .f32)
    (a5 : FVec Ideal S512x512 .f32) (a6 : FVec Ideal S16x512 .f32) (a7 : Vec Ideal S512x128 .bf16) (r : Fin 512) (d : Fin 128) :
    k0_pay26 a0 a1 a2 a3 a4 a5 a6 a7 (ix2 r d) = k0_pay25 a0 a1 a2 a3 a4 a5 a6 a7 (ix2 r d) := by
  pointwise [k0_pay26]

theorem k0_t1_trips (i : grid0.Coords) : (k0_t1_loop i).trips = (i 1).1 := by
  revert i; decide +kernel

theorem k0_t2_trips (i : grid0.Coords) : (k0_t2_loop i).trips = 0 := by
  revert i; decide +kernel

section Body

variable {q k v : Fin 8192 → Fin 128 → ℝ} {g : Fin 8192 → ℝ} {h b : Fin 16}
  (c : Dev nD) (i : grid0.Coords) (arg2 : Memref sig .tc .vmem S512x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S16x16x512 .f32) (harg5 : arg5.IsWhole) (arg6 : Memref sig .tc .vmem S512x128 .bf16) (harg6 : arg6.IsWhole)
  (arg7 : Memref sig .tc .vmem S512x128 .f32) (harg7 : arg7.IsWhole) (arg8 : Memref sig .tc .vmem S1x512x1 .f32) (harg8 : arg8.IsWhole)
  {x0 : Vec Ideal S512x128 .bf16} {x1 x2 : Vec Ideal S8192x128 .bf16} {x3 : Vec Ideal S16x16x512 .f32}

/-- Before trip `n` the loop carries the online softmax over the first `n` blocks of keys. -/
theorem k0_inv (hh : (i 0).1 = h.1) (hb : (i 1).1 = b.1) (h1 : ∀ t x, x1 (ix2 t x) = (k t x : EReal))
    (h2 : ∀ t x, x2 (ix2 t x) = (v t x : EReal)) (h3 : ∀ j s, x3 (ix3 j h s) = (g (row j s) : EReal))
    {v0 : Vec Ideal S512x128 .bf16} {v2 : Vec Ideal S1x16x512 .f32} (hq : ∀ r x, v0 (ix2 r x) = (q (row b r) x : EReal))
    (ha : v2 (ix3 0 h 0) = (g (row b 0) : EReal)) (n : ℕ) (hn : n ≤ b.1) (r : Fin 512) :
    Online ((st_k0_t1 Variants.none c none i arg2 harg2 arg3 harg3 arg4 harg4 arg5 harg5 arg6 harg6 arg7 harg7 arg8 harg8 v0 v2
        (harg3.unread x1) (harg4.unread x2) (harg5.unread x3) (k0_pay3, k0_pay4, k0_pay5) n).1 (ix2 r 0))
      ((st_k0_t1 Variants.none c none i arg2 harg2 arg3 harg3 arg4 harg4 arg5 harg5 arg6 harg6 arg7 harg7 arg8 harg8 v0 v2
        (harg3.unread x1) (harg4.unread x2) (harg5.unread x3) (k0_pay3, k0_pay4, k0_pay5) n).2.1 (ix2 r 0))
      (fun d : Fin 128 => (st_k0_t1 Variants.none c none i arg2 harg2 arg3 harg3 arg4 harg4 arg5 harg5 arg6 harg6 arg7 harg7 arg8 harg8 v0 v2
        (harg3.unread x1) (harg4.unread x2) (harg5.unread x3) (k0_pay3, k0_pay4, k0_pay5) n).2.2 (ix2 r d))
      (∑ j ∈ lower n, ∑ s, Real.exp (sc sg q k g (g (row b 0)) (row b r) (row j s)))
      (fun d => ∑ j ∈ lower n, ∑ s, Real.exp (sc sg q k g (g (row b 0)) (row b r) (row j s)) * v (row j s) d) := by
  induction n with
  | zero =>
    rw [st_k0_t1_zero]
    refine Or.inl ⟨?_, ?_, fun d => ?_, by simp [lower_zero], fun d => by simp [lower_zero]⟩
    · pointwise [k0_pay3]; exact named_mask
    · pointwise [k0_pay4]
    · pointwise [k0_pay5]
  | succ n ih =>
    have hb16 := b.2
    have hn16 : n < 16 := by omega
    rw [st_k0_t1_succ (k := ⟨n, by rw [k0_t1_trips, hb]; omega⟩)]
    unfold tripR_k0_t1 trip_k0_t1
    dsimp only
    sl_unfold_words
    simp only [View.readAt_eq_ld, harg3.read_unread, harg4.read_unread, harg5.read_unread]
    simp only [sum_lower_succ hn16]
    exact k0_trip (q := fun r => q (row b r)) (k := fun s => k (row ⟨n, hn16⟩ s)) (v := fun s => v (row ⟨n, hn16⟩ s))
      (g := fun s => g (row ⟨n, hn16⟩ s)) i hh hq ha
      (fun r x => (ld_block x1 _ ⟨n, hn16⟩ (off_block_iv n hn16) _ r x).trans (h1 _ _))
      (fun s => (ld_row x3 _ ⟨n, hn16⟩ (off_row_iv n hn16) _ h s).trans (h3 _ _))
      (fun r x => (ld_block x2 _ ⟨n, hn16⟩ (off_block_iv n hn16) _ r x).trans (h2 _ _))
      (ih (by omega))

/-- The body's three results. -/
theorem k0_body (hh : (i 0).1 = h.1) (hb : (i 1).1 = b.1) (h0 : ∀ r x, x0 (ix2 r x) = (q (row b r) x : EReal))
    (h1 : ∀ t x, x1 (ix2 t x) = (k t x : EReal)) (h2 : ∀ t x, x2 (ix2 t x) = (v t x : EReal))
    (h3 : ∀ j s, x3 (ix3 j h s) = (g (row j s) : EReal)) (r : Fin 512) :
    (∀ d : Fin 128, out0_A_4 (F := Ideal) c i arg2 harg2 arg3 harg3 arg4 harg4 arg5 harg5 arg6 harg6 arg7 harg7 arg8 harg8 x0 x1 x2 x3 (ix2 r d)
      = ((outp sg q k v g (row b r) d : ℝ) : EReal)) ∧
    (∀ d : Fin 128, out0_A_5 (F := Ideal) c i arg2 harg2 arg3 harg3 arg4 harg4 arg5 harg5 arg6 harg6 arg7 harg7 arg8 harg8 x0 x1 x2 x3 (ix2 r d)
      = ((outp sg q k v g (row b r) d : ℝ) : EReal)) ∧
    out0_A_6 (F := Ideal) c i arg2 harg2 arg3 harg3 arg4 harg4 arg5 harg5 arg6 harg6 arg7 harg7 arg8 harg8 x0 x1 x2 x3 (ix3 0 r 0)
      = ((lse sg q k g (row b r) : ℝ) : EReal) := by
  have hi : (i 1).1 < 16 := (i 1).2
  have e2 : Scf.trips (Scalar.addi (0#32) (Scalar.muli (Scalar.divsi (Scalar.subi (BitVec.ofNat 32 (i 1).1) 0#32) 1#32) 1#32))
      (Scalar.addi (0#32) (Scalar.subi (BitVec.ofNat 32 (i 1).1) 0#32)) 1#32 = 0 := k0_t2_trips i
  have e1 : Scf.trips (0#32) (Scalar.addi (0#32) (Scalar.muli (Scalar.divsi (Scalar.subi (BitVec.ofNat 32 (i 1).1) 0#32) 1#32) 1#32)) 1#32
      = b.1 := (k0_t1_trips i).trans hb
  have hob : (Scalar.indexCast (Scalar.muli (BitVec.ofNat 32 (i 1).1) 512#32)).toNat = 512 * b.1 := by rw [off_block _ hi, hb]
  have hor : (Scalar.indexCast (BitVec.ofNat 32 (i 1).1)).toNat = b.1 := by rw [off_row _ hi, hb]
  have key := fun (inb0 : ∀ a, (![0, 0] : Fin 2 → ℕ) a + (![512, 128] : Fin 2 → ℕ) a ≤ S512x128.size a)
      (inb1 : ∀ a, (![(Scalar.indexCast (Scalar.muli (BitVec.ofNat 32 (i 1).1) 512#32)).toNat, 0] : Fin 2 → ℕ) a + (![512, 128] : Fin 2 → ℕ) a ≤ S8192x128.size a)
      (inb3 : ∀ a, (![(Scalar.indexCast (BitVec.ofNat 32 (i 1).1)).toNat, 0, 0] : Fin 3 → ℕ) a + (![1, 16, 512] : Fin 3 → ℕ) a ≤ S16x16x512.size a) =>
    k0_last (q := fun r => q (row b r)) (k := fun s => k (row b s)) (v := fun s => v (row b s)) (a := g (row b 0))
      (g := fun s => g (row b s)) (v2 := View.ld x3 (Rect.unit ![(Scalar.indexCast (BitVec.ofNat 32 (i 1).1)).toNat, 0, 0] ![1, 16, 512] inb3)) i hh
      (fun r x => (ld_whole x0 inb0 r x).trans (h0 r x))
      ((ld_row x3 _ b hor inb3 h 0).trans (h3 _ _))
      (fun r x => (ld_block x1 _ b hob inb1 r x).trans (h1 _ _))
      (fun s => (ld_row x3 _ b hor inb3 h s).trans (h3 _ _))
      (fun r x => (ld_block x2 _ b hob inb1 r x).trans (h2 _ _))
      (k0_inv c i arg2 harg2 arg3 harg3 arg4 harg4 arg5 harg5 arg6 harg6 arg7 harg7 arg8 harg8 hh hb h1 h2 h3
        (fun r x => (ld_whole x0 inb0 r x).trans (h0 r x)) ((ld_row x3 _ b hor inb3 h 0).trans (h3 _ _)) b.1 le_rfl r)
      (Finset.sum_nonneg fun j _ => Finset.sum_nonneg fun s _ => (Real.exp_pos _).le)
  refine ⟨fun d => ?_, fun d => ?_, ?_⟩
  · unfold out0_A_4
    rw [View.read_writes_eq_canon _ _ _ (cover0_A_4 c i arg2 harg2 arg3 harg3 arg4 harg4 arg5 harg5 arg6 harg6 arg7 harg7 arg8 harg8 x0 x1 x2 x3)]
    unfold kernelRun0_A
    dsimp only
    sl_unfold_words
    simp only [View.readAt_eq_ld, harg2.read_unread, harg3.read_unread, harg4.read_unread, harg5.read_unread, e2, st_k0_t2_zero, e1]
    rw [View.canon_unit_zero zero2]
    exact (k0_cast ..).trans (((key _ _ _).1 d).trans (congrArg _ (outp_blocks sg q k v g (g (row b 0)) b r d).symm))
  · unfold out0_A_5
    rw [View.read_writes_eq_canon _ _ _ (cover0_A_5 c i arg2 harg2 arg3 harg3 arg4 harg4 arg5 harg5 arg6 harg6 arg7 harg7 arg8 harg8 x0 x1 x2 x3)]
    unfold kernelRun0_A
    dsimp only
    sl_unfold_words
    simp only [View.readAt_eq_ld, harg2.read_unread, harg3.read_unread, harg4.read_unread, harg5.read_unread, e2, st_k0_t2_zero, e1]
    rw [View.canon_unit_zero zero2]
    exact ((key _ _ _).1 d).trans (congrArg _ (outp_blocks sg q k v g (g (row b 0)) b r d).symm)
  · unfold out0_A_6
    rw [View.read_writes_eq_canon _ _ _ (cover0_A_6 c i arg2 harg2 arg3 harg3 arg4 harg4 arg5 harg5 arg6 harg6 arg7 harg7 arg8 harg8 x0 x1 x2 x3)]
    unfold kernelRun0_A
    dsimp only
    sl_unfold_words
    simp only [View.readAt_eq_ld, harg2.read_unread, harg3.read_unread, harg4.read_unread, harg5.read_unread, e2, st_k0_t2_zero, e1]
    rw [View.canon_unit_zero zero3]
    refine (key _ _ _).2.trans (congrArg _ ?_)
    unfold lse
    rw [blk_row, tot_blocks]
    rfl

end Body

end Cert.Attn

end
-- ==== Proof.Arr0.lean ====
module

public import proofs.«01_k».proof.Proof.Body0
public import Idealize.ShloMosaic.Lib.Pipeline.ValueKit

@[expose] public section

/-! What the forward call leaves in its three arrays, given the real numbers in its operands. -/

set_option maxRecDepth 16384

noncomputable section

namespace Cert.Attn

open Cert.KernelIdeal Cert.KernelIdeal.Gen Idealize.ShloMosaic Idealize.ShloMosaic.TcCoe

/-- The column of a head's feature. -/
def col (h : Fin 16) (d : Fin 128) : Fin 2048 := ⟨128 * h.1 + d.1, by have := h.2; have := d.2; omega⟩

/-- The head of a column. -/
def hd (x : Fin 2048) : Fin 16 := ⟨x.1 / 128, by have := x.2; omega⟩

/-- The feature of a column. -/
def ft (x : Fin 2048) : Fin 128 := ⟨x.1 % 128, by omega⟩

theorem hd_col (h : Fin 16) (d : Fin 128) : hd (col h d) = h := by
  have := d.2; apply Fin.ext; show (128 * h.1 + d.1) / 128 = h.1; omega

theorem ft_col (h : Fin 16) (d : Fin 128) : ft (col h d) = d := by
  have := d.2; apply Fin.ext; show (128 * h.1 + d.1) % 128 = d.1; omega

theorem col_hd (x : Fin 2048) : col (hd x) (ft x) = x := by
  apply Fin.ext; show 128 * (x.1 / 128) + x.1 % 128 = x.1; omega

/-- A function of head, row and feature, read at a row and a column. -/
def by_col (f : Fin 16 → Fin 8192 → Fin 128 → ℝ) (t : Fin 8192) (x : Fin 2048) : EReal := ((f (hd x) t (ft x) : ℝ) : EReal)

theorem by_col_col (f : Fin 16 → Fin 8192 → Fin 128 → ℝ) (h : Fin 16) (t : Fin 8192) (d : Fin 128) :
    by_col f t (col h d) = ((f h t d : ℝ) : EReal) := by
  unfold by_col; rw [hd_col, ft_col]

/-- A function of head and row. -/
def by_head (f : Fin 16 → Fin 8192 → ℝ) (h : Fin 16) (t : Fin 8192) : EReal := ((f h t : ℝ) : EReal)

/-- An index of a column is given by its row. -/
theorem col_idx (y : S1x512x1.Idx) : ∃ r : Fin 512, y = ix3 0 r 0 :=
  ⟨y 1, (eq_ix3 y).trans (congrArg₂ (fun a b => ix3 a (y 1) b) (Subsingleton.elim _ _) (Subsingleton.elim _ _))⟩

theorem col_val (h : Fin 16) (d : Fin 128) : (col h d).1 = h.1 * 128 + d.1 := by
  show 128 * h.1 + d.1 = _; omega

theorem row_val (i : Fin 16) (r : Fin 512) : (row i r).1 = i.1 * 512 + r.1 := by
  show 512 * i.1 + r.1 = _; omega

/-- The head a point of the grid works on. -/
abbrev gh0 (t : Fin cfg0.N) : Fin 16 := grid0.coords t 0

/-- The block of rows a point of the grid works on. -/
abbrev gb0 (t : Fin cfg0.N) : Fin 16 := grid0.coords t 1

theorem ix0_0 : ∀ t : Fin cfg0.N, win0_0.index t = ![(grid0.coords t 1).val, (grid0.coords t 0).val] :=
  (by decide +kernel : ∀ t : Fin grid0.N, _)

theorem ix0_1 : ∀ t : Fin cfg0.N, win0_1.index t = ![0, (grid0.coords t 0).val] := (by decide +kernel : ∀ t : Fin grid0.N, _)

theorem ix0_2 : ∀ t : Fin cfg0.N, win0_2.index t = ![0, (grid0.coords t 0).val] := (by decide +kernel : ∀ t : Fin grid0.N, _)

theorem ix0_3 : ∀ t : Fin cfg0.N, win0_3.index t = ![0, 0, 0] := (by decide +kernel : ∀ t : Fin grid0.N, _)

theorem ix0_4 : ∀ t : Fin cfg0.N, win0_4.index t = ![(grid0.coords t 1).val, (grid0.coords t 0).val] :=
  (by decide +kernel : ∀ t : Fin grid0.N, _)

theorem ix0_5 : ∀ t : Fin cfg0.N, win0_5.index t = ![(grid0.coords t 1).val, (grid0.coords t 0).val] :=
  (by decide +kernel : ∀ t : Fin grid0.N, _)

theorem ix0_6 : ∀ t : Fin cfg0.N, win0_6.index t = ![(grid0.coords t 0).val, (grid0.coords t 1).val, 0] :=
  (by decide +kernel : ∀ t : Fin grid0.N, _)

section Region

variable (V : (c : Dev nD) → (b : Ref sig .tc) → Buf (Elt Ideal) ((c : Thread nD τ).loc b)) (c : Dev nD)
  {q k v : Fin 16 → Fin 8192 → Fin 128 → ℝ} {g : Fin 16 → Fin 8192 → ℝ}

theorem blk0_0 (t : Fin cfg0.N) (r : Fin 512) (x : Fin 128) :
    iblk0 V c 0 t (ix2 r x) = V c main_arg0 (ix2 (row (gb0 t) r) (col (gh0 t) x)) := by
  blk_simp [iblk0]
  blk_ext [ix0_0, row_val, col_val]

theorem blk0_1 (t : Fin cfg0.N) (r : Fin 8192) (x : Fin 128) :
    iblk0 V c 1 t (ix2 r x) = V c main_arg1 (ix2 r (col (gh0 t) x)) := by
  blk_simp [iblk0]
  blk_ext [ix0_1, col_val]

theorem blk0_2 (t : Fin cfg0.N) (r : Fin 8192) (x : Fin 128) :
    iblk0 V c 2 t (ix2 r x) = V c main_arg2 (ix2 r (col (gh0 t) x)) := by
  blk_simp [iblk0]
  blk_ext [ix0_2, col_val]

theorem blk0_3 (t : Fin cfg0.N) (j h : Fin 16) (s : Fin 512) : iblk0 V c 3 t (ix3 j h s) = V c main_v1 (ix3 j h s) := by
  blk_simp [iblk0]
  blk_ext [ix0_3]

variable (hq : ∀ h t d, V c main_arg0 (ix2 t (col h d)) = (q h t d : EReal))
  (hk : ∀ h t d, V c main_arg1 (ix2 t (col h d)) = (k h t d : EReal))
  (hv : ∀ h t d, V c main_arg2 (ix2 t (col h d)) = (v h t d : EReal))
  (hc : ∀ h j s, V c main_v1 (ix3 j h s) = (g h (row j s) : EReal))

include hq hk hv hc

/-- What one point of the grid leaves. -/
theorem point0 (t : Fin cfg0.N) (r : Fin 512) :
    (∀ d : Fin 128, (outsAt0 V c t).1 (ix2 r d)
      = ((outp sg (q (gh0 t)) (k (gh0 t)) (v (gh0 t)) (g (gh0 t)) (row (gb0 t) r) d : ℝ) : EReal)) ∧
    (∀ d : Fin 128, (outsAt0 V c t).2.1 (ix2 r d)
      = ((outp sg (q (gh0 t)) (k (gh0 t)) (v (gh0 t)) (g (gh0 t)) (row (gb0 t) r) d : ℝ) : EReal)) ∧
    (outsAt0 V c t).2.2 (ix3 0 r 0) = ((lse sg (q (gh0 t)) (k (gh0 t)) (g (gh0 t)) (row (gb0 t) r) : ℝ) : EReal) := by
  have b0 := fun r x => (blk0_0 V c t r x).trans (hq _ _ _)
  have b1 := fun r x => (blk0_1 V c t r x).trans (hk _ _ _)
  have b2 := fun r x => (blk0_2 V c t r x).trans (hv _ _ _)
  have b3 := fun j s => (blk0_3 V c t j (gh0 t) s).trans (hc _ _ _)
  unfold outsAt0
  generalize iblk0 V c 0 t = x0 at b0 ⊢
  generalize iblk0 V c 1 t = x1 at b1 ⊢
  generalize iblk0 V c 2 t = x2 at b2 ⊢
  generalize iblk0 V c 3 t = x3 at b3 ⊢
  dsimp only
  exact k0_body (h := gh0 t) (b := gb0 t) c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) rfl rfl b0 b1 b2 b3 r

/-- The attention's output, rounded. -/
theorem arr0_4 (h : Fin 16) (t : Fin 8192) (d : Fin 128) :
    (dat0 V c).arrAt 4 cfg0.N (ix2 t (col h d)) = ((outp sg (q h) (k h) (v h) (g h) t d : ℝ) : EReal) := by
  refine (congrFun ((dat0 V c).arrAt_eq_of_covers 4
    (fun i => by_col (fun h t d => outp sg (q h) (k h) (v h) (g h) t d) (i 0) (i 1))
    (by decide +kernel) fun u hf y => ?_) _).trans (by_col_col _ h t d)
  obtain ⟨r, x, rfl⟩ : ∃ (r : Fin 512) (x : Fin 128), y = ix2 r x := ⟨y 0, y 1, eq_ix2 y⟩
  have e0 : ((cfg0.win 4).blk u).view.emb (ix2 r x) 0 = row (gb0 u) r := by
    apply Fin.ext; blk_simp [ix0_4]; exact (row_val _ _).symm
  have e1 : ((cfg0.win 4).blk u).view.emb (ix2 r x) 1 = col (gh0 u) x := by
    apply Fin.ext; blk_simp [ix0_4]; exact (col_val _ _).symm
  refine Eq.trans ?_ ((congrArg₂ (by_col _) e0 e1).trans (by_col_col _ _ _ _)).symm
  blk_simp
  rw [after0_4]
  exact (point0 V c hq hk hv hc u r).1 x

/-- The attention's output, in single precision. -/
theorem arr0_5 (h : Fin 16) (t : Fin 8192) (d : Fin 128) :
    (dat0 V c).arrAt 5 cfg0.N (ix2 t (col h d)) = ((outp sg (q h) (k h) (v h) (g h) t d : ℝ) : EReal) := by
  refine (congrFun ((dat0 V c).arrAt_eq_of_covers 5
    (fun i => by_col (fun h t d => outp sg (q h) (k h) (v h) (g h) t d) (i 0) (i 1))
    (by decide +kernel) fun u hf y => ?_) _).trans (by_col_col _ h t d)
  obtain ⟨r, x, rfl⟩ : ∃ (r : Fin 512) (x : Fin 128), y = ix2 r x := ⟨y 0, y 1, eq_ix2 y⟩
  have e0 : ((cfg0.win 5).blk u).view.emb (ix2 r x) 0 = row (gb0 u) r := by
    apply Fin.ext; blk_simp [ix0_5]; exact (row_val _ _).symm
  have e1 : ((cfg0.win 5).blk u).view.emb (ix2 r x) 1 = col (gh0 u) x := by
    apply Fin.ext; blk_simp [ix0_5]; exact (col_val _ _).symm
  refine Eq.trans ?_ ((congrArg₂ (by_col _) e0 e1).trans (by_col_col _ _ _ _)).symm
  blk_simp
  rw [after0_5]
  exact (point0 V c hq hk hv hc u r).2.1 x

/-- The logarithms of the sums of weights. -/
theorem arr0_6 (h : Fin 16) (t : Fin 8192) :
    (dat0 V c).arrAt 6 cfg0.N (ix3 h t 0) = ((lse sg (q h) (k h) (g h) t : ℝ) : EReal) := by
  refine congrFun ((dat0 V c).arrAt_eq_of_covers 6
    (fun i => by_head (fun h t => lse sg (q h) (k h) (g h) t) (i 0) (i 1))
    (by decide +kernel) fun u hf y => ?_) (ix3 h t 0)
  obtain ⟨r, rfl⟩ : ∃ r : Fin 512, y = ix3 0 r 0 := col_idx y
  have e0 : ((cfg0.win 6).blk u).view.emb (ix3 0 r 0) 0 = gh0 u := by
    apply Fin.ext; blk_simp [ix0_6]; exact Nat.add_zero _
  have e1 : ((cfg0.win 6).blk u).view.emb (ix3 0 r 0) 1 = row (gb0 u) r := by
    apply Fin.ext; blk_simp [ix0_6]; exact (row_val _ _).symm
  refine Eq.trans ?_ (congrArg₂ (by_head _) e0 e1).symm
  blk_simp
  rw [after0_6]
  exact (point0 V c hq hk hv hc u r).2.2

end Region

end Cert.Attn

end
-- ==== Proof.Pay2.lean ====
module

public import proofs.«01_k».proof.Proof.Pay0

@[expose] public section

/-! What the body of the queries' gradient, and the body that multiplies the output by its cotangent, compute from one
block, read at an index, where every number they read is real. -/

set_option maxRecDepth 16384

noncomputable section

namespace Cert.Attn

open Cert.KernelIdeal Cert.KernelIdeal.Gen Idealize.ShloMosaic

/-- The row sums of a product. -/
theorem k1_rows {w o : Fin 512 → Fin 128 → ℝ} {v0 : Vec Ideal S512x128 .bf16} {v2 : Vec Ideal S512x128 .f32}
    (hw : ∀ r x, v0 (ix2 r x) = (w r x : EReal)) (ho : ∀ r x, v2 (ix2 r x) = (o r x : EReal)) (r : Fin 512) :
    k1_pay1 (F := Ideal) v0 v2 (ix3 0 r 0) = ((∑ x, w r x * o r x : ℝ) : EReal) := by
  pointwise [k1_pay1]
  simp only [hw, ho, ← EReal.coe_mul, coe_sum]

/-- The cotangent of a score of a block, before the weight is multiplied in. -/
def bdp (v w : Fin 512 → Fin 128 → ℝ) (δ : Fin 512 → ℝ) (r c : Fin 512) : ℝ := (∑ x, w r x * v c x) - δ r

section Dq

variable {q k v w : Fin 512 → Fin 128 → ℝ} {a : ℝ} {g e δ : Fin 512 → ℝ} (i : grid2.Coords) {h : Fin 16}
  {v0 v1 vk vv : Vec Ideal S512x128 .bf16} {v2 v4 : Vec Ideal S1x512x1 .f32} {v7 vg : Vec Ideal S1x16x512 .f32}

theorem k2_first (hh : (i 0).1 = h.1) (ha : v7 (ix3 0 h 0) = (a : EReal)) : k2_pay4 (F := Ideal) i v7 (ix2 0 0) = (a : EReal) := by
  pointwise [k2_pay4]
  simp only [hh, select_and (n := 16) (k := 511) (by norm_num) (by norm_num)]
  simp [ha, Finset.sum_ite_eq']

/-- One trip of the loop adds one block's terms. -/
theorem k2_trip (hh : (i 0).1 = h.1) (hq : ∀ r x, v0 (ix2 r x) = (q r x : EReal)) (hw : ∀ r x, v1 (ix2 r x) = (w r x : EReal))
    (he : ∀ r, v2 (ix3 0 r 0) = (e r : EReal)) (hδ : ∀ r, v4 (ix3 0 r 0) = (δ r : EReal)) (ha : v7 (ix3 0 h 0) = (a : EReal))
    (hk : ∀ r x, vk (ix2 r x) = (k r x : EReal)) (hg : ∀ c, vg (ix3 0 h c) = (g c : EReal))
    (hv : ∀ r x, vv (ix2 r x) = (v r x : EReal)) {acc : FVec Ideal S512x128 .f32} {r : Fin 512} {d : Fin 128} {A : ℝ}
    (H : acc (ix2 r d) = (A : EReal)) :
    k2_pay6 (F := Ideal) i v0 v1 v2 v4 v7 acc vk vg vv (ix2 r d)
      = ((A + ∑ c, Real.exp (bsc q k a g r c - e r) * bdp v w δ r c * k c d : ℝ) : EReal) := by
  pointwise [k2_pay6, k2_pay2, k2_pay3]
  rw [k2_first i hh ha]
  simp only [hh, select_eq (n := 16) (by norm_num), Finset.sum_ite_eq', Finset.mem_univ, if_true, hq, hk, hg, hw, hv, he, hδ, H,
    bits_scale, ← EReal.coe_mul, coe_sum, ← EReal.coe_sub, ← EReal.coe_add, exp_coe, bsc, bdp]

/-- The last step adds the diagonal block's terms under the causal mask, and scales. -/
theorem k2_last (hh : (i 0).1 = h.1) (hq : ∀ r x, v0 (ix2 r x) = (q r x : EReal)) (hw : ∀ r x, v1 (ix2 r x) = (w r x : EReal))
    (he : ∀ r, v2 (ix3 0 r 0) = (e r : EReal)) (hδ : ∀ r, v4 (ix3 0 r 0) = (δ r : EReal)) (ha : v7 (ix3 0 h 0) = (a : EReal))
    (hk : ∀ r x, vk (ix2 r x) = (k r x : EReal)) (hg : ∀ c, vg (ix3 0 h c) = (g c : EReal))
    (hv : ∀ r x, vv (ix2 r x) = (v r x : EReal)) {acc : FVec Ideal S512x128 .f32} {r : Fin 512} {d : Fin 128} {A : ℝ}
    (H : acc (ix2 r d) = (A : EReal)) :
    k2_pay1 (F := Ideal) (BitVec.ofNat 32 (i 0).1) v0 v1 (k2_pay2 v2) (k2_pay3 v4) (k2_pay4 i v7) acc vk
        (constant S512x512 .f32 0x00000000#32) vg vv (ix2 r d)
      = (((A + ∑ c, (if c ≤ r then Real.exp (bsc q k a g r c - e r) else 0) * bdp v w δ r c * k c d) * sg : ℝ) : EReal) := by
  pointwise [k2_pay1, k2_pay2, k2_pay3]
  rw [k2_first i hh ha]
  have hx : ∀ c : Fin 512, Ideal.exp ((if c ≤ r then (((∑ x, q r x * k c x) * sg + (a - g c) : ℝ) : EReal) else ⊥) - ((e r : ℝ) : EReal))
      = (((if c ≤ r then Real.exp (bsc q k a g r c - e r) else 0 : ℝ)) : EReal) := by
    intro c
    split
    · rw [← EReal.coe_sub, exp_coe]; rfl
    · rw [EReal.bot_sub, exp_bot, EReal.coe_zero]
  simp only [hh, select_eq (n := 16) (by norm_num), select_sle (n := 512) (by norm_num), Finset.sum_ite_eq', Finset.mem_univ,
    if_true, hq, hk, hg, hw, hv, he, hδ, H, bits_scale, named_mask, ← EReal.coe_mul, coe_sum, ← EReal.coe_sub, ← EReal.coe_add,
    hx, bdp]

end Dq

end Cert.Attn

end
-- ==== Proof.Body2.lean ====
module

public import proofs.«01_k».proof.Proof.Body0
public import proofs.«01_k».proof.Proof.Pay2

@[expose] public section

/-! What one run of the queries' body leaves: the gradient of a block of queries of a head. -/

set_option maxRecDepth 16384

noncomputable section

namespace Cert.Attn

open Cert.KernelIdeal Cert.KernelIdeal.Gen Idealize.ShloMosaic

/-- A whole column. -/
theorem ld_col (X : Vec Ideal S1x512x1 .f32) (inb : ∀ a, (![0, 0, 0] : Fin 3 → ℕ) a + (![1, 512, 1] : Fin 3 → ℕ) a ≤ S1x512x1.size a)
    (r : Fin 512) : View.ld X (Rect.unit ![0, 0, 0] ![1, 512, 1] inb) (ix3 0 r 0) = X (ix3 0 r 0) := by
  pointwise

theorem k2_t1_trips (i : grid2.Coords) : (k2_t1_loop i).trips = (i 1).1 := by
  revert i; decide +kernel

theorem k2_t2_trips (i : grid2.Coords) : (k2_t2_loop i).trips = 0 := by
  revert i; decide +kernel

section Body

variable {q k v w : Fin 8192 → Fin 128 → ℝ} {g : Fin 8192 → ℝ} {h b : Fin 16}
  (c : Dev nD) (i : grid2.Coords) (arg2 : Memref sig .tc .vmem S512x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S512x128 .bf16) (harg5 : arg5.IsWhole) (arg6 : Memref sig .tc .vmem S16x16x512 .f32) (harg6 : arg6.IsWhole)
  (arg7 : Memref sig .tc .vmem S1x512x1 .f32) (harg7 : arg7.IsWhole) (arg8 : Memref sig .tc .vmem S1x512x1 .f32) (harg8 : arg8.IsWhole)
  (arg9 : Memref sig .tc .vmem S512x128 .bf16) (harg9 : arg9.IsWhole)
  {x0 x3 : Vec Ideal S512x128 .bf16} {x1 x2 : Vec Ideal S8192x128 .bf16} {x4 : Vec Ideal S16x16x512 .f32} {x5 x6 : Vec Ideal S1x512x1 .f32}

/-- Before trip `n` the loop carries the sum over the first `n` blocks of keys. -/
theorem k2_inv (hh : (i 0).1 = h.1) (hb : (i 1).1 = b.1) (h1 : ∀ t x, x1 (ix2 t x) = (k t x : EReal))
    (h2 : ∀ t x, x2 (ix2 t x) = (v t x : EReal)) (h4 : ∀ j s, x4 (ix3 j h s) = (g (row j s) : EReal))
    {v0 v1 : Vec Ideal S512x128 .bf16} {v2 v4 : Vec Ideal S1x512x1 .f32} {v7 : Vec Ideal S1x16x512 .f32}
    (hq : ∀ r x, v0 (ix2 r x) = (q (row b r) x : EReal)) (hw : ∀ r x, v1 (ix2 r x) = (w (row b r) x : EReal))
    (he : ∀ r, v2 (ix3 0 r 0) = (lse sg q k g (row b r) : EReal)) (hδ : ∀ r, v4 (ix3 0 r 0) = (dlt sg q k v w g (row b r) : EReal))
    (ha : v7 (ix3 0 h 0) = (g (row b 0) : EReal)) (n : ℕ) (hn : n ≤ b.1) (r : Fin 512) (d : Fin 128) :
    st_k2_t1 Variants.none c none i arg2 harg2 arg3 harg3 arg4 harg4 arg5 harg5 arg6 harg6 arg7 harg7 arg8 harg8 arg9 harg9
        v0 v1 v2 v4 v7 (harg3.unread x1) (harg4.unread x2) (harg6.unread x4) k2_pay5 n (ix2 r d)
      = ((∑ j ∈ lower n, ∑ s, Real.exp (sc sg q k g (g (row b 0)) (row b r) (row j s) - lse sg q k g (row b r))
          * (dwt v w (row b r) (row j s) - dlt sg q k v w g (row b r)) * k (row j s) d : ℝ) : EReal) := by
  induction n with
  | zero =>
    rw [st_k2_t1_zero, lower_zero, Finset.sum_empty]
    pointwise [k2_pay5]
    exact EReal.coe_zero.symm
  | succ n ih =>
    have hb16 := b.2
    have hn16 : n < 16 := by omega
    rw [st_k2_t1_succ (k := ⟨n, by rw [k2_t1_trips, hb]; omega⟩)]
    unfold tripR_k2_t1 trip_k2_t1
    dsimp only
    sl_unfold_words
    simp only [View.readAt_eq_ld, harg3.read_unread, harg4.read_unread, harg6.read_unread]
    rw [sum_lower_succ hn16]
    exact k2_trip (q := fun r => q (row b r)) (k := fun s => k (row ⟨n, hn16⟩ s)) (v := fun s => v (row ⟨n, hn16⟩ s))
      (w := fun r => w (row b r)) (g := fun s => g (row ⟨n, hn16⟩ s)) (e := fun r => lse sg q k g (row b r))
      (δ := fun r => dlt sg q k v w g (row b r)) i hh hq hw he hδ ha
      (fun r x => (ld_block x1 _ ⟨n, hn16⟩ (off_block_iv n hn16) _ r x).trans (h1 _ _))
      (fun s => (ld_row x4 _ ⟨n, hn16⟩ (off_row_iv n hn16) _ h s).trans (h4 _ _))
      (fun r x => (ld_block x2 _ ⟨n, hn16⟩ (off_block_iv n hn16) _ r x).trans (h2 _ _))
      (ih (by omega))

/-- The body's result. -/
theorem k2_body (hh : (i 0).1 = h.1) (hb : (i 1).1 = b.1) (h0 : ∀ r x, x0 (ix2 r x) = (q (row b r) x : EReal))
    (h1 : ∀ t x, x1 (ix2 t x) = (k t x : EReal)) (h2 : ∀ t x, x2 (ix2 t x) = (v t x : EReal))
    (h3 : ∀ r x, x3 (ix2 r x) = (w (row b r) x : EReal)) (h4 : ∀ j s, x4 (ix3 j h s) = (g (row j s) : EReal))
    (h5 : ∀ r, x5 (ix3 0 r 0) = (lse sg q k g (row b r) : EReal)) (h6 : ∀ r, x6 (ix3 0 r 0) = (dlt sg q k v w g (row b r) : EReal))
    (r : Fin 512) (d : Fin 128) :
    out2_A_7 (F := Ideal) c i arg2 harg2 arg3 harg3 arg4 harg4 arg5 harg5 arg6 harg6 arg7 harg7 arg8 harg8 arg9 harg9 x0 x1 x2 x3 x4 x5 x6 (ix2 r d)
      = ((gradQ sg q k v w g (row b r) d : ℝ) : EReal) := by
  have hi : (i 1).1 < 16 := (i 1).2
  have e2 : Scf.trips (Scalar.addi (0#32) (Scalar.muli (Scalar.divsi (Scalar.subi (BitVec.ofNat 32 (i 1).1) 0#32) 1#32) 1#32))
      (Scalar.addi (0#32) (Scalar.subi (BitVec.ofNat 32 (i 1).1) 0#32)) 1#32 = 0 := k2_t2_trips i
  have e1 : Scf.trips (0#32) (Scalar.addi (0#32) (Scalar.muli (Scalar.divsi (Scalar.subi (BitVec.ofNat 32 (i 1).1) 0#32) 1#32) 1#32)) 1#32
      = b.1 := (k2_t1_trips i).trans hb
  have hob : (Scalar.indexCast (Scalar.muli (BitVec.ofNat 32 (i 1).1) 512#32)).toNat = 512 * b.1 := by rw [off_block _ hi, hb]
  have hor : (Scalar.indexCast (BitVec.ofNat 32 (i 1).1)).toNat = b.1 := by rw [off_row _ hi, hb]
  unfold out2_A_7
  rw [View.read_writes_eq_canon _ _ _ (cover2_A_7 c i arg2 harg2 arg3 harg3 arg4 harg4 arg5 harg5 arg6 harg6 arg7 harg7 arg8 harg8 arg9 harg9 x0 x1 x2 x3 x4 x5 x6)]
  unfold kernelRun2_A
  dsimp only
  sl_unfold_words
  simp only [View.readAt_eq_ld, harg2.read_unread, harg3.read_unread, harg4.read_unread, harg5.read_unread, harg6.read_unread,
    harg7.read_unread, harg8.read_unread, e2, st_k2_t2_zero, e1]
  rw [View.canon_unit_zero zero2]
  have hs := fun (r : Fin 512) (x : Fin 128) inb => (ld_whole x0 inb r x).trans (h0 r x)
  have hw := fun (r : Fin 512) (x : Fin 128) inb => (ld_whole x3 inb r x).trans (h3 r x)
  have he := fun (r : Fin 512) inb => (ld_col x5 inb r).trans (h5 r)
  have hδ := fun (r : Fin 512) inb => (ld_col x6 inb r).trans (h6 r)
  refine (k2_last (q := fun r => q (row b r)) (k := fun s => k (row b s)) (v := fun s => v (row b s)) (w := fun r => w (row b r))
    (a := g (row b 0)) (g := fun s => g (row b s)) (e := fun r => lse sg q k g (row b r)) (δ := fun r => dlt sg q k v w g (row b r)) i hh
    (fun r x => hs r x _) (fun r x => hw r x _) (fun r => he r _) (fun r => hδ r _)
    ((ld_row x4 _ b hor _ h 0).trans (h4 _ _))
    (fun r x => (ld_block x1 _ b hob _ r x).trans (h1 _ _))
    (fun s => (ld_row x4 _ b hor _ h s).trans (h4 _ _))
    (fun r x => (ld_block x2 _ b hob _ r x).trans (h2 _ _))
    (k2_inv c i arg2 harg2 arg3 harg3 arg4 harg4 arg5 harg5 arg6 harg6 arg7 harg7 arg8 harg8 arg9 harg9 hh hb h1 h2 h4
      (fun r x => hs r x _) (fun r x => hw r x _) (fun r => he r _) (fun r => hδ r _)
      ((ld_row x4 _ b hor _ h 0).trans (h4 _ _)) b.1 le_rfl r d)).trans (congrArg _ ?_)
  unfold gradQ dsc
  congr 1
  simp only [mul_assoc]
  rw [sum_wt_mul]
  rfl

end Body

end Cert.Attn

end
-- ==== Proof.Arr2.lean ====
module

public import proofs.«01_k».proof.Proof.Arr0
public import proofs.«01_k».proof.Proof.Body2

@[expose] public section

/-! What the two calls after the forward one leave: the inner products of the output and its cotangent, and the gradient of
the queries. -/

set_option maxRecDepth 16384

noncomputable section

namespace Cert.Attn

open Cert.KernelIdeal Cert.KernelIdeal.Gen Idealize.ShloMosaic Idealize.ShloMosaic.TcCoe

/-- The head a point of this grid works on. -/
abbrev gh1 (t : Fin cfg1.N) : Fin 16 := grid1.coords t 1

/-- The block of rows a point of this grid works on. -/
abbrev gb1 (t : Fin cfg1.N) : Fin 16 := grid1.coords t 0

theorem ix1_0 : ∀ t : Fin cfg1.N, win1_0.index t = ![(grid1.coords t 0).val, (grid1.coords t 1).val] := (by decide +kernel : ∀ t : Fin grid1.N, _)

theorem ix1_1 : ∀ t : Fin cfg1.N, win1_1.index t = ![(grid1.coords t 0).val, (grid1.coords t 1).val] := (by decide +kernel : ∀ t : Fin grid1.N, _)

theorem ix1_2 : ∀ t : Fin cfg1.N, win1_2.index t = ![(grid1.coords t 1).val, (grid1.coords t 0).val, 0] := (by decide +kernel : ∀ t : Fin grid1.N, _)

/-- The head a point of this grid works on. -/
abbrev gh2 (t : Fin cfg2.N) : Fin 16 := grid2.coords t 0

/-- The block of rows a point of this grid works on. -/
abbrev gb2 (t : Fin cfg2.N) : Fin 16 := grid2.coords t 1

theorem ix2_0 : ∀ t : Fin cfg2.N, win2_0.index t = ![(grid2.coords t 1).val, (grid2.coords t 0).val] := (by decide +kernel : ∀ t : Fin grid2.N, _)

theorem ix2_1 : ∀ t : Fin cfg2.N, win2_1.index t = ![0, (grid2.coords t 0).val] := (by decide +kernel : ∀ t : Fin grid2.N, _)

theorem ix2_2 : ∀ t : Fin cfg2.N, win2_2.index t = ![0, (grid2.coords t 0).val] := (by decide +kernel : ∀ t : Fin grid2.N, _)

theorem ix2_3 : ∀ t : Fin cfg2.N, win2_3.index t = ![(grid2.coords t 1).val, (grid2.coords t 0).val] := (by decide +kernel : ∀ t : Fin grid2.N, _)

theorem ix2_4 : ∀ t : Fin cfg2.N, win2_4.index t = ![0, 0, 0] := (by decide +kernel : ∀ t : Fin grid2.N, _)

theorem ix2_5 : ∀ t : Fin cfg2.N, win2_5.index t = ![(grid2.coords t 0).val, (grid2.coords t 1).val, 0] := (by decide +kernel : ∀ t : Fin grid2.N, _)

theorem ix2_6 : ∀ t : Fin cfg2.N, win2_6.index t = ![(grid2.coords t 0).val, (grid2.coords t 1).val, 0] := (by decide +kernel : ∀ t : Fin grid2.N, _)

theorem ix2_7 : ∀ t : Fin cfg2.N, win2_7.index t = ![(grid2.coords t 1).val, (grid2.coords t 0).val] := (by decide +kernel : ∀ t : Fin grid2.N, _)

section Region

variable (V : (c : Dev nD) → (b : Ref sig .tc) → Buf (Elt Ideal) ((c : Thread nD τ).loc b)) (c : Dev nD)
  {q k v w : Fin 16 → Fin 8192 → Fin 128 → ℝ} {g : Fin 16 → Fin 8192 → ℝ}

theorem blk1_0 (t : Fin cfg1.N) (r : Fin 512) (x : Fin 128) :
    iblk1 V c 0 t (ix2 r x) = V c main_arg3 (ix2 (row (gb1 t) r) (col (gh1 t) x)) := by
  blk_simp [iblk1]
  blk_ext [ix1_0, row_val, col_val]

theorem blk1_1 (t : Fin cfg1.N) (r : Fin 512) (x : Fin 128) :
    iblk1 V c 1 t (ix2 r x) = V c main_v3_1 (ix2 (row (gb1 t) r) (col (gh1 t) x)) := by
  blk_simp [iblk1]
  blk_ext [ix1_1, row_val, col_val]

/-- The inner products of the output and its cotangent, given both. -/
theorem arr1_2 (hw : ∀ h t d, V c main_arg3 (ix2 t (col h d)) = (w h t d : EReal))
    (ho : ∀ h t d, V c main_v3_1 (ix2 t (col h d)) = ((outp sg (q h) (k h) (v h) (g h) t d : ℝ) : EReal)) (h : Fin 16) (t : Fin 8192) :
    (dat1 V c).arrAt 2 cfg1.N (ix3 h t 0) = ((dlt sg (q h) (k h) (v h) (w h) (g h) t : ℝ) : EReal) := by
  refine congrFun ((dat1 V c).arrAt_eq_of_covers 2 (fun i => by_head (fun h t => dlt sg (q h) (k h) (v h) (w h) (g h) t) (i 0) (i 1))
    (by decide +kernel) fun u hf y => ?_) (ix3 h t 0)
  obtain ⟨r, rfl⟩ : ∃ r : Fin 512, y = ix3 0 r 0 := col_idx y
  have e0 : ((cfg1.win 2).blk u).view.emb (ix3 0 r 0) 0 = gh1 u := by
    apply Fin.ext; blk_simp [ix1_2]; exact Nat.add_zero _
  have e1 : ((cfg1.win 2).blk u).view.emb (ix3 0 r 0) 1 = row (gb1 u) r := by
    apply Fin.ext; blk_simp [ix1_2]; exact (row_val _ _).symm
  refine Eq.trans ?_ (congrArg₂ (by_head _) e0 e1).symm
  blk_simp
  rw [after1_2]
  unfold out1_2
  rw [View.canon_unit_zero zero3]
  exact k1_rows (w := fun r x => w (gh1 u) (row (gb1 u) r) x)
    (o := fun r x => outp sg (q (gh1 u)) (k (gh1 u)) (v (gh1 u)) (g (gh1 u)) (row (gb1 u) r) x)
    (fun r x => (ld_whole _ _ r x).trans ((blk1_0 V c u r x).trans (hw _ _ _)))
    (fun r x => (ld_whole _ _ r x).trans ((blk1_1 V c u r x).trans (ho _ _ _))) r

theorem blk2_0 (t : Fin cfg2.N) (r : Fin 512) (x : Fin 128) :
    iblk2 V c 0 t (ix2 r x) = V c main_arg0 (ix2 (row (gb2 t) r) (col (gh2 t) x)) := by
  blk_simp [iblk2]
  blk_ext [ix2_0, row_val, col_val]

theorem blk2_1 (t : Fin cfg2.N) (r : Fin 8192) (x : Fin 128) :
    iblk2 V c 1 t (ix2 r x) = V c main_arg1 (ix2 r (col (gh2 t) x)) := by
  blk_simp [iblk2]
  blk_ext [ix2_1, col_val]

theorem blk2_2 (t : Fin cfg2.N) (r : Fin 8192) (x : Fin 128) :
    iblk2 V c 2 t (ix2 r x) = V c main_arg2 (ix2 r (col (gh2 t) x)) := by
  blk_simp [iblk2]
  blk_ext [ix2_2, col_val]

theorem blk2_3 (t : Fin cfg2.N) (r : Fin 512) (x : Fin 128) :
    iblk2 V c 3 t (ix2 r x) = V c main_arg3 (ix2 (row (gb2 t) r) (col (gh2 t) x)) := by
  blk_simp [iblk2]
  blk_ext [ix2_3, row_val, col_val]

theorem blk2_4 (t : Fin cfg2.N) (j h : Fin 16) (s : Fin 512) : iblk2 V c 4 t (ix3 j h s) = V c main_v1 (ix3 j h s) := by
  blk_simp [iblk2]
  blk_ext [ix2_4]

theorem blk2_5 (t : Fin cfg2.N) (r : Fin 512) :
    iblk2 V c 5 t (ix3 0 r 0) = V c main_v3_2 (ix3 (gh2 t) (row (gb2 t) r) 0) := by
  blk_simp [iblk2]
  blk_ext [ix2_5, row_val]
  exact Nat.add_zero _

theorem blk2_6 (t : Fin cfg2.N) (r : Fin 512) :
    iblk2 V c 6 t (ix3 0 r 0) = V c main_v4 (ix3 (gh2 t) (row (gb2 t) r) 0) := by
  blk_simp [iblk2]
  blk_ext [ix2_6, row_val]
  exact Nat.add_zero _

variable (hq : ∀ h t d, V c main_arg0 (ix2 t (col h d)) = (q h t d : EReal))
  (hk : ∀ h t d, V c main_arg1 (ix2 t (col h d)) = (k h t d : EReal))
  (hv : ∀ h t d, V c main_arg2 (ix2 t (col h d)) = (v h t d : EReal))
  (hw : ∀ h t d, V c main_arg3 (ix2 t (col h d)) = (w h t d : EReal))
  (hc : ∀ h j s, V c main_v1 (ix3 j h s) = (g h (row j s) : EReal))
  (hl : ∀ h t, V c main_v3_2 (ix3 h t 0) = ((lse sg (q h) (k h) (g h) t : ℝ) : EReal))
  (hδ : ∀ h t, V c main_v4 (ix3 h t 0) = ((dlt sg (q h) (k h) (v h) (w h) (g h) t : ℝ) : EReal))

include hq hk hv hw hc hl hδ

/-- What one point of the grid leaves. -/
theorem point2 (t : Fin cfg2.N) (r : Fin 512) (d : Fin 128) : outsAt2 V c t (ix2 r d)
      = ((gradQ sg (q (gh2 t)) (k (gh2 t)) (v (gh2 t)) (w (gh2 t)) (g (gh2 t)) (row (gb2 t) r) d : ℝ) : EReal) := by
  have b0 := fun r x => (blk2_0 V c t r x).trans (hq _ _ _)
  have b1 := fun r x => (blk2_1 V c t r x).trans (hk _ _ _)
  have b2 := fun r x => (blk2_2 V c t r x).trans (hv _ _ _)
  have b3 := fun r x => (blk2_3 V c t r x).trans (hw _ _ _)
  have b4 := fun j s => (blk2_4 V c t j (gh2 t) s).trans (hc _ _ _)
  have b5 := fun r => (blk2_5 V c t r).trans (hl _ _)
  have b6 := fun r => (blk2_6 V c t r).trans (hδ _ _)
  unfold outsAt2
  generalize iblk2 V c 0 t = x0 at b0 ⊢
  generalize iblk2 V c 1 t = x1 at b1 ⊢
  generalize iblk2 V c 2 t = x2 at b2 ⊢
  generalize iblk2 V c 3 t = x3 at b3 ⊢
  generalize iblk2 V c 4 t = x4 at b4 ⊢
  generalize iblk2 V c 5 t = x5 at b5 ⊢
  generalize iblk2 V c 6 t = x6 at b6 ⊢
  exact k2_body (h := gh2 t) (b := gb2 t) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) rfl rfl
    b0 b1 b2 b3 b4 b5 b6 r d

/-- The gradient of the queries. -/
theorem arr2_7 (h : Fin 16) (t : Fin 8192) (d : Fin 128) :
    (dat2 V c).arrAt 7 cfg2.N (ix2 t (col h d)) = ((gradQ sg (q h) (k h) (v h) (w h) (g h) t d : ℝ) : EReal) := by
  refine (congrFun ((dat2 V c).arrAt_eq_of_covers 7 (fun i => by_col (fun h t d => gradQ sg (q h) (k h) (v h) (w h) (g h) t d) (i 0) (i 1))
    (by decide +kernel) fun u hf y => ?_) _).trans (by_col_col _ h t d)
  obtain ⟨r, x, rfl⟩ : ∃ (r : Fin 512) (x : Fin 128), y = ix2 r x := ⟨y 0, y 1, eq_ix2 y⟩
  have e0 : ((cfg2.win 7).blk u).view.emb (ix2 r x) 0 = row (gb2 u) r := by
    apply Fin.ext; blk_simp [ix2_7]; exact (row_val _ _).symm
  have e1 : ((cfg2.win 7).blk u).view.emb (ix2 r x) 1 = col (gh2 u) x := by
    apply Fin.ext; blk_simp [ix2_7]; exact (col_val _ _).symm
  refine Eq.trans ?_ ((congrArg₂ (by_col _) e0 e1).trans (by_col_col _ _ _ _)).symm
  blk_simp
  rw [after2_7]
  exact point2 V c hq hk hv hw hc hl hδ u r x

end Region

end Cert.Attn

end
-- ==== Proof.Pay3.lean ====
module

public import proofs.«01_k».proof.Proof.Pay2

@[expose] public section

/-! What the body of the keys', values' and log gates' gradients computes from one block of queries, read at an index,
where every number it reads is real.  Its blocks hold one row per key. -/

set_option maxRecDepth 16384

noncomputable section

namespace Cert.Attn

open Cert.KernelIdeal Cert.KernelIdeal.Gen Idealize.ShloMosaic

section Dkv

variable {q k v w : Fin 512 → Fin 128 → ℝ} {a : ℝ} {g e δ : Fin 512 → ℝ} (i : grid3.Coords) {h : Fin 16}
  {vk vv vq vw : Vec Ideal S512x128 .bf16} {vg : Vec Ideal S1x512x1 .f32} {va ve vδ : Vec Ideal S1x16x512 .f32}

/-- The weights of the diagonal block. -/
theorem k3_diag (hh : (i 0).1 = h.1) (hk : ∀ r x, vk (ix2 r x) = (k r x : EReal)) (hg : ∀ r, vg (ix3 0 r 0) = (g r : EReal))
    (hq : ∀ r x, vq (ix2 r x) = (q r x : EReal)) (ha : va (ix3 0 h 0) = (a : EReal)) (he : ∀ c, ve (ix3 0 h c) = (e c : EReal))
    (r c : Fin 512) :
    k3_pay20 (F := Ideal) (BitVec.ofNat 32 (i 0).1) (k3_pay18 i vk vg vq va) k3_pay19 ve (ix2 r c)
      = (((if r ≤ c then Real.exp (bsc q k a g c r - e c) else 0 : ℝ)) : EReal) := by
  pointwise [k3_pay20, k3_pay18, k3_pay19, k3_pay15]
  simp only [hh, select_and (n := 16) (k := 511) (by norm_num) (by norm_num), select_eq (n := 16) (by norm_num),
    select_sle (n := 512) (by norm_num), Finset.sum_ite_eq', Finset.mem_univ, if_true, Finset.sum_ite_irrel, Finset.sum_const_zero,
    hk, hq, hg, ha, he, bits_scale, named_mask, ← EReal.coe_mul, coe_sum, ← EReal.coe_sub, ← EReal.coe_add]
  split
  · rw [← EReal.coe_sub, exp_coe]; unfold bsc; simp only [mul_comm]
  · rw [EReal.bot_sub, exp_bot, EReal.coe_zero]

/-- The weights of a later block. -/
theorem k3_weight (hh : (i 0).1 = h.1) (hk : ∀ r x, vk (ix2 r x) = (k r x : EReal)) (hg : ∀ r, vg (ix3 0 r 0) = (g r : EReal))
    (hq : ∀ r x, vq (ix2 r x) = (q r x : EReal)) (ha : va (ix3 0 h 0) = (a : EReal)) (he : ∀ c, ve (ix3 0 h c) = (e c : EReal))
    (r c : Fin 512) :
    k3_pay11 (F := Ideal) (BitVec.ofNat 32 (i 0).1) vk (k3_pay15 vg) vq va ve (ix2 r c)
      = ((Real.exp (bsc q k a g c r - e c) : ℝ) : EReal) := by
  pointwise [k3_pay11, k3_pay15]
  simp only [hh, select_and (n := 16) (k := 511) (by norm_num) (by norm_num), select_eq (n := 16) (by norm_num),
    Finset.sum_ite_eq', Finset.mem_univ, if_true, Finset.sum_ite_irrel, Finset.sum_const_zero,
    hk, hq, hg, ha, he, bits_scale, ← EReal.coe_mul, coe_sum, ← EReal.coe_sub, ← EReal.coe_add, exp_coe]
  unfold bsc; simp only [mul_comm]

/-- The diagonal block's terms of the three gradients. -/
theorem k3_start (hh : (i 0).1 = h.1) (hk : ∀ r x, vk (ix2 r x) = (k r x : EReal)) (hg : ∀ r, vg (ix3 0 r 0) = (g r : EReal))
    (hq : ∀ r x, vq (ix2 r x) = (q r x : EReal)) (ha : va (ix3 0 h 0) = (a : EReal)) (he : ∀ c, ve (ix3 0 h c) = (e c : EReal))
    (hv : ∀ r x, vv (ix2 r x) = (v r x : EReal)) (hw : ∀ r x, vw (ix2 r x) = (w r x : EReal))
    (hδ : ∀ c, vδ (ix3 0 h c) = (δ c : EReal)) (r : Fin 512) :
    (∀ d : Fin 128, k3_pay22 (F := Ideal) (BitVec.ofNat 32 (i 0).1) k3_pay16 vw (k3_pay18 i vk vg vq va) k3_pay19 ve (ix2 r d)
      = ((∑ c, (if r ≤ c then Real.exp (bsc q k a g c r - e c) else 0) * w c d : ℝ) : EReal)) ∧
    (∀ d : Fin 128, k3_pay23 (F := Ideal) (BitVec.ofNat 32 (i 0).1) vv k3_pay16 vq vw (k3_pay18 i vk vg vq va) k3_pay19 ve vδ (ix2 r d)
      = ((∑ c, (if r ≤ c then Real.exp (bsc q k a g c r - e c) else 0) * bdp v w δ c r * q c d : ℝ) : EReal)) ∧
    k3_pay24 (F := Ideal) (BitVec.ofNat 32 (i 0).1) vv k3_pay17 vw (k3_pay18 i vk vg vq va) k3_pay19 ve vδ (ix2 r 0)
      = ((-∑ c, (if r ≤ c then Real.exp (bsc q k a g c r - e c) else 0) * bdp v w δ c r : ℝ) : EReal) := by
  have ed : ∀ c : Fin 512, k3_pay21 (F := Ideal) (BitVec.ofNat 32 (i 0).1) vv vw (k3_pay18 i vk vg vq va) k3_pay19 ve vδ (ix2 r c)
      = (((if r ≤ c then Real.exp (bsc q k a g c r - e c) else 0) * bdp v w δ c r : ℝ) : EReal) := by
    intro c
    pointwise [k3_pay21]
    rw [k3_diag i hh hk hg hq ha he]
    simp only [hh, select_eq (n := 16) (by norm_num), Finset.sum_ite_eq', Finset.mem_univ, if_true,
      hv, hw, hδ, ← EReal.coe_mul, coe_sum, ← EReal.coe_sub]
    unfold bdp; simp only [mul_comm]
  refine ⟨fun d => ?_, fun d => ?_, ?_⟩
  · pointwise [k3_pay22, k3_pay16]
    simp only [k3_diag i hh hk hg hq ha he, hw, ← EReal.coe_mul, coe_sum]
  · pointwise [k3_pay23, k3_pay16]
    simp only [ed, hq, ← EReal.coe_mul, coe_sum]
  · pointwise [k3_pay24, k3_pay17]
    simp only [ed, coe_sum, zero_sub, ← EReal.coe_neg]

/-- One trip of the loop adds one later block's terms to the three gradients. -/
theorem k3_trip (hh : (i 0).1 = h.1) (hk : ∀ r x, vk (ix2 r x) = (k r x : EReal)) (hg : ∀ r, vg (ix3 0 r 0) = (g r : EReal))
    (hq : ∀ r x, vq (ix2 r x) = (q r x : EReal)) (ha : va (ix3 0 h 0) = (a : EReal)) (he : ∀ c, ve (ix3 0 h c) = (e c : EReal))
    (hv : ∀ r x, vv (ix2 r x) = (v r x : EReal)) (hw : ∀ r x, vw (ix2 r x) = (w r x : EReal))
    (hδ : ∀ c, vδ (ix3 0 h c) = (δ c : EReal)) {ak av : FVec Ideal S512x128 .f32} {ac : FVec Ideal S512x1 .f32} {r : Fin 512}
    {Ak Av : Fin 128 → ℝ} {Ac : ℝ} (Hk : ∀ d : Fin 128, ak (ix2 r d) = (Ak d : EReal)) (Hv : ∀ d : Fin 128, av (ix2 r d) = (Av d : EReal))
    (Hc : ac (ix2 r 0) = (Ac : EReal)) :
    (∀ d : Fin 128, k3_pay2 (F := Ideal) av vw (k3_pay11 (BitVec.ofNat 32 (i 0).1) vk (k3_pay15 vg) vq va ve) (ix2 r d)
      = ((Av d + ∑ c, Real.exp (bsc q k a g c r - e c) * w c d : ℝ) : EReal)) ∧
    (∀ d : Fin 128, k3_pay3 (F := Ideal) (BitVec.ofNat 32 (i 0).1) ak vq (k3_pay11 (BitVec.ofNat 32 (i 0).1) vk (k3_pay15 vg) vq va ve)
        (k3_pay12 vv vw) vδ (ix2 r d)
      = ((Ak d + ∑ c, Real.exp (bsc q k a g c r - e c) * bdp v w δ c r * q c d : ℝ) : EReal)) ∧
    k3_pay4 (F := Ideal) (BitVec.ofNat 32 (i 0).1) ac (k3_pay11 (BitVec.ofNat 32 (i 0).1) vk (k3_pay15 vg) vq va ve)
        (k3_pay12 vv vw) vδ (ix2 r 0)
      = ((Ac - ∑ c, Real.exp (bsc q k a g c r - e c) * bdp v w δ c r : ℝ) : EReal) := by
  have ed : ∀ c : Fin 512, k3_pay1 (F := Ideal) (BitVec.ofNat 32 (i 0).1) (k3_pay11 (BitVec.ofNat 32 (i 0).1) vk (k3_pay15 vg) vq va ve)
      (k3_pay12 vv vw) vδ (ix2 r c) = ((Real.exp (bsc q k a g c r - e c) * bdp v w δ c r : ℝ) : EReal) := by
    intro c
    pointwise [k3_pay1, k3_pay12]
    rw [k3_weight i hh hk hg hq ha he]
    simp only [hh, select_eq (n := 16) (by norm_num), Finset.sum_ite_eq', Finset.mem_univ, if_true,
      hv, hw, hδ, ← EReal.coe_mul, coe_sum, ← EReal.coe_sub]
    unfold bdp; simp only [mul_comm]
  refine ⟨fun d => ?_, fun d => ?_, ?_⟩
  · pointwise [k3_pay2]
    simp only [k3_weight i hh hk hg hq ha he, hw, Hv, ← EReal.coe_mul, coe_sum, ← EReal.coe_add]
  · pointwise [k3_pay3]
    simp only [ed, hq, Hk, ← EReal.coe_mul, coe_sum, ← EReal.coe_add]
  · pointwise [k3_pay4]
    simp only [ed, Hc, coe_sum, ← EReal.coe_sub]

end Dkv

end Cert.Attn

end
-- ==== Proof.Body3.lean ====
module

public import proofs.«01_k».proof.Proof.Body2
public import proofs.«01_k».proof.Proof.Pay3

@[expose] public section

/-! What one run of the keys' body leaves: the gradients of a block of keys, values and cumulative log gates of a head. -/

set_option maxRecDepth 16384

noncomputable section

namespace Cert.Attn

open Cert.KernelIdeal Cert.KernelIdeal.Gen Idealize.ShloMosaic

theorem off_block_up (b n : ℕ) (h : b + 1 + n < 16) :
    (Scalar.indexCast (Scalar.muli (Scf.iv (Scalar.addi (BitVec.ofNat 32 b) 1#32) 1#32 n) 512#32)).toNat = 512 * (b + 1 + n) :=
  (by decide +kernel : ∀ b n : Fin 16, b.1 + 1 + n.1 < 16 →
    (Scalar.indexCast (Scalar.muli (Scf.iv (Scalar.addi (BitVec.ofNat 32 b.1) 1#32) 1#32 n.1) 512#32)).toNat = 512 * (b.1 + 1 + n.1))
    ⟨b, by omega⟩ ⟨n, by omega⟩ h

theorem off_row_up (b n : ℕ) (h : b + 1 + n < 16) :
    (Scalar.indexCast (Scf.iv (Scalar.addi (BitVec.ofNat 32 b) 1#32) 1#32 n)).toNat = b + 1 + n :=
  (by decide +kernel : ∀ b n : Fin 16, b.1 + 1 + n.1 < 16 →
    (Scalar.indexCast (Scf.iv (Scalar.addi (BitVec.ofNat 32 b.1) 1#32) 1#32 n.1)).toNat = b.1 + 1 + n.1)
    ⟨b, by omega⟩ ⟨n, by omega⟩ h

theorem k3_t1_trips (i : grid3.Coords) : (k3_t1_loop i).trips = 15 - (i 1).1 := by
  revert i; decide +kernel

theorem k3_t2_trips (i : grid3.Coords) : (k3_t2_loop i).trips = 0 := by
  revert i; decide +kernel

theorem k3_scale {v : FVec Ideal S512x128 .f32} {r : Fin 512} {d : Fin 128} {A : ℝ} (H : v (ix2 r d) = (A : EReal)) :
    k3_pay9 (F := Ideal) v (ix2 r d) = ((A * sg : ℝ) : EReal) := by
  pointwise [k3_pay9]
  rw [H, bits_scale, EReal.coe_mul]

theorem k3_column (v : FVec Ideal S512x1 .f32) (r : Fin 512) : k3_pay10 (F := Ideal) v (ix3 0 r 0) = v (ix2 r 0) := by
  pointwise [k3_pay10]

section Body

variable {q k v w : Fin 8192 → Fin 128 → ℝ} {g : Fin 8192 → ℝ} {h b : Fin 16}
  (c : Dev nD) (i : grid3.Coords)
  (arg2 : Memref sig .tc .vmem S8192x128 .bf16) (harg2 : arg2.IsWhole) (arg3 : Memref sig .tc .vmem S512x128 .bf16) (harg3 : arg3.IsWhole)
  (arg4 : Memref sig .tc .vmem S512x128 .bf16) (harg4 : arg4.IsWhole) (arg5 : Memref sig .tc .vmem S8192x128 .bf16) (harg5 : arg5.IsWhole)
  (arg6 : Memref sig .tc .vmem S16x16x512 .f32) (harg6 : arg6.IsWhole) (arg7 : Memref sig .tc .vmem S1x512x1 .f32) (harg7 : arg7.IsWhole)
  (arg8 : Memref sig .tc .vmem S16x16x512 .f32) (harg8 : arg8.IsWhole) (arg9 : Memref sig .tc .vmem S16x16x512 .f32) (harg9 : arg9.IsWhole)
  (arg10 : Memref sig .tc .vmem S512x128 .f32) (harg10 : arg10.IsWhole) (arg11 : Memref sig .tc .vmem S512x128 .f32) (harg11 : arg11.IsWhole)
  (arg12 : Memref sig .tc .vmem S1x512x1 .f32) (harg12 : arg12.IsWhole)
  {x0 x3 : Vec Ideal S8192x128 .bf16} {x1 x2 : Vec Ideal S512x128 .bf16} {x4 x6 x7 : Vec Ideal S16x16x512 .f32} {x5 : Vec Ideal S1x512x1 .f32}

/-- The weight of the query `t` on the row `r` of the block of keys, as the body computes it. -/
def wk (sg : ℝ) (q k : Fin 8192 → Fin 128 → ℝ) (g : Fin 8192 → ℝ) (b : Fin 16) (r : Fin 512) (j : Fin 16) (s : Fin 512) : ℝ :=
  Real.exp (sc sg q k g (g (row j 0)) (row j s) (row b r) - lse sg q k g (row j s))

/-- The cotangent that goes with it. -/
def dk (q k v w : Fin 8192 → Fin 128 → ℝ) (g : Fin 8192 → ℝ) (b : Fin 16) (r : Fin 512) (j : Fin 16) (s : Fin 512) : ℝ :=
  dwt v w (row j s) (row b r) - dlt sg q k v w g (row j s)

/-- Before trip `n` the loop carries the sums over the diagonal block and the `n` blocks of queries after it. -/
theorem k3_inv (hh : (i 0).1 = h.1) (hb : (i 1).1 = b.1) (h0 : ∀ t x, x0 (ix2 t x) = (q t x : EReal))
    (h3 : ∀ t x, x3 (ix2 t x) = (w t x : EReal)) (h4 : ∀ j s, x4 (ix3 j h s) = (g (row j s) : EReal))
    (h6 : ∀ j s, x6 (ix3 j h s) = (lse sg q k g (row j s) : EReal)) (h7 : ∀ j s, x7 (ix3 j h s) = (dlt sg q k v w g (row j s) : EReal))
    {v0 v1 : Vec Ideal S512x128 .bf16} {v2 : Vec Ideal S1x512x1 .f32} {v77 : BitVec 32}
    (hk : ∀ r x, v0 (ix2 r x) = (k (row b r) x : EReal)) (hv : ∀ r x, v1 (ix2 r x) = (v (row b r) x : EReal))
    (hg : ∀ r, v2 (ix3 0 r 0) = (g (row b r) : EReal))
    {init : FVec Ideal S512x128 .f32 × FVec Ideal S512x128 .f32 × FVec Ideal S512x1 .f32} {r : Fin 512} {Ak Av : Fin 128 → ℝ} {Ac : ℝ}
    (Hk : ∀ d, init.1 (ix2 r d) = (Ak d : EReal)) (Hv : ∀ d, init.2.1 (ix2 r d) = (Av d : EReal)) (Hc : init.2.2 (ix2 r 0) = (Ac : EReal))
    (n : ℕ) (hn : b.1 + 1 + n ≤ 16) :
    (∀ d, (st_k3_t1 Variants.none c none i arg2 harg2 arg3 harg3 arg4 harg4 arg5 harg5 arg6 harg6 arg7 harg7 arg8 harg8 arg9 harg9 arg10 harg10 arg11 harg11 arg12 harg12
        (BitVec.ofNat 32 (i 0).1) v0 v1 (k3_pay15 v2) v77 (harg2.unread x0) (harg5.unread x3) (harg6.unread x4) (harg8.unread x6)
        (harg9.unread x7) init n).1 (ix2 r d)
      = ((Ak d + ∑ j ∈ upper b n, ∑ s, wk sg q k g b r j s * dk q k v w g b r j s * q (row j s) d : ℝ) : EReal)) ∧
    (∀ d, (st_k3_t1 Variants.none c none i arg2 harg2 arg3 harg3 arg4 harg4 arg5 harg5 arg6 harg6 arg7 harg7 arg8 harg8 arg9 harg9 arg10 harg10 arg11 harg11 arg12 harg12
        (BitVec.ofNat 32 (i 0).1) v0 v1 (k3_pay15 v2) v77 (harg2.unread x0) (harg5.unread x3) (harg6.unread x4) (harg8.unread x6)
        (harg9.unread x7) init n).2.1 (ix2 r d)
      = ((Av d + ∑ j ∈ upper b n, ∑ s, wk sg q k g b r j s * w (row j s) d : ℝ) : EReal)) ∧
    (st_k3_t1 Variants.none c none i arg2 harg2 arg3 harg3 arg4 harg4 arg5 harg5 arg6 harg6 arg7 harg7 arg8 harg8 arg9 harg9 arg10 harg10 arg11 harg11 arg12 harg12
        (BitVec.ofNat 32 (i 0).1) v0 v1 (k3_pay15 v2) v77 (harg2.unread x0) (harg5.unread x3) (harg6.unread x4) (harg8.unread x6)
        (harg9.unread x7) init n).2.2 (ix2 r 0)
      = ((Ac - ∑ j ∈ upper b n, ∑ s, wk sg q k g b r j s * dk q k v w g b r j s : ℝ) : EReal) := by
  induction n with
  | zero =>
    simp only [st_k3_t1_zero, upper_zero, Finset.sum_empty, add_zero, sub_zero]
    exact ⟨Hk, Hv, Hc⟩
  | succ n ih =>
    have hn16 : b.1 + 1 + n < 16 := by omega
    obtain ⟨ik, iv, ic⟩ := ih (by omega)
    rw [st_k3_t1_succ (k := ⟨n, by rw [k3_t1_trips, hb]; omega⟩)]
    unfold tripR_k3_t1 trip_k3_t1
    dsimp only
    sl_unfold_words
    simp only [View.readAt_eq_ld, harg2.read_unread, harg5.read_unread, harg6.read_unread, harg8.read_unread, harg9.read_unread]
    simp only [sum_upper_succ hn16, ← add_assoc, ← sub_sub]
    have ob : (Scalar.indexCast (Scalar.muli (Scf.iv (Scalar.addi (BitVec.ofNat 32 (i 1).1) 1#32) 1#32 n) 512#32)).toNat
        = 512 * (⟨b.1 + 1 + n, hn16⟩ : Fin 16).1 := by rw [hb]; exact off_block_up b.1 n hn16
    have or : (Scalar.indexCast (Scf.iv (Scalar.addi (BitVec.ofNat 32 (i 1).1) 1#32) 1#32 n)).toNat
        = (⟨b.1 + 1 + n, hn16⟩ : Fin 16).1 := by rw [hb]; exact off_row_up b.1 n hn16
    refine and_left_comm.mp (k3_trip (q := fun s => q (row ⟨b.1 + 1 + n, hn16⟩ s)) (k := fun r => k (row b r)) (v := fun r => v (row b r))
      (w := fun s => w (row ⟨b.1 + 1 + n, hn16⟩ s)) (a := g (row ⟨b.1 + 1 + n, hn16⟩ 0)) (g := fun r => g (row b r))
      (e := fun s => lse sg q k g (row ⟨b.1 + 1 + n, hn16⟩ s)) (δ := fun s => dlt sg q k v w g (row ⟨b.1 + 1 + n, hn16⟩ s)) i hh hk hg
      (fun r x => (ld_block x0 _ ⟨b.1 + 1 + n, hn16⟩ ob _ r x).trans (h0 _ _))
      ((ld_row x4 _ ⟨b.1 + 1 + n, hn16⟩ or _ h 0).trans (h4 _ _))
      (fun s => (ld_row x6 _ ⟨b.1 + 1 + n, hn16⟩ or _ h s).trans (h6 _ _))
      hv
      (fun r x => (ld_block x3 _ ⟨b.1 + 1 + n, hn16⟩ ob _ r x).trans (h3 _ _))
      (fun s => (ld_row x7 _ ⟨b.1 + 1 + n, hn16⟩ or _ h s).trans (h7 _ _))
      ik iv ic)

/-- The three gradients' sums, block by block. -/
theorem grad_blocks (b : Fin 16) (r : Fin 512) :
    (∀ d, gradK sg q k v w g (row b r) d
      = ((∑ c, (if r ≤ c then wk sg q k g b r b c else 0) * dk q k v w g b r b c * q (row b c) d)
        + ∑ j ∈ upper b (15 - b.1), ∑ s, wk sg q k g b r j s * dk q k v w g b r j s * q (row j s) d) * sg) ∧
    (∀ d, gradV sg q k w g (row b r) d
      = (∑ c, (if r ≤ c then wk sg q k g b r b c else 0) * w (row b c) d)
        + ∑ j ∈ upper b (15 - b.1), ∑ s, wk sg q k g b r j s * w (row j s) d) ∧
    gradG sg q k v w g (row b r)
      = -(∑ c, (if r ≤ c then wk sg q k g b r b c else 0) * dk q k v w g b r b c)
        - ∑ j ∈ upper b (15 - b.1), ∑ s, wk sg q k g b r j s * dk q k v w g b r j s := by
  have hn : b.1 + 1 + (15 - b.1) = 16 := by have := b.2; omega
  refine ⟨fun d => ?_, fun d => ?_, ?_⟩
  · unfold gradK dsc
    congr 1
    simp only [mul_assoc]
    rw [sum_mul_wt sg q k g b r hn]
    rfl
  · unfold gradV
    rw [sum_mul_wt sg q k g b r hn]
    rfl
  · unfold gradG dsc
    rw [sum_mul_wt sg q k g b r hn, neg_add]
    rfl

/-- What the loop carries after its last trip. -/
theorem k3_sums (hh : (i 0).1 = h.1) (hb : (i 1).1 = b.1) (h0 : ∀ t x, x0 (ix2 t x) = (q t x : EReal))
    (h3 : ∀ t x, x3 (ix2 t x) = (w t x : EReal)) (h4 : ∀ j s, x4 (ix3 j h s) = (g (row j s) : EReal))
    (h6 : ∀ j s, x6 (ix3 j h s) = (lse sg q k g (row j s) : EReal)) (h7 : ∀ j s, x7 (ix3 j h s) = (dlt sg q k v w g (row j s) : EReal))
    {v0 v1 vq vw : Vec Ideal S512x128 .bf16} {v2 : Vec Ideal S1x512x1 .f32} {v77 : BitVec 32} {va ve vδ : Vec Ideal S1x16x512 .f32}
    (hk : ∀ r x, v0 (ix2 r x) = (k (row b r) x : EReal)) (hv : ∀ r x, v1 (ix2 r x) = (v (row b r) x : EReal))
    (hg : ∀ r, v2 (ix3 0 r 0) = (g (row b r) : EReal)) (hq : ∀ s x, vq (ix2 s x) = (q (row b s) x : EReal))
    (hw : ∀ s x, vw (ix2 s x) = (w (row b s) x : EReal)) (ha : va (ix3 0 h 0) = (g (row b 0) : EReal))
    (he : ∀ s, ve (ix3 0 h s) = (lse sg q k g (row b s) : EReal)) (hδ : ∀ s, vδ (ix3 0 h s) = (dlt sg q k v w g (row b s) : EReal))
    (r : Fin 512) :
    (∀ d, k3_pay9 (F := Ideal) (st_k3_t1 Variants.none c none i arg2 harg2 arg3 harg3 arg4 harg4 arg5 harg5 arg6 harg6 arg7 harg7 arg8 harg8 arg9 harg9 arg10 harg10 arg11 harg11 arg12 harg12
        (BitVec.ofNat 32 (i 0).1) v0 v1 (k3_pay15 v2) v77 (harg2.unread x0) (harg5.unread x3) (harg6.unread x4) (harg8.unread x6)
        (harg9.unread x7)
        (k3_pay23 (BitVec.ofNat 32 (i 0).1) v1 k3_pay16 vq vw (k3_pay18 i v0 v2 vq va) k3_pay19 ve vδ,
          k3_pay22 (BitVec.ofNat 32 (i 0).1) k3_pay16 vw (k3_pay18 i v0 v2 vq va) k3_pay19 ve,
          k3_pay24 (BitVec.ofNat 32 (i 0).1) v1 k3_pay17 vw (k3_pay18 i v0 v2 vq va) k3_pay19 ve vδ) (15 - b.1)).1 (ix2 r d) = ((gradK sg q k v w g (row b r) d : ℝ) : EReal)) ∧
    (∀ d, (st_k3_t1 Variants.none c none i arg2 harg2 arg3 harg3 arg4 harg4 arg5 harg5 arg6 harg6 arg7 harg7 arg8 harg8 arg9 harg9 arg10 harg10 arg11 harg11 arg12 harg12
        (BitVec.ofNat 32 (i 0).1) v0 v1 (k3_pay15 v2) v77 (harg2.unread x0) (harg5.unread x3) (harg6.unread x4) (harg8.unread x6)
        (harg9.unread x7)
        (k3_pay23 (BitVec.ofNat 32 (i 0).1) v1 k3_pay16 vq vw (k3_pay18 i v0 v2 vq va) k3_pay19 ve vδ,
          k3_pay22 (BitVec.ofNat 32 (i 0).1) k3_pay16 vw (k3_pay18 i v0 v2 vq va) k3_pay19 ve,
          k3_pay24 (BitVec.ofNat 32 (i 0).1) v1 k3_pay17 vw (k3_pay18 i v0 v2 vq va) k3_pay19 ve vδ) (15 - b.1)).2.1 (ix2 r d) = ((gradV sg q k w g (row b r) d : ℝ) : EReal)) ∧
    k3_pay10 (F := Ideal) (st_k3_t1 Variants.none c none i arg2 harg2 arg3 harg3 arg4 harg4 arg5 harg5 arg6 harg6 arg7 harg7 arg8 harg8 arg9 harg9 arg10 harg10 arg11 harg11 arg12 harg12
        (BitVec.ofNat 32 (i 0).1) v0 v1 (k3_pay15 v2) v77 (harg2.unread x0) (harg5.unread x3) (harg6.unread x4) (harg8.unread x6)
        (harg9.unread x7)
        (k3_pay23 (BitVec.ofNat 32 (i 0).1) v1 k3_pay16 vq vw (k3_pay18 i v0 v2 vq va) k3_pay19 ve vδ,
          k3_pay22 (BitVec.ofNat 32 (i 0).1) k3_pay16 vw (k3_pay18 i v0 v2 vq va) k3_pay19 ve,
          k3_pay24 (BitVec.ofNat 32 (i 0).1) v1 k3_pay17 vw (k3_pay18 i v0 v2 vq va) k3_pay19 ve vδ) (15 - b.1)).2.2 (ix3 0 r 0) = ((gradG sg q k v w g (row b r) : ℝ) : EReal) := by
  obtain ⟨gk, gv, gg⟩ := grad_blocks (q := q) (k := k) (v := v) (w := w) (g := g) b r
  obtain ⟨sv, sk, sc'⟩ := k3_start (q := fun s => q (row b s)) (k := fun r => k (row b r)) (v := fun r => v (row b r))
    (w := fun s => w (row b s)) (a := g (row b 0)) (g := fun r => g (row b r))
    (e := fun s => lse sg q k g (row b s)) (δ := fun s => dlt sg q k v w g (row b s)) i hh hk hg hq ha he hv hw hδ r
  obtain ⟨ik, iv, ic⟩ := k3_inv c i arg2 harg2 arg3 harg3 arg4 harg4 arg5 harg5 arg6 harg6 arg7 harg7 arg8 harg8 arg9 harg9 arg10 harg10 arg11 harg11 arg12 harg12 hh hb h0 h3 h4 h6 h7 hk hv hg (v77 := v77)
    (init := (k3_pay23 (BitVec.ofNat 32 (i 0).1) v1 k3_pay16 vq vw (k3_pay18 i v0 v2 vq va) k3_pay19 ve vδ,
      k3_pay22 (BitVec.ofNat 32 (i 0).1) k3_pay16 vw (k3_pay18 i v0 v2 vq va) k3_pay19 ve,
      k3_pay24 (BitVec.ofNat 32 (i 0).1) v1 k3_pay17 vw (k3_pay18 i v0 v2 vq va) k3_pay19 ve vδ)) sk sv sc' (15 - b.1)
    (by have := b.2; omega)
  refine ⟨fun d => ?_, fun d => ?_, ?_⟩
  · rw [gk d]; exact k3_scale (ik d)
  · rw [gv d]; exact iv d
  · rw [gg]; exact (k3_column _ r).trans ic

/-- The body's three results. -/
theorem k3_body (hh : (i 0).1 = h.1) (hb : (i 1).1 = b.1) (h0 : ∀ t x, x0 (ix2 t x) = (q t x : EReal))
    (h1 : ∀ r x, x1 (ix2 r x) = (k (row b r) x : EReal)) (h2 : ∀ r x, x2 (ix2 r x) = (v (row b r) x : EReal))
    (h3 : ∀ t x, x3 (ix2 t x) = (w t x : EReal)) (h4 : ∀ j s, x4 (ix3 j h s) = (g (row j s) : EReal))
    (h5 : ∀ r, x5 (ix3 0 r 0) = (g (row b r) : EReal))
    (h6 : ∀ j s, x6 (ix3 j h s) = (lse sg q k g (row j s) : EReal)) (h7 : ∀ j s, x7 (ix3 j h s) = (dlt sg q k v w g (row j s) : EReal))
    (r : Fin 512) :
    (∀ d : Fin 128, out3_A_8 (F := Ideal) c i arg2 harg2 arg3 harg3 arg4 harg4 arg5 harg5 arg6 harg6 arg7 harg7 arg8 harg8 arg9 harg9 arg10 harg10 arg11 harg11 arg12 harg12 x0 x1 x2 x3 x4 x5 x6 x7 (ix2 r d) = ((gradK sg q k v w g (row b r) d : ℝ) : EReal)) ∧
    (∀ d : Fin 128, out3_A_9 (F := Ideal) c i arg2 harg2 arg3 harg3 arg4 harg4 arg5 harg5 arg6 harg6 arg7 harg7 arg8 harg8 arg9 harg9 arg10 harg10 arg11 harg11 arg12 harg12 x0 x1 x2 x3 x4 x5 x6 x7 (ix2 r d) = ((gradV sg q k w g (row b r) d : ℝ) : EReal)) ∧
    out3_A_10 (F := Ideal) c i arg2 harg2 arg3 harg3 arg4 harg4 arg5 harg5 arg6 harg6 arg7 harg7 arg8 harg8 arg9 harg9 arg10 harg10 arg11 harg11 arg12 harg12 x0 x1 x2 x3 x4 x5 x6 x7 (ix3 0 r 0) = ((gradG sg q k v w g (row b r) : ℝ) : EReal) := by
  have hi : (i 1).1 < 16 := (i 1).2
  have e2 : (k3_t2_loop i).trips = 0 := k3_t2_trips i
  have e1 : (k3_t1_loop i).trips = 15 - b.1 := by rw [k3_t1_trips, hb]
  unfold k3_t2_loop Scf.Loop.trips at e2
  unfold k3_t1_loop Scf.Loop.trips at e1
  dsimp only at e1 e2
  have hob : (Scalar.indexCast (Scalar.muli (BitVec.ofNat 32 (i 1).1) 512#32)).toNat = 512 * b.1 := by rw [off_block _ hi, hb]
  have hor : (Scalar.indexCast (BitVec.ofNat 32 (i 1).1)).toNat = b.1 := by rw [off_row _ hi, hb]
  have hk := fun inb (r : Fin 512) (x : Fin 128) => (ld_whole x1 inb r x).trans (h1 r x)
  have hv := fun inb (r : Fin 512) (x : Fin 128) => (ld_whole x2 inb r x).trans (h2 r x)
  have hg := fun inb (r : Fin 512) => (ld_col x5 inb r).trans (h5 r)
  refine ⟨fun d => ?_, fun d => ?_, ?_⟩
  · unfold out3_A_8
    rw [View.read_writes_eq_canon _ _ _ (cover3_A_8 c i arg2 harg2 arg3 harg3 arg4 harg4 arg5 harg5 arg6 harg6 arg7 harg7 arg8 harg8 arg9 harg9 arg10 harg10 arg11 harg11 arg12 harg12 x0 x1 x2 x3 x4 x5 x6 x7)]
    unfold kernelRun3_A
    dsimp only
    sl_unfold_words
    simp only [View.readAt_eq_ld, harg2.read_unread, harg3.read_unread, harg4.read_unread, harg5.read_unread, harg6.read_unread,
      harg7.read_unread, harg8.read_unread, harg9.read_unread, e2, st_k3_t2_zero, e1]
    rw [View.canon_unit_zero zero2]
    exact (k3_sums c i arg2 harg2 arg3 harg3 arg4 harg4 arg5 harg5 arg6 harg6 arg7 harg7 arg8 harg8 arg9 harg9 arg10 harg10 arg11 harg11 arg12 harg12 hh hb h0 h3 h4 h6 h7 (hk _) (hv _) (hg _)
      (fun r x => (ld_block x0 _ b hob _ r x).trans (h0 _ _)) (fun r x => (ld_block x3 _ b hob _ r x).trans (h3 _ _))
      ((ld_row x4 _ b hor _ h 0).trans (h4 _ _)) (fun s => (ld_row x6 _ b hor _ h s).trans (h6 _ _))
      (fun s => (ld_row x7 _ b hor _ h s).trans (h7 _ _)) r).1 d
  · unfold out3_A_9
    rw [View.read_writes_eq_canon _ _ _ (cover3_A_9 c i arg2 harg2 arg3 harg3 arg4 harg4 arg5 harg5 arg6 harg6 arg7 harg7 arg8 harg8 arg9 harg9 arg10 harg10 arg11 harg11 arg12 harg12 x0 x1 x2 x3 x4 x5 x6 x7)]
    unfold kernelRun3_A
    dsimp only
    sl_unfold_words
    simp only [View.readAt_eq_ld, harg2.read_unread, harg3.read_unread, harg4.read_unread, harg5.read_unread, harg6.read_unread,
      harg7.read_unread, harg8.read_unread, harg9.read_unread, e2, st_k3_t2_zero, e1]
    rw [View.canon_unit_zero zero2]
    exact (k3_sums c i arg2 harg2 arg3 harg3 arg4 harg4 arg5 harg5 arg6 harg6 arg7 harg7 arg8 harg8 arg9 harg9 arg10 harg10 arg11 harg11 arg12 harg12 hh hb h0 h3 h4 h6 h7 (hk _) (hv _) (hg _)
      (fun r x => (ld_block x0 _ b hob _ r x).trans (h0 _ _)) (fun r x => (ld_block x3 _ b hob _ r x).trans (h3 _ _))
      ((ld_row x4 _ b hor _ h 0).trans (h4 _ _)) (fun s => (ld_row x6 _ b hor _ h s).trans (h6 _ _))
      (fun s => (ld_row x7 _ b hor _ h s).trans (h7 _ _)) r).2.1 d
  · unfold out3_A_10
    rw [View.read_writes_eq_canon _ _ _ (cover3_A_10 c i arg2 harg2 arg3 harg3 arg4 harg4 arg5 harg5 arg6 harg6 arg7 harg7 arg8 harg8 arg9 harg9 arg10 harg10 arg11 harg11 arg12 harg12 x0 x1 x2 x3 x4 x5 x6 x7)]
    unfold kernelRun3_A
    dsimp only
    sl_unfold_words
    simp only [View.readAt_eq_ld, harg2.read_unread, harg3.read_unread, harg4.read_unread, harg5.read_unread, harg6.read_unread,
      harg7.read_unread, harg8.read_unread, harg9.read_unread, e2, st_k3_t2_zero, e1]
    rw [View.canon_unit_zero zero3]
    exact (k3_sums c i arg2 harg2 arg3 harg3 arg4 harg4 arg5 harg5 arg6 harg6 arg7 harg7 arg8 harg8 arg9 harg9 arg10 harg10 arg11 harg11 arg12 harg12 hh hb h0 h3 h4 h6 h7 (hk _) (hv _) (hg _)
      (fun r x => (ld_block x0 _ b hob _ r x).trans (h0 _ _)) (fun r x => (ld_block x3 _ b hob _ r x).trans (h3 _ _))
      ((ld_row x4 _ b hor _ h 0).trans (h4 _ _)) (fun s => (ld_row x6 _ b hor _ h s).trans (h6 _ _))
      (fun s => (ld_row x7 _ b hor _ h s).trans (h7 _ _)) r).2.2

end Body

end Cert.Attn

end
-- ==== Proof.Arr3.lean ====
module

public import proofs.«01_k».proof.Proof.Arr2
public import proofs.«01_k».proof.Proof.Body3

@[expose] public section

/-! What the last call leaves: the gradients of the keys, the values and the cumulative log gates. -/

set_option maxRecDepth 16384

noncomputable section

namespace Cert.Attn

open Cert.KernelIdeal Cert.KernelIdeal.Gen Idealize.ShloMosaic Idealize.ShloMosaic.TcCoe

/-- The head a point of this grid works on. -/
abbrev gh3 (t : Fin cfg3.N) : Fin 16 := grid3.coords t 0

/-- The block of rows a point of this grid works on. -/
abbrev gb3 (t : Fin cfg3.N) : Fin 16 := grid3.coords t 1

theorem ix3_0 : ∀ t : Fin cfg3.N, win3_0.index t = ![0, (grid3.coords t 0).val] := (by decide +kernel : ∀ t : Fin grid3.N, _)

theorem ix3_1 : ∀ t : Fin cfg3.N, win3_1.index t = ![(grid3.coords t 1).val, (grid3.coords t 0).val] := (by decide +kernel : ∀ t : Fin grid3.N, _)

theorem ix3_2 : ∀ t : Fin cfg3.N, win3_2.index t = ![(grid3.coords t 1).val, (grid3.coords t 0).val] := (by decide +kernel : ∀ t : Fin grid3.N, _)

theorem ix3_3 : ∀ t : Fin cfg3.N, win3_3.index t = ![0, (grid3.coords t 0).val] := (by decide +kernel : ∀ t : Fin grid3.N, _)

theorem ix3_4 : ∀ t : Fin cfg3.N, win3_4.index t = ![0, 0, 0] := (by decide +kernel : ∀ t : Fin grid3.N, _)

theorem ix3_5 : ∀ t : Fin cfg3.N, win3_5.index t = ![(grid3.coords t 0).val, (grid3.coords t 1).val, 0] := (by decide +kernel : ∀ t : Fin grid3.N, _)

theorem ix3_6 : ∀ t : Fin cfg3.N, win3_6.index t = ![0, 0, 0] := (by decide +kernel : ∀ t : Fin grid3.N, _)

theorem ix3_7 : ∀ t : Fin cfg3.N, win3_7.index t = ![0, 0, 0] := (by decide +kernel : ∀ t : Fin grid3.N, _)

theorem ix3_8 : ∀ t : Fin cfg3.N, win3_8.index t = ![(grid3.coords t 1).val, (grid3.coords t 0).val] := (by decide +kernel : ∀ t : Fin grid3.N, _)

theorem ix3_9 : ∀ t : Fin cfg3.N, win3_9.index t = ![(grid3.coords t 1).val, (grid3.coords t 0).val] := (by decide +kernel : ∀ t : Fin grid3.N, _)

theorem ix3_10 : ∀ t : Fin cfg3.N, win3_10.index t = ![(grid3.coords t 0).val, (grid3.coords t 1).val, 0] := (by decide +kernel : ∀ t : Fin grid3.N, _)

section Region

variable (V : (c : Dev nD) → (b : Ref sig .tc) → Buf (Elt Ideal) ((c : Thread nD τ).loc b)) (c : Dev nD)
  {q k v w : Fin 16 → Fin 8192 → Fin 128 → ℝ} {g : Fin 16 → Fin 8192 → ℝ}

theorem blk3_0 (t : Fin cfg3.N) (r : Fin 8192) (x : Fin 128) :
    iblk3 V c 0 t (ix2 r x) = V c main_arg0 (ix2 r (col (gh3 t) x)) := by
  blk_simp [iblk3]
  blk_ext [ix3_0, col_val]

theorem blk3_1 (t : Fin cfg3.N) (r : Fin 512) (x : Fin 128) :
    iblk3 V c 1 t (ix2 r x) = V c main_arg1 (ix2 (row (gb3 t) r) (col (gh3 t) x)) := by
  blk_simp [iblk3]
  blk_ext [ix3_1, row_val, col_val]

theorem blk3_2 (t : Fin cfg3.N) (r : Fin 512) (x : Fin 128) :
    iblk3 V c 2 t (ix2 r x) = V c main_arg2 (ix2 (row (gb3 t) r) (col (gh3 t) x)) := by
  blk_simp [iblk3]
  blk_ext [ix3_2, row_val, col_val]

theorem blk3_3 (t : Fin cfg3.N) (r : Fin 8192) (x : Fin 128) :
    iblk3 V c 3 t (ix2 r x) = V c main_arg3 (ix2 r (col (gh3 t) x)) := by
  blk_simp [iblk3]
  blk_ext [ix3_3, col_val]

theorem blk3_4 (t : Fin cfg3.N) (j h : Fin 16) (s : Fin 512) : iblk3 V c 4 t (ix3 j h s) = V c main_v1 (ix3 j h s) := by
  blk_simp [iblk3]
  blk_ext [ix3_4]

theorem blk3_5 (t : Fin cfg3.N) (r : Fin 512) :
    iblk3 V c 5 t (ix3 0 r 0) = V c main_v2 (ix3 (gh3 t) (row (gb3 t) r) 0) := by
  blk_simp [iblk3]
  blk_ext [ix3_5, row_val]
  exact Nat.add_zero _

theorem blk3_6 (t : Fin cfg3.N) (j h : Fin 16) (s : Fin 512) : iblk3 V c 6 t (ix3 j h s) = V c main_v8 (ix3 j h s) := by
  blk_simp [iblk3]
  blk_ext [ix3_6]

theorem blk3_7 (t : Fin cfg3.N) (j h : Fin 16) (s : Fin 512) : iblk3 V c 7 t (ix3 j h s) = V c main_v12 (ix3 j h s) := by
  blk_simp [iblk3]
  blk_ext [ix3_7]

variable (hq : ∀ h t d, V c main_arg0 (ix2 t (col h d)) = (q h t d : EReal))
  (hk : ∀ h t d, V c main_arg1 (ix2 t (col h d)) = (k h t d : EReal))
  (hv : ∀ h t d, V c main_arg2 (ix2 t (col h d)) = (v h t d : EReal))
  (hw : ∀ h t d, V c main_arg3 (ix2 t (col h d)) = (w h t d : EReal))
  (hc : ∀ h j s, V c main_v1 (ix3 j h s) = (g h (row j s) : EReal))
  (hg : ∀ h t, V c main_v2 (ix3 h t 0) = (g h t : EReal))
  (hl : ∀ h j s, V c main_v8 (ix3 j h s) = ((lse sg (q h) (k h) (g h) (row j s) : ℝ) : EReal))
  (hδ : ∀ h j s, V c main_v12 (ix3 j h s) = ((dlt sg (q h) (k h) (v h) (w h) (g h) (row j s) : ℝ) : EReal))

include hq hk hv hw hc hg hl hδ

/-- What one point of the grid leaves. -/
theorem point3 (t : Fin cfg3.N) (r : Fin 512) :
    (∀ d : Fin 128, (outsAt3 V c t).1 (ix2 r d)
      = ((gradK sg (q (gh3 t)) (k (gh3 t)) (v (gh3 t)) (w (gh3 t)) (g (gh3 t)) (row (gb3 t) r) d : ℝ) : EReal)) ∧
    (∀ d : Fin 128, (outsAt3 V c t).2.1 (ix2 r d)
      = ((gradV sg (q (gh3 t)) (k (gh3 t)) (w (gh3 t)) (g (gh3 t)) (row (gb3 t) r) d : ℝ) : EReal)) ∧
    (outsAt3 V c t).2.2 (ix3 0 r 0)
      = ((gradG sg (q (gh3 t)) (k (gh3 t)) (v (gh3 t)) (w (gh3 t)) (g (gh3 t)) (row (gb3 t) r) : ℝ) : EReal) := by
  have b0 := fun r x => (blk3_0 V c t r x).trans (hq _ _ _)
  have b1 := fun r x => (blk3_1 V c t r x).trans (hk _ _ _)
  have b2 := fun r x => (blk3_2 V c t r x).trans (hv _ _ _)
  have b3 := fun r x => (blk3_3 V c t r x).trans (hw _ _ _)
  have b4 := fun j s => (blk3_4 V c t j (gh3 t) s).trans (hc _ _ _)
  have b5 := fun r => (blk3_5 V c t r).trans (hg _ _)
  have b6 := fun j s => (blk3_6 V c t j (gh3 t) s).trans (hl _ _ _)
  have b7 := fun j s => (blk3_7 V c t j (gh3 t) s).trans (hδ _ _ _)
  unfold outsAt3
  generalize iblk3 V c 0 t = x0 at b0 ⊢
  generalize iblk3 V c 1 t = x1 at b1 ⊢
  generalize iblk3 V c 2 t = x2 at b2 ⊢
  generalize iblk3 V c 3 t = x3 at b3 ⊢
  generalize iblk3 V c 4 t = x4 at b4 ⊢
  generalize iblk3 V c 5 t = x5 at b5 ⊢
  generalize iblk3 V c 6 t = x6 at b6 ⊢
  generalize iblk3 V c 7 t = x7 at b7 ⊢
  dsimp only
  exact k3_body (h := gh3 t) (b := gb3 t) c (grid3.coords t) (ms3_0 t) (hs3_0 t) (ms3_1 t) (hs3_1 t) (ms3_2 t) (hs3_2 t) (ms3_3 t) (hs3_3 t) (ms3_4 t) (hs3_4 t) (ms3_5 t) (hs3_5 t)
    (ms3_6 t) (hs3_6 t) (ms3_7 t) (hs3_7 t) (ms3_8 t) (hs3_8 t) (ms3_9 t) (hs3_9 t) (ms3_10 t) (hs3_10 t) rfl rfl
    b0 b1 b2 b3 b4 b5 b6 b7 r

/-- The gradient of the keys. -/
theorem arr3_8 (h : Fin 16) (t : Fin 8192) (d : Fin 128) :
    (dat3 V c).arrAt 8 cfg3.N (ix2 t (col h d)) = ((gradK sg (q h) (k h) (v h) (w h) (g h) t d : ℝ) : EReal) := by
  refine (congrFun ((dat3 V c).arrAt_eq_of_covers 8 (fun i => by_col (fun h t d => gradK sg (q h) (k h) (v h) (w h) (g h) t d) (i 0) (i 1))
    (by decide +kernel) fun u hf y => ?_) _).trans (by_col_col _ h t d)
  obtain ⟨r, x, rfl⟩ : ∃ (r : Fin 512) (x : Fin 128), y = ix2 r x := ⟨y 0, y 1, eq_ix2 y⟩
  have e0 : ((cfg3.win 8).blk u).view.emb (ix2 r x) 0 = row (gb3 u) r := by
    apply Fin.ext; blk_simp [ix3_8]; exact (row_val _ _).symm
  have e1 : ((cfg3.win 8).blk u).view.emb (ix2 r x) 1 = col (gh3 u) x := by
    apply Fin.ext; blk_simp [ix3_8]; exact (col_val _ _).symm
  refine Eq.trans ?_ ((congrArg₂ (by_col _) e0 e1).trans (by_col_col _ _ _ _)).symm
  blk_simp
  rw [after3_8]
  exact (point3 V c hq hk hv hw hc hg hl hδ u r).1 x

/-- The gradient of the values. -/
theorem arr3_9 (h : Fin 16) (t : Fin 8192) (d : Fin 128) :
    (dat3 V c).arrAt 9 cfg3.N (ix2 t (col h d)) = ((gradV sg (q h) (k h) (w h) (g h) t d : ℝ) : EReal) := by
  refine (congrFun ((dat3 V c).arrAt_eq_of_covers 9 (fun i => by_col (fun h t d => gradV sg (q h) (k h) (w h) (g h) t d) (i 0) (i 1))
    (by decide +kernel) fun u hf y => ?_) _).trans (by_col_col _ h t d)
  obtain ⟨r, x, rfl⟩ : ∃ (r : Fin 512) (x : Fin 128), y = ix2 r x := ⟨y 0, y 1, eq_ix2 y⟩
  have e0 : ((cfg3.win 9).blk u).view.emb (ix2 r x) 0 = row (gb3 u) r := by
    apply Fin.ext; blk_simp [ix3_9]; exact (row_val _ _).symm
  have e1 : ((cfg3.win 9).blk u).view.emb (ix2 r x) 1 = col (gh3 u) x := by
    apply Fin.ext; blk_simp [ix3_9]; exact (col_val _ _).symm
  refine Eq.trans ?_ ((congrArg₂ (by_col _) e0 e1).trans (by_col_col _ _ _ _)).symm
  blk_simp
  rw [after3_9]
  exact (point3 V c hq hk hv hw hc hg hl hδ u r).2.1 x

/-- The gradient of the cumulative log gates. -/
theorem arr3_10 (h : Fin 16) (t : Fin 8192) :
    (dat3 V c).arrAt 10 cfg3.N (ix3 h t 0) = ((gradG sg (q h) (k h) (v h) (w h) (g h) t : ℝ) : EReal) := by
  refine congrFun ((dat3 V c).arrAt_eq_of_covers 10 (fun i => by_head (fun h t => gradG sg (q h) (k h) (v h) (w h) (g h) t) (i 0) (i 1))
    (by decide +kernel) fun u hf y => ?_) (ix3 h t 0)
  obtain ⟨r, rfl⟩ : ∃ r : Fin 512, y = ix3 0 r 0 := col_idx y
  have e0 : ((cfg3.win 10).blk u).view.emb (ix3 0 r 0) 0 = gh3 u := by
    apply Fin.ext; blk_simp [ix3_10]; exact Nat.add_zero _
  have e1 : ((cfg3.win 10).blk u).view.emb (ix3 0 r 0) 1 = row (gb3 u) r := by
    apply Fin.ext; blk_simp [ix3_10]; exact (row_val _ _).symm
  refine Eq.trans ?_ (congrArg₂ (by_head _) e0 e1).symm
  blk_simp
  rw [after3_10]
  exact (point3 V c hq hk hv hw hc hg hl hδ u r).2.2

end Region

end Cert.Attn

end
-- ==== Proof.Host.lean ====
module

public import proofs.«01_k».proof.Proof.Arr3

@[expose] public section

/-! The kernel's calls put together: what each array holds at the end of the program, the reshapes and transposes between
    the calls included. -/

set_option maxRecDepth 16384

noncomputable section

namespace Cert.Attn

open Cert.KernelIdeal Cert.KernelIdeal.Gen Idealize.ShloMosaic Idealize.ShloMosaic.TcCoe

/-! ## The layout operations -/

section Layout

variable {α : Type}

theorem cast_split (x : S16x8192.Idx → α) (h : S16x8192.ShapeCasts S16x16x512) (i j : Fin 16) (s : Fin 512) :
    shapeCast S16x16x512 x h (ix3 i j s) = x (ix2 i (row j s)) :=
  shapeCast_apply x h _ _ (by
    rewrite [Shape.rowMajor_val_two, Shape.rowMajor_val_three]
    show i.val * 8192 + (row j s).val = (i.val * 16 + j.val) * 512 + s.val
    rw [row_val]; omega)

theorem cast_drop (x : S16x8192x1.Idx → α) (h : S16x8192x1.ShapeCasts S16x8192) (i : Fin 16) (t : Fin 8192) :
    shapeCast S16x8192 x h (ix2 i t) = x (ix3 i t 0) :=
  shapeCast_apply x h _ _ (by
    rewrite [Shape.rowMajor_val_two, Shape.rowMajor_val_three]
    show (i.val * 8192 + t.val) * 1 + 0 = i.val * 8192 + t.val
    omega)

theorem cast_add (x : S16x8192.Idx → α) (h : S16x8192.ShapeCasts S16x8192x1) (i : Fin 16) (t : Fin 8192) :
    shapeCast S16x8192x1 x h (ix3 i t 0) = x (ix2 i t) :=
  shapeCast_apply x h _ _ (by
    rewrite [Shape.rowMajor_val_two, Shape.rowMajor_val_three]
    show i.val * 8192 + t.val = (i.val * 8192 + t.val) * 1 + 0
    omega)

theorem swap_apply (x : S16x16x512.Idx → α) (h : S16x16x512.Transposes [1, 0, 2] S16x16x512) (i j : Fin 16) (s : Fin 512) :
    transpose S16x16x512 [1, 0, 2] x h (ix3 j i s) = x (ix3 i j s) :=
  transpose_apply _ x h _ _ (by intro a; fin_cases a <;> rfl)

end Layout

section Ops

variable (U : Valuation τ sig (Elt Ideal))

theorem host_v1 (i j : Fin 16) (s : Fin 512) : StableHlo.after hostOps0 U (Proc.devRef .tc main_v1) (ix3 j i s)
      = U (Proc.devRef .tc main_arg4) (ix2 i (row j s)) := by
  after_results
  exact (swap_apply _ _ i j s).trans (cast_split _ _ i j s)

theorem host_v2 (i : Fin 16) (t : Fin 8192) : StableHlo.after hostOps0 U (Proc.devRef .tc main_v2) (ix3 i t 0)
      = U (Proc.devRef .tc main_arg4) (ix2 i t) := by
  after_results
  exact cast_add _ _ i t

theorem host_v8 (i j : Fin 16) (s : Fin 512) : StableHlo.after hostOps3 U (Proc.devRef .tc main_v8) (ix3 j i s)
      = U (Proc.devRef .tc main_v3_2) (ix3 i (row j s) 0) := by
  after_results
  exact (swap_apply _ _ i j s).trans ((cast_split _ _ i j s).trans (cast_drop _ _ i _))

theorem host_v12 (i j : Fin 16) (s : Fin 512) : StableHlo.after hostOps3 U (Proc.devRef .tc main_v12) (ix3 j i s)
      = U (Proc.devRef .tc main_v4) (ix3 i (row j s) 0) := by
  after_results
  exact (swap_apply _ _ i j s).trans ((cast_split _ _ i j s).trans (cast_drop _ _ i _))

end Ops

/-! ## The calls in order -/

section Chain

variable (m : (ℓ : Loc nD τ sig) → Buf (Elt Ideal) ℓ) (ρ : Dev nD → PrngReg) (c : Dev nD)
  {q k v w : Fin 16 → Fin 8192 → Fin 128 → ℝ} {g : Fin 16 → Fin 8192 → ℝ}

/-- The arguments hold the given real numbers. -/
structure Holds (q k v w : Fin 16 → Fin 8192 → Fin 128 → ℝ) (g : Fin 16 → Fin 8192 → ℝ) : Prop where
  hq : ∀ h t d, m ((c : Thread nD τ).loc main_arg0) (ix2 t (col h d)) = (q h t d : EReal)
  hk : ∀ h t d, m ((c : Thread nD τ).loc main_arg1) (ix2 t (col h d)) = (k h t d : EReal)
  hv : ∀ h t d, m ((c : Thread nD τ).loc main_arg2) (ix2 t (col h d)) = (v h t d : EReal)
  hw : ∀ h t d, m ((c : Thread nD τ).loc main_arg3) (ix2 t (col h d)) = (w h t d : EReal)
  hg : ∀ h t, m ((c : Thread nD τ).loc main_arg4) (ix2 h t) = (g h t : EReal)

variable {m c} (H : Holds m c q k v w g)

include H

theorem at1_v1 (h j : Fin 16) (s : Fin 512) : W1 m ρ c (Proc.devRef .tc main_v1) (ix3 j h s) = (g h (row j s) : EReal) :=
  (host_v1 _ h j s).trans (H.hg h _)

theorem at1_v2 (h : Fin 16) (t : Fin 8192) : W1 m ρ c (Proc.devRef .tc main_v2) (ix3 h t 0) = (g h t : EReal) :=
  (host_v2 _ h t).trans (H.hg h _)

theorem at2_v3_1 (h : Fin 16) (t : Fin 8192) (d : Fin 128) : W2 m ρ c (Proc.devRef .tc main_v3_1) (ix2 t (col h d))
      = ((outp sg (q h) (k h) (v h) (g h) t d : ℝ) : EReal) :=
  (congrFun (W2_arr m ρ c 5) _).trans (arr0_5 (V1 m ρ) c
    (fun h t d => (congrFun (W1_args m ρ c main_arg0 (by decide)) _).trans (H.hq h t d))
    (fun h t d => (congrFun (W1_args m ρ c main_arg1 (by decide)) _).trans (H.hk h t d))
    (fun h t d => (congrFun (W1_args m ρ c main_arg2 (by decide)) _).trans (H.hv h t d)) (at1_v1 ρ H) h t d)

theorem at2_v3_0 (h : Fin 16) (t : Fin 8192) (d : Fin 128) : W2 m ρ c (Proc.devRef .tc main_v3_0) (ix2 t (col h d))
      = ((outp sg (q h) (k h) (v h) (g h) t d : ℝ) : EReal) :=
  (congrFun (W2_arr m ρ c 4) _).trans (arr0_4 (V1 m ρ) c
    (fun h t d => (congrFun (W1_args m ρ c main_arg0 (by decide)) _).trans (H.hq h t d))
    (fun h t d => (congrFun (W1_args m ρ c main_arg1 (by decide)) _).trans (H.hk h t d))
    (fun h t d => (congrFun (W1_args m ρ c main_arg2 (by decide)) _).trans (H.hv h t d)) (at1_v1 ρ H) h t d)

theorem at2_v3_2 (h : Fin 16) (t : Fin 8192) : W2 m ρ c (Proc.devRef .tc main_v3_2) (ix3 h t 0)
      = ((lse sg (q h) (k h) (g h) t : ℝ) : EReal) :=
  (congrFun (W2_arr m ρ c 6) _).trans (arr0_6 (V1 m ρ) c
    (fun h t d => (congrFun (W1_args m ρ c main_arg0 (by decide)) _).trans (H.hq h t d))
    (fun h t d => (congrFun (W1_args m ρ c main_arg1 (by decide)) _).trans (H.hk h t d))
    (fun h t d => (congrFun (W1_args m ρ c main_arg2 (by decide)) _).trans (H.hv h t d)) (at1_v1 ρ H) h t)

theorem at3_v4 (h : Fin 16) (t : Fin 8192) : W3 m ρ c (Proc.devRef .tc main_v4) (ix3 h t 0)
      = ((dlt sg (q h) (k h) (v h) (w h) (g h) t : ℝ) : EReal) :=
  (congrFun (W3_arr m ρ c 2) _).trans (arr1_2 (V2 m ρ) c
    (fun h t d => (congrFun (W2_args m ρ c main_arg3 (by decide)) _).trans (H.hw h t d)) (at2_v3_1 ρ H) h t)

theorem at3_v1 (h j : Fin 16) (s : Fin 512) : W3 m ρ c (Proc.devRef .tc main_v1) (ix3 j h s) = (g h (row j s) : EReal) :=
  (congrFun ((W3_of m ρ c main_v1 (by decide)).trans (W2_of m ρ c main_v1 (by decide))) _).trans (at1_v1 ρ H h j s)

theorem at3_v3_2 (h : Fin 16) (t : Fin 8192) : W3 m ρ c (Proc.devRef .tc main_v3_2) (ix3 h t 0)
      = ((lse sg (q h) (k h) (g h) t : ℝ) : EReal) :=
  (congrFun (W3_of m ρ c main_v3_2 (by decide)) _).trans (at2_v3_2 ρ H h t)

theorem at4_v5 (h : Fin 16) (t : Fin 8192) (d : Fin 128) : W4 m ρ c (Proc.devRef .tc main_v5) (ix2 t (col h d))
      = ((gradQ sg (q h) (k h) (v h) (w h) (g h) t d : ℝ) : EReal) :=
  (congrFun (W4_arr m ρ c 7) _).trans (arr2_7 (V3 m ρ) c
    (fun h t d => (congrFun (W3_args m ρ c main_arg0 (by decide)) _).trans (H.hq h t d))
    (fun h t d => (congrFun (W3_args m ρ c main_arg1 (by decide)) _).trans (H.hk h t d))
    (fun h t d => (congrFun (W3_args m ρ c main_arg2 (by decide)) _).trans (H.hv h t d))
    (fun h t d => (congrFun (W3_args m ρ c main_arg3 (by decide)) _).trans (H.hw h t d))
    (at3_v1 ρ H) (at3_v3_2 ρ H) (at3_v4 ρ H) h t d)

theorem at5_v1 (h j : Fin 16) (s : Fin 512) : W5 m ρ c (Proc.devRef .tc main_v1) (ix3 j h s) = (g h (row j s) : EReal) :=
  (congrFun ((W5_of m ρ c main_v1 (by decide)).trans (W4_of m ρ c main_v1 (by decide))) _).trans (at3_v1 ρ H h j s)

theorem at5_v2 (h : Fin 16) (t : Fin 8192) : W5 m ρ c (Proc.devRef .tc main_v2) (ix3 h t 0) = (g h t : EReal) :=
  (congrFun ((W5_of m ρ c main_v2 (by decide)).trans ((W4_of m ρ c main_v2 (by decide)).trans
    ((W3_of m ρ c main_v2 (by decide)).trans (W2_of m ρ c main_v2 (by decide))))) _).trans (at1_v2 ρ H h t)

theorem at5_v8 (h j : Fin 16) (s : Fin 512) : W5 m ρ c (Proc.devRef .tc main_v8) (ix3 j h s)
      = ((lse sg (q h) (k h) (g h) (row j s) : ℝ) : EReal) :=
  (host_v8 _ h j s).trans ((congrFun (W4_of m ρ c main_v3_2 (by decide)) _).trans (at3_v3_2 ρ H h _))

theorem at5_v12 (h j : Fin 16) (s : Fin 512) : W5 m ρ c (Proc.devRef .tc main_v12) (ix3 j h s)
      = ((dlt sg (q h) (k h) (v h) (w h) (g h) (row j s) : ℝ) : EReal) :=
  (host_v12 _ h j s).trans ((congrFun (W4_of m ρ c main_v4 (by decide)) _).trans (at3_v4 ρ H h _))

/-- The gradient of the queries at the end of the program. -/
theorem end_q (h : Fin 16) (t : Fin 8192) (d : Fin 128) : W6 m ρ c (Proc.devRef .tc main_v5) (ix2 t (col h d))
      = ((gradQ sg (q h) (k h) (v h) (w h) (g h) t d : ℝ) : EReal) :=
  (congrFun ((W6_of m ρ c main_v5 (by decide)).trans (W5_of m ρ c main_v5 (by decide))) _).trans (at4_v5 ρ H h t d)

/-- The gradient of the keys at the end of the program. -/
theorem end_k (h : Fin 16) (t : Fin 8192) (d : Fin 128) : W6 m ρ c (Proc.devRef .tc main_v14_0) (ix2 t (col h d))
      = ((gradK sg (q h) (k h) (v h) (w h) (g h) t d : ℝ) : EReal) :=
  (congrFun (W6_arr m ρ c 8) _).trans (arr3_8 (V5 m ρ) c
    (fun h t d => (congrFun (W5_args m ρ c main_arg0 (by decide)) _).trans (H.hq h t d))
    (fun h t d => (congrFun (W5_args m ρ c main_arg1 (by decide)) _).trans (H.hk h t d))
    (fun h t d => (congrFun (W5_args m ρ c main_arg2 (by decide)) _).trans (H.hv h t d))
    (fun h t d => (congrFun (W5_args m ρ c main_arg3 (by decide)) _).trans (H.hw h t d))
    (at5_v1 ρ H) (at5_v2 ρ H) (at5_v8 ρ H) (at5_v12 ρ H) h t d)

/-- The gradient of the values at the end of the program. -/
theorem end_v (h : Fin 16) (t : Fin 8192) (d : Fin 128) : W6 m ρ c (Proc.devRef .tc main_v14_1) (ix2 t (col h d))
      = ((gradV sg (q h) (k h) (w h) (g h) t d : ℝ) : EReal) :=
  (congrFun (W6_arr m ρ c 9) _).trans (arr3_9 (V5 m ρ) c
    (fun h t d => (congrFun (W5_args m ρ c main_arg0 (by decide)) _).trans (H.hq h t d))
    (fun h t d => (congrFun (W5_args m ρ c main_arg1 (by decide)) _).trans (H.hk h t d))
    (fun h t d => (congrFun (W5_args m ρ c main_arg2 (by decide)) _).trans (H.hv h t d))
    (fun h t d => (congrFun (W5_args m ρ c main_arg3 (by decide)) _).trans (H.hw h t d))
    (at5_v1 ρ H) (at5_v2 ρ H) (at5_v8 ρ H) (at5_v12 ρ H) h t d)

/-- The gradient of the cumulative log gates at the end of the program. -/
theorem end_g (h : Fin 16) (t : Fin 8192) : W6 m ρ c (Proc.devRef .tc main_v14_2) (ix3 h t 0)
      = ((gradG sg (q h) (k h) (v h) (w h) (g h) t : ℝ) : EReal) :=
  (congrFun (W6_arr m ρ c 10) _).trans (arr3_10 (V5 m ρ) c
    (fun h t d => (congrFun (W5_args m ρ c main_arg0 (by decide)) _).trans (H.hq h t d))
    (fun h t d => (congrFun (W5_args m ρ c main_arg1 (by decide)) _).trans (H.hk h t d))
    (fun h t d => (congrFun (W5_args m ρ c main_arg2 (by decide)) _).trans (H.hv h t d))
    (fun h t d => (congrFun (W5_args m ρ c main_arg3 (by decide)) _).trans (H.hw h t d))
    (at5_v1 ρ H) (at5_v2 ρ H) (at5_v8 ρ H) (at5_v12 ρ H) h t)

/-- The attention's output at the end of the program. -/
theorem end_o (h : Fin 16) (t : Fin 8192) (d : Fin 128) : W6 m ρ c (Proc.devRef .tc main_v3_0) (ix2 t (col h d))
      = ((outp sg (q h) (k h) (v h) (g h) t d : ℝ) : EReal) :=
  (congrFun ((W6_of m ρ c main_v3_0 (by decide)).trans ((W5_of m ρ c main_v3_0 (by decide)).trans ((W4_of m ρ c main_v3_0 (by decide)).trans
    (W3_of m ρ c main_v3_0 (by decide))))) _).trans (at2_v3_0 ρ H h t d)

end Chain

end Cert.Attn

end
-- ==== Proof.Run.lean ====
module

public import proofs.«01_k».proof.Proof.Host

@[expose] public section

/-! The run of the kernel's program, with what its result arrays hold at the end. -/

set_option maxRecDepth 16384

noncomputable section

namespace Cert.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

set_option backward.isDefEq.respectTransparency.types false in
/-- Every execution ends, with the results at the last boundary's contents and the arguments as launched. -/
theorem run_kernel : θ_run defs (onTc (τ := τ) (main (F := Ideal))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_v14_0) = W6 m ρ c (Proc.devRef .tc main_v14_0)
      ∧ r.2.mem ((c.tc : Thread nD τ).loc main_v14_1) = W6 m ρ c (Proc.devRef .tc main_v14_1)
      ∧ r.2.mem ((c.tc : Thread nD τ).loc main_v14_2) = W6 m ρ c (Proc.devRef .tc main_v14_2)
      ∧ r.2.mem ((c.tc : Thread nD τ).loc main_v3_0) = W6 m ρ c (Proc.devRef .tc main_v3_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v5 (by decide)), h c _ (mem_uc main_v14_0 (by decide)), h c _ (mem_uc main_v14_1 (by decide)),
       h c _ (mem_uc main_v14_2 (by decide)), h c _ (mem_uc main_v3_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Attn

end
-- ==== Proof.Ref.lean ====
module

public import proofs.«01_k».proof.Proof.Host
public import proofs.«01_k».proof.Proof.Gen.ReferenceIdeal.Read

@[expose] public section

/-! What the reference computes, one operation after another, at real arguments. -/

set_option maxRecDepth 16384

noncomputable section

namespace Cert.Attn

open Cert.ReferenceIdeal Cert.ReferenceIdeal.Gen Cert.ReferenceIdeal.Read Idealize.ShloMosaic Idealize.ShloMosaic.TcCoe

section Ref

variable {X0 X1 X2 X3 : (⟨S8192x2048, .bf16⟩ : BufTy).Contents (Elt Ideal)} {X4 : (⟨S16x8192, .f32⟩ : BufTy).Contents (Elt Ideal)}
  {q k v w : Fin 16 → Fin 8192 → Fin 128 → ℝ} {g : Fin 16 → Fin 8192 → ℝ}

/-! ### The arguments by head -/

/-- The constants `0` and `1`. -/
theorem bits_zero : Ideal.ofBits FTy.f32 0x00000000#32 = (0 : EReal) := by
  simp [Ideal.ofBits, Ideal.ieee]

theorem bits_one : Ideal.ofBits FTy.f32 0x3F800000#32 = ((1 : ℝ) : EReal) := by
  simp [Ideal.ofBits, Ideal.ieee, -EReal.coe_mul, ← EReal.coe_mul]; norm_num

/-- A reshape that adds an axis of one element. -/
theorem unit_idx (h : Fin 16) (t : Fin 8192) : idx_main_v63 (ix3 h t 0) = ix2 h t := by
  have := h.2; have := t.2
  funext a
  fin_cases a
  · apply Fin.ext; show ((h.1 * 8192 + t.1) * 1 + 0) / 8192 = h.1; omega
  · apply Fin.ext; show ((h.1 * 8192 + t.1) * 1 + 0) % 8192 = t.1; omega

theorem mid_idx (h : Fin 16) (t : Fin 8192) : idx_main_v76 (idx_main_v77 (ix2 h t) 0) = ix2 h t := by
  have := h.2; have := t.2
  funext a
  fin_cases a
  · apply Fin.ext; show ((h.1 * 1 + 0) * 8192 + t.1) / 8192 = h.1; omega
  · apply Fin.ext; show ((h.1 * 1 + 0) * 8192 + t.1) % 8192 = t.1; omega

/-- The column of a head's feature, as the reference's reshape computes it. -/
theorem flat_idx (h : Fin 16) (t : Fin 8192) (d : Fin 128) : idx_main_v4 (ix3 t h d) = ix2 t (col h d) := by
  have := d.2; have := h.2; have := t.2
  funext a
  fin_cases a
  · apply Fin.ext; show ((t.1 * 16 + h.1) * 128 + d.1) / 2048 = t.1; omega
  · apply Fin.ext; show ((t.1 * 16 + h.1) * 128 + d.1) % 2048 = 128 * h.1 + d.1; omega

/-- A column's head and feature, as the reference's reshape computes them. -/
theorem unflat_idx (h : Fin 16) (t : Fin 8192) (d : Fin 128) : idx_main_v86 (ix2 t (col h d)) = ix3 t h d := by
  have := d.2; have := h.2; have := t.2
  funext a
  fin_cases a
  · apply Fin.ext; show (t.1 * 2048 + (128 * h.1 + d.1)) / (16 * 128) = t.1; omega
  · apply Fin.ext; show (t.1 * 2048 + (128 * h.1 + d.1)) / 128 % 16 = h.1; omega
  · apply Fin.ext; show (t.1 * 2048 + (128 * h.1 + d.1)) % 128 = d.1; omega

theorem ref_v4 (H : ∀ h t d, X0 (ix2 t (col h d)) = (q h t d : EReal)) (h : Fin 16) (t : Fin 8192) (d : Fin 128) :
    val_main_v4 (F := Ideal) X0 (ix3 t h d) = (q h t d : EReal) := by
  rw [val_main_v4_apply, show idx_main_v4 (ix3 t h d) = ix2 t (col h d) from flat_idx h t d]
  exact H h t d

theorem ref_v5 (H : ∀ h t d, X1 (ix2 t (col h d)) = (k h t d : EReal)) (h : Fin 16) (t : Fin 8192) (d : Fin 128) :
    val_main_v5 (F := Ideal) X1 (ix3 t h d) = (k h t d : EReal) := by
  rw [val_main_v5_apply, show idx_main_v5 (ix3 t h d) = ix2 t (col h d) from flat_idx h t d]
  exact H h t d

theorem ref_v6 (H : ∀ h t d, X2 (ix2 t (col h d)) = (v h t d : EReal)) (h : Fin 16) (t : Fin 8192) (d : Fin 128) :
    val_main_v6 (F := Ideal) X2 (ix3 t h d) = (v h t d : EReal) := by
  rw [val_main_v6_apply, show idx_main_v6 (ix3 t h d) = ix2 t (col h d) from flat_idx h t d]
  exact H h t d

theorem ref_v54 (H : ∀ h t d, X3 (ix2 t (col h d)) = (w h t d : EReal)) (h : Fin 16) (t : Fin 8192) (d : Fin 128) :
    val_main_v54 (F := Ideal) X3 (ix3 t h d) = (w h t d : EReal) := by
  rw [val_main_v54_apply, show idx_main_v54 (ix3 t h d) = ix2 t (col h d) from flat_idx h t d]
  exact H h t d

variable (hq : ∀ h t d, X0 (ix2 t (col h d)) = (q h t d : EReal)) (hk : ∀ h t d, X1 (ix2 t (col h d)) = (k h t d : EReal))
  (hv : ∀ h t d, X2 (ix2 t (col h d)) = (v h t d : EReal)) (hw : ∀ h t d, X3 (ix2 t (col h d)) = (w h t d : EReal))
  (hg : ∀ h t, X4 (ix2 h t) = (g h t : EReal))

/-! ### The weights -/

section Weights

include hq hk hg

theorem ref_v16 (h : Fin 16) (t s : Fin 8192) :
    val_main_v16 (F := Ideal) X0 X1 X4 (ix3 h t s) = ((sc sg (q h) (k h) (g h) (g h t) t s : ℝ) : EReal) := by
  have e8 : val_main_v8 (F := Ideal) X0 X1 (ix3 h t s) = ((∑ d, q h t d * k h s d : ℝ) : EReal) := by
    rw [val_main_v8_apply, ← coe_sum]
    refine Finset.sum_congr rfl fun d _ => ?_
    rw [show lidx_main_v8 (ix3 h t s) d = ix3 t h d from funext fun a => by fin_cases a <;> rfl,
      show ridx_main_v8 (ix3 h t s) d = ix3 s h d from funext fun a => by fin_cases a <;> rfl, ref_v4 hq, ref_v5 hk, EReal.coe_mul]
  have e13 : val_main_v13 (F := Ideal) X4 (ix3 h t s) = (g h t : EReal) := by
    rw [val_main_v13_apply, val_main_v11_apply, ← hg]
    exact congrArg _ (funext fun a => by fin_cases a <;> rfl)
  have e14 : val_main_v14 (F := Ideal) X4 (ix3 h t s) = (g h s : EReal) := by
    rw [val_main_v14_apply, val_main_v12_apply, ← hg]
    exact congrArg _ (funext fun a => by fin_cases a <;> rfl)
  rw [val_main_v16_apply, val_main_v10_apply, val_main_v15_apply, val_main_v9_apply, val_main_cst_apply, e8, e13, e14]
  simp only [Ideal.addf_def, Ideal.mulf_def, Ideal.subf_def, Ideal.ofBits_def]
  rw [bits_scale, ← EReal.coe_mul, ← EReal.coe_sub, ← EReal.coe_add]
  rfl

omit hq hk hg in
theorem ref_mask {α : Type} (h : Fin 16) (t s : Fin 8192) (a b : α) :
    Scalar.select (val_main_v22_1 (F := Ideal) (ix3 h t s)) a b = if s ≤ t then a else b := by
  rw [val_main_v22_1_apply, val_main_v21_apply, val_main_v19_apply, val_main_v20_apply, val_main_v17_apply, val_main_v18_apply,
    val_main_v7_apply, val_main_v7_apply]
  exact select_sle le_rfl s t a b

theorem ref_v22 (h : Fin 16) (t s : Fin 8192) :
    val_main_v22_0 (F := Ideal) X0 X1 X4 (ix3 h t s) = if s ≤ t then ((sc sg (q h) (k h) (g h) (g h t) t s : ℝ) : EReal) else ⊥ := by
  rw [val_main_v22_0_apply, ref_mask, ref_v16 hq hk hg, val_main_call0_v2_apply, val_main_call0_v0_apply, val_main_cst_0_apply,
    Ideal.ofBits_def, bits_bot]

/-- The maximum of a query's scores is real. -/
theorem ref_v23 (h : Fin 16) (t : Fin 8192) : ∃ μ : ℝ, val_main_v23 (F := Ideal) X0 X1 X4 (ix2 h t) = (μ : EReal) := by
  have hR : S16x8192x8192.Reduces [2] S16x8192 := by decide
  have hl : ∀ s : Fin 8192, hR.lift (ix2 h t) s = ix3 h t s := fun s => funext fun a => by
    fin_cases a <;> rfl
  unfold val_main_v23
  rw [Host.reduce_eq_fold_single FloatOps.maximumf _ _ reducesTo_S16x8192x8192_S16x8192_d2 hR h_S_ (ix2 h t)]
  have e : (val_main_cst_1 (F := Ideal)) (Shape.Idx.first h_S_) = (⊥ : EReal) := by
    rw [val_main_cst_1_apply, Ideal.ofBits_def, bits_bot]
  rw [e]
  refine fold_max_real (K := Fin 8192) (fun s => val_main_v22_0 (F := Ideal) X0 X1 X4 (hR.lift (ix2 h t) s)) (fun s => ?_) ⟨t, ?_⟩
  · show val_main_v22_0 (F := Ideal) X0 X1 X4 (hR.lift (ix2 h t) s) ≠ ⊤
    rw [hl, ref_v22 hq hk hg]; split <;> simp
  · show val_main_v22_0 (F := Ideal) X0 X1 X4 (hR.lift (ix2 h t) t) ≠ ⊥
    rw [hl, ref_v22 hq hk hg, if_pos le_rfl]; simp

/-- The exponentials are the unnormalised weights at some offset, the same for all of a query's. -/
theorem ref_v43 (h : Fin 16) (t : Fin 8192) : ∃ a : ℝ, ∀ s,
    val_main_v43 (F := Ideal) X0 X1 X4 (ix3 h t s) = ((ex sg (q h) (k h) (g h) a t s : ℝ) : EReal) := by
  obtain ⟨μ, hμ⟩ := ref_v23 hq hk hg h t
  refine ⟨g h t + -μ, fun s => ?_⟩
  have e41 : val_main_v41 (F := Ideal) X0 X1 X4 (ix3 h t s) = (μ : EReal) := by
    rw [val_main_v41_apply, val_main_v40_apply,
      show idx_main_v40 (idx_main_v41 (ix3 h t s)) = ix2 h t from funext fun a => by fin_cases a <;> rfl, val_main_v30_apply, hμ,
      val_main_v29_apply, val_main_cst_3_apply, Ideal.ofBits_def, bits_bot, Ideal.maximumf_def]
    exact max_bot_left (μ : EReal)
  rw [val_main_v43_apply, val_main_v42_apply, e41, ref_v22 hq hk hg]
  show Ideal.exp (_ - (μ : EReal)) = _
  unfold ex
  split
  · rw [← EReal.coe_sub, exp_coe]
    refine congrArg (fun x : ℝ => ((Real.exp x : ℝ) : EReal)) ?_
    unfold sc; ring
  · rw [EReal.bot_sub, exp_bot, EReal.coe_zero]

/-- The sum of the exponentials. -/
theorem ref_v44 (h : Fin 16) (t : Fin 8192) {a : ℝ}
    (ha : ∀ s, val_main_v43 (F := Ideal) X0 X1 X4 (ix3 h t s) = ((ex sg (q h) (k h) (g h) a t s : ℝ) : EReal)) :
    val_main_v44 (F := Ideal) X0 X1 X4 (ix2 h t) = ((tot sg (q h) (k h) (g h) a t : ℝ) : EReal) := by
  rw [val_main_v44_apply, val_main_cst_9_apply, Ideal.ofBits_def, bits_zero, zero_add]
  unfold tot
  rw [← coe_sum]
  refine Finset.sum_congr rfl fun s _ => ?_
  rw [show idx_main_v44 (ix2 h t) s = ix3 h t s from funext fun a => by fin_cases a <;> rfl]
  exact ha s

theorem ref_v45 (h : Fin 16) (t : Fin 8192) {a : ℝ}
    (ha : ∀ s, val_main_v43 (F := Ideal) X0 X1 X4 (ix3 h t s) = ((ex sg (q h) (k h) (g h) a t s : ℝ) : EReal)) :
    val_main_v45 (F := Ideal) X0 X1 X4 (ix3 h t 0) = ((tot sg (q h) (k h) (g h) a t : ℝ) : EReal) := by
  rw [val_main_v45_apply, show idx_main_v45 (ix3 h t 0) = ix2 h t from funext fun a => by fin_cases a <;> rfl]
  exact ref_v44 hq hk hg h t ha

/-- The quotients are the weights. -/
theorem ref_v47 (h : Fin 16) (t s : Fin 8192) : val_main_v47 (F := Ideal) X0 X1 X4 (ix3 h t s) = ((wt sg (q h) (k h) (g h) t s : ℝ) : EReal) := by
  obtain ⟨a, ha⟩ := ref_v43 hq hk hg h t
  rw [val_main_v47_apply, ha, val_main_v46_apply, show idx_main_v46 (ix3 h t s) = ix3 h t 0 from funext fun a => by fin_cases a <;> rfl,
    ref_v45 hq hk hg h t ha, Ideal.hostDivf_def, div_coe (tot_pos sg (q h) (k h) (g h) a t).ne', wt_eq sg (q h) (k h) (g h) a]

include hv in
/-- The reference's output. -/
theorem ref_o (h : Fin 16) (t : Fin 8192) (d : Fin 128) :
    val_main_v91 (F := Ideal) X0 X1 X2 X4 (ix2 t (col h d)) = ((outp sg (q h) (k h) (v h) (g h) t d : ℝ) : EReal) := by
  rw [val_main_v91_apply, val_main_v53_apply, show idx_main_v53 (ix2 t (col h d)) = ix3 t h d from unflat_idx h t d,
    val_main_v52_apply, show idx_main_v52 (ix3 t h d) = ix3 h d t from funext fun a => by fin_cases a <;> rfl, val_main_v51_apply]
  unfold outp
  rw [← coe_sum]
  refine Finset.sum_congr rfl fun s _ => ?_
  rw [show lidx_main_v51 (ix3 h d t) s = ix3 s h d from funext fun a => by fin_cases a <;> rfl,
    show ridx_main_v51 (ix3 h d t) s = ix3 h t s from funext fun a => by fin_cases a <;> rfl, ref_v6 hv, ref_v47 hq hk hg, ← EReal.coe_mul, mul_comm]

/-- The inverse square of the sum of the exponentials. -/
theorem ref_v50 (h : Fin 16) (t : Fin 8192) {a : ℝ}
    (ha : ∀ s, val_main_v43 (F := Ideal) X0 X1 X4 (ix3 h t s) = ((ex sg (q h) (k h) (g h) a t s : ℝ) : EReal)) :
    val_main_v50 (F := Ideal) X0 X1 X4 (ix3 h t 0) = ((1 / (tot sg (q h) (k h) (g h) a t * tot sg (q h) (k h) (g h) a t) : ℝ) : EReal) := by
  have hp := tot_pos sg (q h) (k h) (g h) a t
  rw [val_main_v50_apply, val_main_v49_apply, val_main_cst_10_apply, val_main_v48_apply, ref_v45 hq hk hg h t ha, Ideal.hostDivf_def,
    Ideal.ofBits_def, bits_one, Ideal.mulf_def, ← EReal.coe_mul, div_coe (mul_pos hp hp).ne']

end Weights

/-! ### The cotangents -/

section Cotangents

include hv hw in
theorem ref_v56 (h : Fin 16) (t s : Fin 8192) : val_main_v56 (F := Ideal) X2 X3 (ix3 h t s) = ((dwt (v h) (w h) t s : ℝ) : EReal) := by
  rw [val_main_v56_apply]
  unfold dwt
  rw [← coe_sum]
  refine Finset.sum_congr rfl fun d _ => ?_
  rw [show ridx_main_v56 (ix3 h t s) d = ix3 s h d from funext fun a => by fin_cases a <;> rfl, ref_v6 hv, val_main_v55_apply,
    show idx_main_v55 (lidx_main_v56 (ix3 h t s) d) = ix3 t h d from funext fun a => by fin_cases a <;> rfl, ref_v54 hw, EReal.coe_mul]

include hq hk hv hw hg

/-- The cotangents of the scores. -/
theorem ref_v71 (h : Fin 16) (t s : Fin 8192) : val_main_v71 (F := Ideal) X0 X1 X2 X3 X4 (ix3 h t s) = ((dsc sg (q h) (k h) (v h) (w h) (g h) t s : ℝ) : EReal) := by
  obtain ⟨a, ha⟩ := ref_v43 hq hk hg h t
  have hp := tot_pos sg (q h) (k h) (g h) a t
  have e61 : ∀ s, val_main_v61 (F := Ideal) X0 X1 X2 X3 X4 (ix3 h t s)
      = ((dwt (v h) (w h) t s * (1 / (tot sg (q h) (k h) (g h) a t * tot sg (q h) (k h) (g h) a t)) * ex sg (q h) (k h) (g h) a t s : ℝ) : EReal) := fun s => by
    rw [val_main_v61_apply, ha, val_main_v60_apply, ref_v56 hv hw, val_main_v59_apply,
      show idx_main_v59 (ix3 h t s) = ix3 h t 0 from funext fun a => by fin_cases a <;> rfl, ref_v50 hq hk hg h t ha, Ideal.mulf_def, Ideal.mulf_def,
      ← EReal.coe_mul, ← EReal.coe_mul]
  have e62 : val_main_v62 (F := Ideal) X0 X1 X2 X3 X4 (ix2 h t) = ((dlt sg (q h) (k h) (v h) (w h) (g h) t / tot sg (q h) (k h) (g h) a t : ℝ) : EReal) := by
    rw [val_main_v62_apply, val_main_cst_11_apply, Ideal.ofBits_def, bits_zero, zero_add, ← sum_wt_dwt, Finset.sum_div, ← coe_sum]
    refine Finset.sum_congr rfl fun s _ => ?_
    rw [show idx_main_v62 (ix2 h t) s = ix3 h t s from funext fun a => by fin_cases a <;> rfl, e61, wt_eq sg (q h) (k h) (g h) a]
    refine congrArg (fun x : ℝ => (x : EReal)) ?_
    field_simp
  have e64 : val_main_v64 (F := Ideal) X0 X1 X2 X3 X4 (ix3 h t 0) = ((-(dlt sg (q h) (k h) (v h) (w h) (g h) t / tot sg (q h) (k h) (g h) a t) : ℝ) : EReal) := by
    rw [val_main_v64_apply, val_main_v63_apply,
      show idx_main_v63 (ix3 h t 0) = ix2 h t from unit_idx h t, e62]
    exact (EReal.coe_neg _).symm
  have e68 : val_main_v68 (F := Ideal) X0 X1 X2 X3 X4 (ix3 h t s) = ((-(dlt sg (q h) (k h) (v h) (w h) (g h) t / tot sg (q h) (k h) (g h) a t) : ℝ) : EReal) := by
    rw [val_main_v68_apply, val_main_v67_apply, val_main_cst_12_apply, Ideal.ofBits_def, bits_zero, zero_add, Fin.sum_univ_one,
      show idx_main_v67 (idx_main_v68 (ix3 h t s)) 0 = ix3 h t 0 from funext fun a => by fin_cases a <;> rfl, e64]
  have e70 : val_main_v70 (F := Ideal) X0 X1 X2 X3 X4 (ix3 h t s) = ((dsc sg (q h) (k h) (v h) (w h) (g h) t s : ℝ) : EReal) := by
    rw [val_main_v70_apply, val_main_v69_apply, e68, ha, val_main_v66_apply, ref_v56 hv hw, val_main_v65_apply,
      show idx_main_v65 (ix3 h t s) = ix3 h t 0 from funext fun a => by fin_cases a <;> rfl, ref_v45 hq hk hg h t ha, Ideal.hostDivf_def, div_coe hp.ne',
      Ideal.addf_def, Ideal.mulf_def, ← EReal.coe_add, ← EReal.coe_mul]
    refine congrArg (fun x : ℝ => (x : EReal)) ?_
    unfold dsc
    rw [wt_eq sg (q h) (k h) (g h) a]
    ring
  rw [val_main_v71_apply, ref_mask, e70, val_main_call1_v0_apply, val_main_call1_cst_apply, Ideal.ofBits_def, bits_zero]
  split
  · rfl
  · rename_i hn
    rw [dsc_of_lt sg (q h) (k h) (v h) (w h) (g h) (not_le.mp hn), EReal.coe_zero]

theorem ref_v81 (h : Fin 16) (t s : Fin 8192) : val_main_v81 (F := Ideal) X0 X1 X2 X3 X4 (ix3 h t s) = ((dsc sg (q h) (k h) (v h) (w h) (g h) t s * sg : ℝ) : EReal) := by
  rw [val_main_v81_apply, ref_v71 hq hk hv hw hg, val_main_v80_apply, val_main_cst_17_apply, Ideal.ofBits_def, bits_scale, Ideal.mulf_def,
    ← EReal.coe_mul]

/-! ### The gradients -/

/-- The reference's gradient of the queries. -/
theorem ref_q (h : Fin 16) (t : Fin 8192) (d : Fin 128) :
    val_main_v89 (F := Ideal) X0 X1 X2 X3 X4 (ix2 t (col h d)) = ((gradQ sg (q h) (k h) (v h) (w h) (g h) t d : ℝ) : EReal) := by
  rw [val_main_v89_apply, val_main_v88_apply, show idx_main_v88 (ix2 t (col h d)) = ix3 t h d from unflat_idx h t d,
    val_main_v85_apply, show idx_main_v85 (ix3 t h d) = ix3 h t d from funext fun a => by fin_cases a <;> rfl, val_main_v84_apply]
  unfold gradQ
  rw [Finset.sum_mul, ← coe_sum]
  refine Finset.sum_congr rfl fun s _ => ?_
  rw [show lidx_main_v84 (ix3 h t d) s = ix3 h t s from funext fun a => by fin_cases a <;> rfl,
    show ridx_main_v84 (ix3 h t d) s = ix3 s h d from funext fun a => by fin_cases a <;> rfl, ref_v81 hq hk hv hw hg, ref_v5 hk, ← EReal.coe_mul]
  exact congrArg _ (by ring)

/-- The reference's gradient of the keys. -/
theorem ref_k (h : Fin 16) (s : Fin 8192) (d : Fin 128) :
    val_main_v87 (F := Ideal) X0 X1 X2 X3 X4 (ix2 s (col h d)) = ((gradK sg (q h) (k h) (v h) (w h) (g h) s d : ℝ) : EReal) := by
  rw [val_main_v87_apply, show idx_main_v87 (ix2 s (col h d)) = ix3 s h d from unflat_idx h s d,
    val_main_v83_apply, show idx_main_v83 (ix3 s h d) = ix3 h s d from funext fun a => by fin_cases a <;> rfl, val_main_v82_apply]
  unfold gradK
  rw [Finset.sum_mul, ← coe_sum]
  refine Finset.sum_congr rfl fun t _ => ?_
  rw [show lidx_main_v82 (ix3 h s d) t = ix3 h t s from funext fun a => by fin_cases a <;> rfl,
    show ridx_main_v82 (ix3 h s d) t = ix3 t h d from funext fun a => by fin_cases a <;> rfl, ref_v81 hq hk hv hw hg, ref_v4 hq, ← EReal.coe_mul]
  exact congrArg _ (by ring)

omit hv in
/-- The reference's gradient of the values. -/
theorem ref_v (h : Fin 16) (s : Fin 8192) (d : Fin 128) :
    val_main_v86 (F := Ideal) X0 X1 X3 X4 (ix2 s (col h d)) = ((gradV sg (q h) (k h) (w h) (g h) s d : ℝ) : EReal) := by
  rw [val_main_v86_apply, unflat_idx, val_main_v58_apply, show idx_main_v58 (ix3 s h d) = ix3 h d s from funext fun a => by fin_cases a <;> rfl, val_main_v57_apply]
  unfold gradV
  rw [← coe_sum]
  refine Finset.sum_congr rfl fun t _ => ?_
  rw [show ridx_main_v57 (ix3 h d s) t = ix3 h t s from funext fun a => by fin_cases a <;> rfl, ref_v47 hq hk hg, val_main_v55_apply,
    show idx_main_v55 (lidx_main_v57 (ix3 h d s) t) = ix3 t h d from funext fun a => by fin_cases a <;> rfl, ref_v54 hw, ← EReal.coe_mul, mul_comm]

/-- The reference's gradient of the cumulative log gates. -/
theorem ref_g (h : Fin 16) (s : Fin 8192) : val_main_v90 (F := Ideal) X0 X1 X2 X3 X4 (ix3 h s 0) = ((gradG sg (q h) (k h) (v h) (w h) (g h) s : ℝ) : EReal) := by
  have e78 : val_main_v78 (F := Ideal) X0 X1 X2 X3 X4 (ix2 h s) = ((0 : ℝ) : EReal) := by
    rw [val_main_v78_apply, val_main_cst_16_apply, Ideal.ofBits_def, bits_zero, zero_add, Fin.sum_univ_one, val_main_v73_apply,
      show idx_main_v78 (ix2 h s) 0 = ix3 h s 0 from funext fun a => by fin_cases a <;> rfl, show idx_main_v73 (ix3 h s 0) = ix2 h s from unit_idx h s,
      val_main_v72_apply, val_main_cst_13_apply, Ideal.ofBits_def, bits_zero, zero_add, ← sum_dsc sg (q h) (k h) (v h) (w h) (g h) s, ← coe_sum]
    refine Finset.sum_congr rfl fun x _ => ?_
    rw [show idx_main_v72 (ix2 h s) x = ix3 h s x from funext fun a => by fin_cases a <;> rfl, ref_v71 hq hk hv hw hg]
  have e77 : val_main_v77 (F := Ideal) X0 X1 X2 X3 X4 (ix2 h s) = ((gradG sg (q h) (k h) (v h) (w h) (g h) s : ℝ) : EReal) := by
    rw [val_main_v77_apply, val_main_cst_15_apply, Ideal.ofBits_def, bits_zero, zero_add, Fin.sum_univ_one, val_main_v76_apply,
      show idx_main_v76 (idx_main_v77 (ix2 h s) 0) = ix2 h s from mid_idx h s,
      val_main_v75_apply, val_main_cst_14_apply, Ideal.ofBits_def, bits_zero, zero_add]
    unfold gradG
    rw [← Finset.sum_neg_distrib, ← coe_sum]
    refine Finset.sum_congr rfl fun t _ => ?_
    rw [show idx_main_v75 (ix2 h s) t = ix3 h t s from funext fun a => by fin_cases a <;> rfl, val_main_v74_apply, ref_v71 hq hk hv hw hg]
    exact (EReal.coe_neg _).symm
  rw [val_main_v90_apply, show idx_main_v90 (ix3 h s 0) = ix2 h s from unit_idx h s, val_main_v79_apply, e77, e78, Ideal.addf_def,
    EReal.coe_zero, add_zero]

end Cotangents

end Ref

end Cert.Attn

end
-- ==== Proof.Value.lean ====
module

public import proofs.«01_k».proof.Defs
public import proofs.«01_k».proof.Proof.Run
public import proofs.«01_k».proof.Proof.Ref
public import proofs.«01_k».proof.Proof.Gen.Pre_all_finite

@[expose] public section

/-! The kernel's results are the reference's, at finite arguments. -/

set_option maxRecDepth 16384

noncomputable section

namespace Cert.Attn

open Idealize.ShloMosaic Idealize.ShloMosaic.TcCoe Idealize.SL.Sem

/-- A finite number is real. -/
theorem real_of (x : EReal) (h : Ideal.cmp .olt (max x (-x)) ⊤ = 1#1) : x = ((x.toReal : ℝ) : EReal) := by
  have h1 : max x (-x) < ⊤ := by
    by_contra hn
    simp [Ideal.cmp, hn] at h
  refine (EReal.coe_toReal ?_ ?_).symm
  · rintro rfl; simp at h1
  · rintro rfl; simp at h1

theorem bits_inf16 : Ideal.ofBits FTy.bf16 0x7F80#16 = (⊤ : EReal) := by
  simp [Ideal.ofBits, Ideal.ieee]

theorem bits_inf32 : Ideal.ofBits FTy.f32 0x7F800000#32 = (⊤ : EReal) := by
  simp [Ideal.ofBits, Ideal.ieee]

section

variable (m : (ℓ : Loc Cert.KernelIdeal.nD Cert.KernelIdeal.τ Cert.KernelIdeal.sig) → Buf (Elt Ideal) ℓ)

/-- The real number an entry of an argument by head is. -/
def byHead (X : Cert.KernelIdeal.S8192x2048.Idx → EReal) (h : Fin 16) (t : Fin 8192) (d : Fin 128) : ℝ := (X (ix2 t (col h d))).toReal

def byRow (X : Cert.KernelIdeal.S16x8192.Idx → EReal) (h : Fin 16) (t : Fin 8192) : ℝ := (X (ix2 h t)).toReal

/-- Finite arguments hold real numbers. -/
theorem holds_of_finite (h : Cert.Pre_KernelIdeal_all_finite (hPre_all_finite := Cert.Pre_all_finite.Gen.facts) m)
    (c : Dev Cert.KernelIdeal.nD) : Holds m c
      (byHead (m ((c : Thread Cert.KernelIdeal.nD Cert.KernelIdeal.τ).loc Cert.KernelIdeal.main_arg0)))
      (byHead (m ((c : Thread Cert.KernelIdeal.nD Cert.KernelIdeal.τ).loc Cert.KernelIdeal.main_arg1)))
      (byHead (m ((c : Thread Cert.KernelIdeal.nD Cert.KernelIdeal.τ).loc Cert.KernelIdeal.main_arg2)))
      (byHead (m ((c : Thread Cert.KernelIdeal.nD Cert.KernelIdeal.τ).loc Cert.KernelIdeal.main_arg3)))
      (byRow (m ((c : Thread Cert.KernelIdeal.nD Cert.KernelIdeal.τ).loc Cert.KernelIdeal.main_arg4))) := by
  obtain ⟨h0, h1, h2, h3, h4⟩ := h c
  refine ⟨fun a t d => ?_, fun a t d => ?_, fun a t d => ?_, fun a t d => ?_, fun a t => ?_⟩
  · have := congrFun h0 (ix2 t (col a d))
    exact real_of _ ((congrArg (Ideal.cmp .olt _) bits_inf16.symm).trans this)
  · have := congrFun h1 (ix2 t (col a d))
    exact real_of _ ((congrArg (Ideal.cmp .olt _) bits_inf16.symm).trans this)
  · have := congrFun h2 (ix2 t (col a d))
    exact real_of _ ((congrArg (Ideal.cmp .olt _) bits_inf16.symm).trans this)
  · have := congrFun h3 (ix2 t (col a d))
    exact real_of _ ((congrArg (Ideal.cmp .olt _) bits_inf16.symm).trans this)
  · have := congrFun h4 (ix2 a t)
    exact real_of _ ((congrArg (Ideal.cmp .olt _) bits_inf32.symm).trans this)

end

/-- Two arrays by head that agree at every head, row and feature are equal. -/
theorem ext_head {α : Type} {X Y : (⟨2, ![8192, 2048]⟩ : Shape).Idx → α} (h : ∀ a t d, X (ix2 t (col a d)) = Y (ix2 t (col a d))) : X = Y := by
  funext i
  have e : i = ix2 (i 0) (col (hd (i 1)) (ft (i 1))) := (eq_ix2 i).trans (congrArg (ix2 (i 0)) (col_hd (i 1)).symm)
  rw [e]
  exact h _ _ _

theorem ext_col {α : Type} {X Y : (⟨3, ![16, 8192, 1]⟩ : Shape).Idx → α} (h : ∀ a t, X (ix3 a t 0) = Y (ix3 a t 0)) : X = Y := by
  funext i
  have e : i = ix3 (i 0) (i 1) 0 := (eq_ix3 i).trans (congrArg (fun z => ix3 (i 0) (i 1) z) (Subsingleton.elim _ _))
  rw [e]
  exact h _ _

/-- The value claim. -/
theorem algebraic : Cert.algebraic_KernelIdeal_ReferenceIdeal_pre_all_finite (hKernelIdeal := Cert.KernelIdeal.Gen.facts)
    (hReferenceIdeal := Cert.ReferenceIdeal.Gen.facts) (hPre_all_finite := Cert.Pre_all_finite.Gen.facts) := by
  intro m ρ m' ρ' hpre hargs
  refine ⟨fun c => Cert.KernelIdeal.Gen.W6 m ρ c (Proc.devRef .tc Cert.KernelIdeal.main_v5),
    fun c => Cert.KernelIdeal.Gen.W6 m ρ c (Proc.devRef .tc Cert.KernelIdeal.main_v14_0),
    fun c => Cert.KernelIdeal.Gen.W6 m ρ c (Proc.devRef .tc Cert.KernelIdeal.main_v14_1),
    fun c => Cert.KernelIdeal.Gen.W6 m ρ c (Proc.devRef .tc Cert.KernelIdeal.main_v14_2),
    fun c => Cert.KernelIdeal.Gen.W6 m ρ c (Proc.devRef .tc Cert.KernelIdeal.main_v3_0), run_kernel m ρ,
    (θ_run Cert.ReferenceIdeal.defs _ _).mono (fun r hr c => ?_) (Cert.ReferenceIdeal.Value.run m' ρ')⟩
  obtain ⟨r0, r1, r2, r3, r4, rest⟩ := hr c
  obtain ⟨a0, a1, a2, a3, a4⟩ := hargs c
  have H := holds_of_finite m hpre c
  refine ⟨r0.trans (ext_head fun a t d => ?_), r1.trans (ext_head fun a t d => ?_), r2.trans (ext_head fun a t d => ?_),
    r3.trans (ext_col fun a t => ?_), r4.trans (ext_head fun a t d => ?_), rest⟩
  · rw [Cert.ReferenceIdeal.Read.val_main_v89_eq, a0, a1, a2, a3, a4]
    exact (ref_q H.hq H.hk H.hv H.hw H.hg a t d).trans (end_q ρ H a t d).symm
  · rw [Cert.ReferenceIdeal.Read.val_main_v87_eq, a0, a1, a2, a3, a4]
    exact (ref_k H.hq H.hk H.hv H.hw H.hg a t d).trans (end_k ρ H a t d).symm
  · rw [Cert.ReferenceIdeal.Read.val_main_v86_eq, a0, a1, a3, a4]
    exact (ref_v H.hq H.hk H.hw H.hg a t d).trans (end_v ρ H a t d).symm
  · rw [Cert.ReferenceIdeal.Read.val_main_v90_eq, a0, a1, a2, a3, a4]
    exact (ref_g H.hq H.hk H.hv H.hw H.hg a t).trans (end_g ρ H a t).symm
  · rw [Cert.ReferenceIdeal.Read.val_main_v91_eq, a0, a1, a2, a4]
    exact (ref_o H.hq H.hk H.hv H.hg a t d).trans (end_o ρ H a t d).symm

end Cert.Attn

end
-- ==== Proof.Mm.lean ====
module

public import Idealize.ShloMosaic.Lib.Pointwise
public import Idealize.ShloMosaic.Lib.Pipeline.ValueKit
public import Idealize.ShloMosaic.Lib.Pipeline.ReadBack

@[expose] public section

/-! A product whose sums are taken in parts, one grid point after another. -/

namespace Cert.Mm

open Idealize.ShloMosaic

/-- Two places of a matrix with the same coordinates. -/
theorem ext2 {n k : ℕ} {i j : (⟨2, ![n, k]⟩ : Shape).Idx} (h0 : (i 0).val = (j 0).val) (h1 : (i 1).val = (j 1).val) : i = j :=
  funext fun a => Fin.ext (match a with
    | ⟨0, _⟩ => h0
    | ⟨1, _⟩ => h1)

/-- Products and sums of equal numbers. -/
theorem mul_eq {a b x y : EReal} (h : a = x) (k : b = y) : a * b = x * y := congrArg₂ (fun x y : EReal => x * y) h k

theorem add_eq {a b x y : EReal} (h : a = x) (k : b = y) : a + b = x + y := congrArg₂ (fun x y : EReal => x + y) h k

/-- The accumulator `f` of a run of `J` points starts at the first point's part and takes in one part at each later point;
the last point writes it out, changed by `e` where the call adds something at the end.  What is written is the sum of the
run's parts. -/
theorem run_sum {N : ℕ} {ι : Type*} (J : ℕ) [NeZero J] (f g e p : (n : ℕ) → n < N → ι → EReal)
    (first : ∀ t : Fin N, t.val % J = 0 → ∀ j, f t.val t.isLt j = p t.val t.isLt j)
    (next : ∀ t : Fin N, ¬t.val % J = 0 → ∀ j,
      f t.val t.isLt j = f (t.val - 1) (Nat.lt_of_le_of_lt (Nat.sub_le _ _) t.isLt) j + p t.val t.isLt j)
    (last : ∀ t : Fin N, t.val % J = J - 1 → ∀ j, g t.val t.isLt j = f t.val t.isLt j + e t.val t.isLt j)
    (t : Fin N) (h : t.val % J = J - 1) (j : ι) :
    g t.val t.isLt j = ∑ s : Fin J, p (J * (t.val / J) + s.val) (Pipeline.run_point_lt_of_flush t h s) j + e t.val t.isLt j := by
  rw [last t h, Pipeline.eq_sum_fin_of_reset_step_apply_of_flush f J (fun _ => 0) (fun t => p t.val t.isLt)
    (fun t h j => (first t h j).trans (zero_add _).symm) next t h, zero_add]

end Cert.Mm
-- ==== Proof.MmDwUp.lean ====
module

public import proofs.«01_k».proof.Defs
public import proofs.«01_k».proof.Proof.Gen.KernelDwUpIdeal.Value
public import proofs.«01_k».proof.Proof.Gen.ReferenceDwUpIdeal.Read
public import proofs.«01_k».proof.Proof.Mm

@[expose] public section

/-! The gradient of the weight that opens the gated unit: the sums over the rows, taken a quarter at a time, are the
reference's sums. -/

set_option maxRecDepth 16384

noncomputable section

namespace Cert.DwUp

open Cert.KernelDwUpIdeal Cert.KernelDwUpIdeal.Gen Idealize.ShloMosaic Idealize.ShloMosaic.TcCoe Idealize.SL.Sem

theorem at0 : ∀ t : Fin cfg0.N, win0_0.index t = ![t.val % 4, t.val / 44] := (by decide +kernel : ∀ t : Fin grid0.N, _)

theorem at1 : ∀ t : Fin cfg0.N, win0_1.index t = ![t.val % 4, t.val / 4 % 11] := (by decide +kernel : ∀ t : Fin grid0.N, _)

theorem at2 : ∀ t : Fin cfg0.N, win0_2.index t = ![t.val / 44, t.val / 4 % 11] := (by decide +kernel : ∀ t : Fin grid0.N, _)

/-- The sums over the rows of two blocks. -/
def part (x0 x1 : Vec Ideal S2048x1024 .bf16) (j : S1024x1024.Idx) : EReal := ∑ k : Fin 2048, x0 (ix2 k (j 0)) * x1 (ix2 k (j 1))

theorem first_eq (x0 x1 : Vec Ideal S2048x1024 .bf16) (j : S1024x1024.Idx) : k0_pay2 (F := Ideal) x0 x1 j = part x0 x1 j := by
  pointwise [k0_pay2, k0_pay1]
  rfl

theorem next_eq (x0 x1 : Vec Ideal S2048x1024 .bf16) (a : Vec Ideal S1024x1024 .f32) (j : S1024x1024.Idx) :
    k0_pay3 (F := Ideal) x0 x1 a j = a j + part x0 x1 j := by
  pointwise [k0_pay3, k0_pay1]
  rfl

theorem last_eq (a : Vec Ideal S1024x1024 .f32) (j : S1024x1024.Idx) : k0_pay4 (F := Ideal) a j = a j := by
  pointwise [k0_pay4]

variable (m : (ℓ : Loc nD τ sig) → Buf (Elt Ideal) ℓ) (c : Dev nD)

theorem start (t : Fin cfg0.N) (h : t.val % 4 = 0) (j : S1024x1024.Idx) : (outsAt0 m c t.val t.isLt).2 j = part (iblk m c 0 t) (iblk m c 1 t) j := by
  rw [outsAt0_A m c t h (by omega) (by omega)]
  frame_out
  rw [first_eq]

theorem step (t : Fin cfg0.N) (h : ¬t.val % 4 = 0) (j : S1024x1024.Idx) : (outsAt0 m c t.val t.isLt).2 j
    = (outsAt0 m c (t.val - 1) (Nat.lt_of_le_of_lt (Nat.sub_le _ _) t.isLt)).2 j + part (iblk m c 0 t) (iblk m c 1 t) j := by
  by_cases h3 : t.val % 4 = 3
  · rw [outsAt0_C m c t h (by omega) h3]
    frame_out
    rw [next_eq, read_unread_whole]
  · rw [outsAt0_B m c t h (by omega) h3]
    frame_out
    rw [next_eq, read_unread_whole]

theorem written (t : Fin cfg0.N) (h : t.val % 4 = 3) (j : S1024x1024.Idx) :
    (outsAt0 m c t.val t.isLt).1 j = (outsAt0 m c t.val t.isLt).2 j + 0 := by
  rw [outsAt0_C m c t (by omega) (by omega) h]
  frame_out
  rw [last_eq, add_zero]

/-- The sums over all rows. -/
def sums (A : Vec Ideal S8192x2048 .bf16) (B : Vec Ideal S8192x11264 .bf16) (i : S2048x11264.Idx) : EReal :=
  ∑ l : Fin 8192, A (ix2 l (i 0)) * B (ix2 l (i 1))

/-- A run's blocks hold the sums over all rows when they are written back. -/
theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  rw [after0_2]
  refine (Cert.Mm.run_sum 4 (fun n h => (outsAt0 m c n h).2) (fun n h => (outsAt0 m c n h).1) (fun _ _ _ => 0) (fun n h => part
    (iblk m c 0 ⟨n, h⟩) (iblk m c 1 ⟨n, h⟩)) (start m c) (step m c) (written m c) t h _).trans ((add_zero _).trans ?_)
  refine Fin.sum_mul_add_congr fun s k hl => ?_
  have e0 : (4 * (t.val / 4) + s.val) % 4 = s.val := by omega
  have e1 : (4 * (t.val / 4) + s.val) / 44 = t.val / 44 := by omega
  have e2 : (4 * (t.val / 4) + s.val) / 4 = t.val / 4 := by omega
  refine Cert.Mm.mul_eq ?_ ?_
  · blk_simp [iblk, V]
    blk_ext [at0, at2, e0, e1]
  · blk_simp [iblk, V]
    blk_ext [at1, at2, e0, e2]

open Cert.ReferenceDwUpIdeal.Read in
theorem reference (A : Vec Ideal S8192x2048 .bf16) (B : Vec Ideal S8192x11264 .bf16) : val_main_v6 (F := Ideal) A B = sums A B := by
  funext i
  refine (val_main_v6_apply A B i).trans ((val_main_v5_apply A B i).trans ((val_main_v4_apply A B _).trans ?_))
  refine Finset.sum_congr rfl fun k _ => (mul_comm _ _).trans (Cert.Mm.mul_eq (congrArg A ?_) (congrArg B ?_)) <;>
    exact Cert.Mm.ext2 rfl rfl

theorem algebraic : Cert.algebraic_KernelDwUpIdeal_ReferenceDwUpIdeal (hKernelDwUpIdeal := Cert.KernelDwUpIdeal.Gen.facts)
    (hReferenceDwUpIdeal := Cert.ReferenceDwUpIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDwUpIdeal.Value.run_blocks m ρ),
    (θ_run Cert.ReferenceDwUpIdeal.defs _ _).mono (fun r hr c => ?_) (Cert.ReferenceDwUpIdeal.Value.run m' ρ')⟩
  · exact ⟨(hr c).1.trans (result m c), (hr c).2⟩
  · obtain ⟨a0, a1⟩ := hargs c
    refine ⟨(hr c).1.trans ?_, (hr c).2⟩
    rw [Cert.ReferenceDwUpIdeal.Read.val_main_v6_eq, a0, a1]
    exact reference _ _

end Cert.DwUp

end
-- ==== Proof.MmDh.lean ====
module

public import proofs.«01_k».proof.Defs
public import proofs.«01_k».proof.Proof.Gen.KernelDhIdeal.Value
public import proofs.«01_k».proof.Proof.Gen.ReferenceDhIdeal.Read
public import proofs.«01_k».proof.Proof.Mm

@[expose] public section

/-! The gradient of the gated unit's input: the sums over the unit's features, taken an eighth at a time, are the reference's
sums. -/

set_option maxRecDepth 16384

noncomputable section

namespace Cert.Dh

open Cert.KernelDhIdeal Cert.KernelDhIdeal.Gen Idealize.ShloMosaic Idealize.ShloMosaic.TcCoe Idealize.SL.Sem

theorem at0 : ∀ t : Fin cfg0.N, win0_0.index t = ![t.val / 16, t.val % 8] := (by decide +kernel : ∀ t : Fin grid0.N, _)

theorem at1 : ∀ t : Fin cfg0.N, win0_1.index t = ![t.val / 8 % 2, t.val % 8] := (by decide +kernel : ∀ t : Fin grid0.N, _)

theorem at2 : ∀ t : Fin cfg0.N, win0_2.index t = ![t.val / 16, t.val / 8 % 2] := (by decide +kernel : ∀ t : Fin grid0.N, _)

/-- The sums over the features of two blocks. -/
def part (x0 x1 : Vec Ideal S1024x1408 .bf16) (j : S1024x1024.Idx) : EReal := ∑ k : Fin 1408, x0 (ix2 (j 0) k) * x1 (ix2 (j 1) k)

theorem first_eq (x0 x1 : Vec Ideal S1024x1408 .bf16) (j : S1024x1024.Idx) : k0_pay2 (F := Ideal) x0 x1 j = part x0 x1 j := by
  pointwise [k0_pay2, k0_pay1]
  rfl

theorem next_eq (x0 x1 : Vec Ideal S1024x1408 .bf16) (a : Vec Ideal S1024x1024 .f32) (j : S1024x1024.Idx) :
    k0_pay3 (F := Ideal) x0 x1 a j = a j + part x0 x1 j := by
  pointwise [k0_pay3, k0_pay1]
  rfl

variable (m : (ℓ : Loc nD τ sig) → Buf (Elt Ideal) ℓ) (c : Dev nD)

theorem start (t : Fin cfg0.N) (h : t.val % 8 = 0) (j : S1024x1024.Idx) : (outsAt0 m c t.val t.isLt).2 j = part (iblk m c 0 t) (iblk m c 1 t) j := by
  rw [outsAt0_A m c t h (by omega) (by omega)]
  frame_out
  rw [first_eq]

theorem step (t : Fin cfg0.N) (h : ¬t.val % 8 = 0) (j : S1024x1024.Idx) : (outsAt0 m c t.val t.isLt).2 j
    = (outsAt0 m c (t.val - 1) (Nat.lt_of_le_of_lt (Nat.sub_le _ _) t.isLt)).2 j + part (iblk m c 0 t) (iblk m c 1 t) j := by
  by_cases h3 : t.val % 8 = 7
  · rw [outsAt0_C m c t h (by omega) h3]
    frame_out
    rw [next_eq, read_unread_whole]
  · rw [outsAt0_B m c t h (by omega) h3]
    frame_out
    rw [next_eq, read_unread_whole]

theorem written (t : Fin cfg0.N) (h : t.val % 8 = 7) (j : S1024x1024.Idx) :
    (outsAt0 m c t.val t.isLt).1 j = (outsAt0 m c t.val t.isLt).2 j + 0 := by
  rw [outsAt0_C m c t (by omega) (by omega) h]
  frame_out
  rw [add_zero]

/-- The sums over all features. -/
def sums (A : Vec Ideal S8192x11264 .bf16) (B : Vec Ideal S2048x11264 .bf16) (i : S8192x2048.Idx) : EReal :=
  ∑ l : Fin 11264, A (ix2 (i 0) l) * B (ix2 (i 1) l)

/-- A run's blocks hold the sums over all features when they are written back. -/
theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  rw [after0_2]
  refine (Cert.Mm.run_sum 8 (fun n h => (outsAt0 m c n h).2) (fun n h => (outsAt0 m c n h).1) (fun _ _ _ => 0) (fun n h => part
    (iblk m c 0 ⟨n, h⟩) (iblk m c 1 ⟨n, h⟩)) (start m c) (step m c) (written m c) t h _).trans ((add_zero _).trans ?_)
  refine Fin.sum_mul_add_congr fun s k hl => ?_
  have e0 : (8 * (t.val / 8) + s.val) % 8 = s.val := by omega
  have e1 : (8 * (t.val / 8) + s.val) / 16 = t.val / 16 := by omega
  have e2 : (8 * (t.val / 8) + s.val) / 8 = t.val / 8 := by omega
  refine Cert.Mm.mul_eq ?_ ?_
  · blk_simp [iblk, V]
    blk_ext [at0, at2, e0, e1]
  · blk_simp [iblk, V]
    blk_ext [at1, at2, e0, e2]

open Cert.ReferenceDhIdeal.Read in
theorem reference (A : Vec Ideal S8192x11264 .bf16) (B : Vec Ideal S2048x11264 .bf16) : val_main_v4 (F := Ideal) A B = sums A B := by
  funext i
  exact (val_main_v4_apply A B i).trans (Finset.sum_congr rfl fun k _ => Cert.Mm.mul_eq (congrArg A (Cert.Mm.ext2 rfl rfl))
    (congrArg B (Cert.Mm.ext2 rfl rfl)))

theorem algebraic : Cert.algebraic_KernelDhIdeal_ReferenceDhIdeal (hKernelDhIdeal := Cert.KernelDhIdeal.Gen.facts)
    (hReferenceDhIdeal := Cert.ReferenceDhIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDhIdeal.Value.run_blocks m ρ),
    (θ_run Cert.ReferenceDhIdeal.defs _ _).mono (fun r hr c => ?_) (Cert.ReferenceDhIdeal.Value.run m' ρ')⟩
  · exact ⟨(hr c).1.trans (result m c), (hr c).2⟩
  · obtain ⟨a0, a1⟩ := hargs c
    refine ⟨(hr c).1.trans ?_, (hr c).2⟩
    rw [Cert.ReferenceDhIdeal.Read.val_main_v4_eq, a0, a1]
    exact reference _ _

end Cert.Dh

end
-- ==== Proof.MmDwDown.lean ====
module

public import proofs.«01_k».proof.Defs
public import proofs.«01_k».proof.Proof.Gen.KernelDwDownIdeal.Value
public import proofs.«01_k».proof.Proof.Gen.ReferenceDwDownIdeal.Read
public import proofs.«01_k».proof.Proof.Mm

@[expose] public section

/-! The gradient of the weight that closes the gated unit: the sums over the rows, taken a quarter at a time, are the
reference's sums. -/

set_option maxRecDepth 16384

noncomputable section

namespace Cert.DwDown

open Cert.KernelDwDownIdeal Cert.KernelDwDownIdeal.Gen Idealize.ShloMosaic Idealize.ShloMosaic.TcCoe Idealize.SL.Sem

theorem at0 : ∀ t : Fin cfg0.N, win0_0.index t = ![t.val % 4, t.val / 8] := (by decide +kernel : ∀ t : Fin grid0.N, _)

theorem at1 : ∀ t : Fin cfg0.N, win0_1.index t = ![t.val % 4, t.val / 4 % 2] := (by decide +kernel : ∀ t : Fin grid0.N, _)

theorem at2 : ∀ t : Fin cfg0.N, win0_2.index t = ![t.val / 8, t.val / 4 % 2] := (by decide +kernel : ∀ t : Fin grid0.N, _)

/-- The sums over the rows of two blocks. -/
def part (x0 : Vec Ideal S2048x512 .bf16) (x1 : Vec Ideal S2048x1024 .bf16) (j : S512x1024.Idx) : EReal := ∑ k : Fin 2048, x0 (ix2 k (j 0)) * x1 (ix2 k (j 1))

theorem first_eq (x0 : Vec Ideal S2048x512 .bf16) (x1 : Vec Ideal S2048x1024 .bf16) (j : S512x1024.Idx) : k0_pay2 (F := Ideal) x0 x1 j = part x0 x1 j := by
  pointwise [k0_pay2, k0_pay1]
  rfl

theorem next_eq (x0 : Vec Ideal S2048x512 .bf16) (x1 : Vec Ideal S2048x1024 .bf16) (a : Vec Ideal S512x1024 .f32) (j : S512x1024.Idx) :
    k0_pay3 (F := Ideal) x0 x1 a j = a j + part x0 x1 j := by
  pointwise [k0_pay3, k0_pay1]
  rfl

theorem last_eq (a : Vec Ideal S512x1024 .f32) (j : S512x1024.Idx) : k0_pay4 (F := Ideal) a j = a j := by
  pointwise [k0_pay4]

variable (m : (ℓ : Loc nD τ sig) → Buf (Elt Ideal) ℓ) (c : Dev nD)

theorem start (t : Fin cfg0.N) (h : t.val % 4 = 0) (j : S512x1024.Idx) : (outsAt0 m c t.val t.isLt).2 j = part (iblk m c 0 t) (iblk m c 1 t) j := by
  rw [outsAt0_A m c t h (by omega) (by omega)]
  frame_out
  rw [first_eq]

theorem step (t : Fin cfg0.N) (h : ¬t.val % 4 = 0) (j : S512x1024.Idx) : (outsAt0 m c t.val t.isLt).2 j
    = (outsAt0 m c (t.val - 1) (Nat.lt_of_le_of_lt (Nat.sub_le _ _) t.isLt)).2 j + part (iblk m c 0 t) (iblk m c 1 t) j := by
  by_cases h3 : t.val % 4 = 3
  · rw [outsAt0_C m c t h (by omega) h3]
    frame_out
    rw [next_eq, read_unread_whole]
  · rw [outsAt0_B m c t h (by omega) h3]
    frame_out
    rw [next_eq, read_unread_whole]

theorem written (t : Fin cfg0.N) (h : t.val % 4 = 3) (j : S512x1024.Idx) :
    (outsAt0 m c t.val t.isLt).1 j = (outsAt0 m c t.val t.isLt).2 j + 0 := by
  rw [outsAt0_C m c t (by omega) (by omega) h]
  frame_out
  rw [last_eq, add_zero]

/-- The sums over all rows. -/
def sums (A : Vec Ideal S8192x5632 .bf16) (B : Vec Ideal S8192x2048 .bf16) (i : S5632x2048.Idx) : EReal :=
  ∑ l : Fin 8192, A (ix2 l (i 0)) * B (ix2 l (i 1))

/-- A run's blocks hold the sums over all rows when they are written back. -/
theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  rw [after0_2]
  refine (Cert.Mm.run_sum 4 (fun n h => (outsAt0 m c n h).2) (fun n h => (outsAt0 m c n h).1) (fun _ _ _ => 0) (fun n h => part
    (iblk m c 0 ⟨n, h⟩) (iblk m c 1 ⟨n, h⟩)) (start m c) (step m c) (written m c) t h _).trans ((add_zero _).trans ?_)
  refine Fin.sum_mul_add_congr fun s k hl => ?_
  have e0 : (4 * (t.val / 4) + s.val) % 4 = s.val := by omega
  have e1 : (4 * (t.val / 4) + s.val) / 8 = t.val / 8 := by omega
  have e2 : (4 * (t.val / 4) + s.val) / 4 = t.val / 4 := by omega
  refine Cert.Mm.mul_eq ?_ ?_
  · blk_simp [iblk, V]
    blk_ext [at0, at2, e0, e1]
  · blk_simp [iblk, V]
    blk_ext [at1, at2, e0, e2]

open Cert.ReferenceDwDownIdeal.Read in
theorem reference (A : Vec Ideal S8192x5632 .bf16) (B : Vec Ideal S8192x2048 .bf16) : val_main_v6 (F := Ideal) A B = sums A B := by
  funext i
  refine (val_main_v6_apply A B i).trans ((val_main_v5_apply A B i).trans ((val_main_v4_apply A B _).trans ?_))
  refine Finset.sum_congr rfl fun k _ => (mul_comm _ _).trans (Cert.Mm.mul_eq (congrArg A ?_) (congrArg B ?_)) <;>
    exact Cert.Mm.ext2 rfl rfl

theorem algebraic : Cert.algebraic_KernelDwDownIdeal_ReferenceDwDownIdeal (hKernelDwDownIdeal := Cert.KernelDwDownIdeal.Gen.facts)
    (hReferenceDwDownIdeal := Cert.ReferenceDwDownIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDwDownIdeal.Value.run_blocks m ρ),
    (θ_run Cert.ReferenceDwDownIdeal.defs _ _).mono (fun r hr c => ?_) (Cert.ReferenceDwDownIdeal.Value.run m' ρ')⟩
  · exact ⟨(hr c).1.trans (result m c), (hr c).2⟩
  · obtain ⟨a0, a1⟩ := hargs c
    refine ⟨(hr c).1.trans ?_, (hr c).2⟩
    rw [Cert.ReferenceDwDownIdeal.Read.val_main_v6_eq, a0, a1]
    exact reference _ _

end Cert.DwDown

end
-- ==== Proof.MmDa.lean ====
module

public import proofs.«01_k».proof.Defs
public import proofs.«01_k».proof.Proof.Gen.KernelDaIdeal.Value
public import proofs.«01_k».proof.Proof.Gen.ReferenceDaIdeal.Read
public import proofs.«01_k».proof.Proof.Mm

@[expose] public section

/-! The gradient of the gated unit's features: every block holds whole sums. -/

set_option maxRecDepth 16384

noncomputable section

namespace Cert.Da

open Cert.KernelDaIdeal Cert.KernelDaIdeal.Gen Idealize.ShloMosaic Idealize.ShloMosaic.TcCoe Idealize.SL.Sem

theorem at0 : ∀ t : Fin cfg0.N, win0_0.index t = ![t.val / 11, 0] := (by decide +kernel : ∀ t : Fin grid0.N, _)

theorem at1 : ∀ t : Fin cfg0.N, win0_1.index t = ![t.val % 11, 0] := (by decide +kernel : ∀ t : Fin grid0.N, _)

theorem at2 : ∀ t : Fin cfg0.N, win0_2.index t = ![t.val / 11, t.val % 11] := (by decide +kernel : ∀ t : Fin grid0.N, _)

theorem pay_eq (x0 : Vec Ideal S1024x2048 .bf16) (x1 : Vec Ideal S512x2048 .bf16) (j : S1024x512.Idx) :
    k0_pay1 (F := Ideal) x0 x1 j = ∑ k : Fin 2048, x0 (ix2 (j 0) k) * x1 (ix2 (j 1) k) := by
  pointwise [k0_pay1]

variable (m : (ℓ : Loc nD τ sig) → Buf (Elt Ideal) ℓ) (c : Dev nD)

/-- The sums over the row's entries. -/
def sums (A : Vec Ideal S8192x2048 .bf16) (B : Vec Ideal S5632x2048 .bf16) (i : S8192x5632.Idx) : EReal :=
  ∑ l : Fin 2048, A (ix2 (i 0) l) * B (ix2 (i 1) l)

theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (Finset.sum_congr rfl fun k _ => Cert.Mm.mul_eq ?_ ?_)
  · blk_simp [iblk, V]
    blk_ext [at0, at2]
  · blk_simp [iblk, V]
    blk_ext [at1, at2]

open Cert.ReferenceDaIdeal.Read in
theorem reference (A : Vec Ideal S8192x2048 .bf16) (B : Vec Ideal S5632x2048 .bf16) : val_main_v4 (F := Ideal) A B = sums A B := by
  funext i
  exact (val_main_v4_apply A B i).trans (Finset.sum_congr rfl fun k _ => Cert.Mm.mul_eq (congrArg A (Cert.Mm.ext2 rfl rfl))
    (congrArg B (Cert.Mm.ext2 rfl rfl)))

theorem algebraic : Cert.algebraic_KernelDaIdeal_ReferenceDaIdeal (hKernelDaIdeal := Cert.KernelDaIdeal.Gen.facts)
    (hReferenceDaIdeal := Cert.ReferenceDaIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDaIdeal.Value.run_blocks m ρ),
    (θ_run Cert.ReferenceDaIdeal.defs _ _).mono (fun r hr c => ?_) (Cert.ReferenceDaIdeal.Value.run m' ρ')⟩
  · exact ⟨(hr c).1.trans (result m c), (hr c).2⟩
  · obtain ⟨a0, a1⟩ := hargs c
    refine ⟨(hr c).1.trans ?_, (hr c).2⟩
    rw [Cert.ReferenceDaIdeal.Read.val_main_v4_eq, a0, a1]
    exact reference _ _

end Cert.Da

end
-- ==== Proof.MmUp.lean ====
module

public import proofs.«01_k».proof.Defs
public import proofs.«01_k».proof.Proof.Gen.KernelUpIdeal.Value
public import proofs.«01_k».proof.Proof.Gen.ReferenceUpIdeal.Read
public import proofs.«01_k».proof.Proof.Mm

@[expose] public section

/-! The product that opens the gated unit: every block holds whole sums. -/

set_option maxRecDepth 16384

noncomputable section

namespace Cert.Up

open Cert.KernelUpIdeal Cert.KernelUpIdeal.Gen Idealize.ShloMosaic Idealize.ShloMosaic.TcCoe Idealize.SL.Sem

theorem at0 : ∀ t : Fin cfg0.N, win0_0.index t = ![t.val / 11, 0] := (by decide +kernel : ∀ t : Fin grid0.N, _)

theorem at1 : ∀ t : Fin cfg0.N, win0_1.index t = ![0, t.val % 11] := (by decide +kernel : ∀ t : Fin grid0.N, _)

theorem at2 : ∀ t : Fin cfg0.N, win0_2.index t = ![t.val / 11, t.val % 11] := (by decide +kernel : ∀ t : Fin grid0.N, _)

theorem pay_eq (x0 : Vec Ideal S1024x2048 .bf16) (x1 : Vec Ideal S2048x1024 .bf16) (j : S1024x1024.Idx) :
    k0_pay1 (F := Ideal) x0 x1 j = ∑ k : Fin 2048, x0 (ix2 (j 0) k) * x1 (ix2 k (j 1)) := by
  pointwise [k0_pay1]

variable (m : (ℓ : Loc nD τ sig) → Buf (Elt Ideal) ℓ) (c : Dev nD)

/-- The sums over the row's entries. -/
def sums (A : Vec Ideal S8192x2048 .bf16) (B : Vec Ideal S2048x11264 .bf16) (i : S8192x11264.Idx) : EReal :=
  ∑ l : Fin 2048, A (ix2 (i 0) l) * B (ix2 l (i 1))

theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (Finset.sum_congr rfl fun k _ => Cert.Mm.mul_eq ?_ ?_)
  · blk_simp [iblk, V]
    blk_ext [at0, at2]
  · blk_simp [iblk, V]
    blk_ext [at1, at2]

open Cert.ReferenceUpIdeal.Read in
theorem reference (A : Vec Ideal S8192x2048 .bf16) (B : Vec Ideal S2048x11264 .bf16) : val_main_v3 (F := Ideal) A B = sums A B := by
  funext i
  exact (val_main_v2_apply A B i).trans (Finset.sum_congr rfl fun k _ => Cert.Mm.mul_eq (congrArg A (Cert.Mm.ext2 rfl rfl))
    (congrArg B (Cert.Mm.ext2 rfl rfl)))

theorem algebraic : Cert.algebraic_KernelUpIdeal_ReferenceUpIdeal (hKernelUpIdeal := Cert.KernelUpIdeal.Gen.facts)
    (hReferenceUpIdeal := Cert.ReferenceUpIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelUpIdeal.Value.run_blocks m ρ),
    (θ_run Cert.ReferenceUpIdeal.defs _ _).mono (fun r hr c => ?_) (Cert.ReferenceUpIdeal.Value.run m' ρ')⟩
  · exact ⟨(hr c).1.trans (result m c), (hr c).2⟩
  · obtain ⟨a0, a1⟩ := hargs c
    refine ⟨(hr c).1.trans ?_, (hr c).2⟩
    rw [Cert.ReferenceUpIdeal.Read.val_main_v3_eq, a0, a1]
    exact reference _ _

end Cert.Up

end
-- ==== Proof.MmDown.lean ====
module

public import proofs.«01_k».proof.Defs
public import proofs.«01_k».proof.Proof.Gen.KernelDownIdeal.Value
public import proofs.«01_k».proof.Proof.Gen.ReferenceDownIdeal.Read
public import proofs.«01_k».proof.Proof.Mm

@[expose] public section

/-! The gated unit's output: the sums over the unit's features, taken a quarter at a time, and the input carried past the
unit, are the reference's. -/

set_option maxRecDepth 16384

noncomputable section

namespace Cert.Down

open Cert.KernelDownIdeal Cert.KernelDownIdeal.Gen Idealize.ShloMosaic Idealize.ShloMosaic.TcCoe Idealize.SL.Sem

theorem at0 : ∀ t : Fin cfg0.N, win0_0.index t = ![t.val / 8, t.val % 4] := (by decide +kernel : ∀ t : Fin grid0.N, _)

theorem at1 : ∀ t : Fin cfg0.N, win0_1.index t = ![t.val % 4, t.val / 4 % 2] := (by decide +kernel : ∀ t : Fin grid0.N, _)

theorem at2 : ∀ t : Fin cfg0.N, win0_2.index t = ![t.val / 8, t.val / 4 % 2] := (by decide +kernel : ∀ t : Fin grid0.N, _)

theorem at3 : ∀ t : Fin cfg0.N, win0_3.index t = ![t.val / 8, t.val / 4 % 2] := (by decide +kernel : ∀ t : Fin grid0.N, _)

/-- The sums over the features of two blocks. -/
def part (x0 : Vec Ideal S1024x1408 .bf16) (x1 : Vec Ideal S1408x1024 .bf16) (j : S1024x1024.Idx) : EReal := ∑ k : Fin 1408, x0 (ix2 (j 0) k) * x1 (ix2 k (j 1))

theorem first_eq (x0 : Vec Ideal S1024x1408 .bf16) (x1 : Vec Ideal S1408x1024 .bf16) (j : S1024x1024.Idx) : k0_pay2 (F := Ideal) x0 x1 j = part x0 x1 j := by
  pointwise [k0_pay2, k0_pay1]
  rfl

theorem next_eq (x0 : Vec Ideal S1024x1408 .bf16) (x1 : Vec Ideal S1408x1024 .bf16) (a : Vec Ideal S1024x1024 .f32) (j : S1024x1024.Idx) :
    k0_pay3 (F := Ideal) x0 x1 a j = a j + part x0 x1 j := by
  pointwise [k0_pay3, k0_pay1]
  rfl

theorem last_eq (a x : Vec Ideal S1024x1024 .f32) (j : S1024x1024.Idx) : k0_pay4 (F := Ideal) a x j = a j + x j := by
  pointwise [k0_pay4]

variable (m : (ℓ : Loc nD τ sig) → Buf (Elt Ideal) ℓ) (c : Dev nD)

theorem start (t : Fin cfg0.N) (h : t.val % 4 = 0) (j : S1024x1024.Idx) : (outsAt0 m c t.val t.isLt).2 j = part (iblk m c 0 t) (iblk m c 1 t) j := by
  rw [outsAt0_A m c t h (by omega) (by omega)]
  frame_out
  rw [first_eq]

theorem step (t : Fin cfg0.N) (h : ¬t.val % 4 = 0) (j : S1024x1024.Idx) : (outsAt0 m c t.val t.isLt).2 j
    = (outsAt0 m c (t.val - 1) (Nat.lt_of_le_of_lt (Nat.sub_le _ _) t.isLt)).2 j + part (iblk m c 0 t) (iblk m c 1 t) j := by
  by_cases h3 : t.val % 4 = 3
  · rw [outsAt0_C m c t h (by omega) h3]
    frame_out
    rw [next_eq, read_unread_whole]
  · rw [outsAt0_B m c t h (by omega) h3]
    frame_out
    rw [next_eq, read_unread_whole]

theorem written (t : Fin cfg0.N) (h : t.val % 4 = 3) (j : S1024x1024.Idx) :
    (outsAt0 m c t.val t.isLt).1 j = (outsAt0 m c t.val t.isLt).2 j + iblk m c 2 t j := by
  rw [outsAt0_C m c t (by omega) (by omega) h]
  frame_out
  rw [last_eq]

/-- The sums over all features, and the input. -/
def sums (A : Vec Ideal S8192x5632 .bf16) (B : Vec Ideal S5632x2048 .bf16) (X : Vec Ideal S8192x2048 .f32) (i : S8192x2048.Idx) : EReal :=
  (∑ l : Fin 5632, A (ix2 (i 0) l) * B (ix2 l (i 1))) + X i

/-- A run's blocks hold them when they are written back. -/
theorem result : (dats m 0 c).arrAt 3 cfg0.N = sums (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 4 = 3 := (flush0_3 t).mp hf
  rw [after0_3]
  refine (Cert.Mm.run_sum 4 (fun n h => (outsAt0 m c n h).2) (fun n h => (outsAt0 m c n h).1) (fun n h => iblk m c 2 ⟨n, h⟩) (fun n h => part
    (iblk m c 0 ⟨n, h⟩) (iblk m c 1 ⟨n, h⟩)) (start m c) (step m c) (written m c) t h _).trans ?_
  refine Cert.Mm.add_eq ?_ (by blk_simp [iblk, V]; blk_ext [at2, at3])
  refine Fin.sum_mul_add_congr fun s k hl => ?_
  have e0 : (4 * (t.val / 4) + s.val) % 4 = s.val := by omega
  have e1 : (4 * (t.val / 4) + s.val) / 8 = t.val / 8 := by omega
  have e2 : (4 * (t.val / 4) + s.val) / 4 = t.val / 4 := by omega
  refine Cert.Mm.mul_eq ?_ ?_
  · blk_simp [iblk, V]
    blk_ext [at0, at3, e0, e1]
  · blk_simp [iblk, V]
    blk_ext [at1, at3, e0, e2]

open Cert.ReferenceDownIdeal.Read in
theorem reference (A : Vec Ideal S8192x5632 .bf16) (B : Vec Ideal S5632x2048 .bf16) (X : Vec Ideal S8192x2048 .f32) : val_main_v3 (F := Ideal) A B X = sums A B X := by
  funext i
  exact (add_comm (X i) _).trans (Cert.Mm.add_eq ((val_main_v2_apply A B i).trans (Finset.sum_congr rfl fun k _ =>
    Cert.Mm.mul_eq (congrArg A (Cert.Mm.ext2 rfl rfl)) (congrArg B (Cert.Mm.ext2 rfl rfl)))) rfl)

theorem algebraic : Cert.algebraic_KernelDownIdeal_ReferenceDownIdeal (hKernelDownIdeal := Cert.KernelDownIdeal.Gen.facts)
    (hReferenceDownIdeal := Cert.ReferenceDownIdeal.Gen.facts) := by
  intro m ρ m' ρ' _ hargs
  refine ⟨fun c => sums (m ((c : Thread nD τ).loc main_arg0)) (m ((c : Thread nD τ).loc main_arg1)) (m ((c : Thread nD τ).loc main_arg2)),
    (θ_run defs _ _).mono (fun r hr c => ?_) (Cert.KernelDownIdeal.Value.run_blocks m ρ),
    (θ_run Cert.ReferenceDownIdeal.defs _ _).mono (fun r hr c => ?_) (Cert.ReferenceDownIdeal.Value.run m' ρ')⟩
  · exact ⟨(hr c).1.trans (result m c), (hr c).2⟩
  · obtain ⟨a0, a1, a2⟩ := hargs c
    refine ⟨(hr c).1.trans ?_, (hr c).2⟩
    rw [Cert.ReferenceDownIdeal.Read.val_main_v3_eq, a0, a1, a2]
    exact reference _ _ _

end Cert.Down

end
-- ==== Proof.MmDwProj.lean ====
module

public import proofs.«01_k».proof.Defs
public import proofs.«01_k».proof.Proof.Gen.KernelDwProjIdeal.Value
public import proofs.«01_k».proof.Proof.Gen.ReferenceDwProjIdeal.Read
public import proofs.«01_k».proof.Proof.Mm

@[expose] public section

/-! The gradient of a square weight: the sums over the rows, taken a quarter at a time, are the reference's sums. -/

set_option maxRecDepth 16384

noncomputable section

namespace Cert.DwProj

open Cert.KernelDwProjIdeal Cert.KernelDwProjIdeal.Gen Idealize.ShloMosaic Idealize.ShloMosaic.TcCoe Idealize.SL.Sem

theorem at0 : ∀ t : Fin cfg0.N, win0_0.index t = ![t.val % 4, t.val / 8] := (by decide +kernel : ∀ t : Fin grid0.N, _)

theorem at1 : ∀ t : Fin cfg0.N, win0_1.index t = ![t.val % 4, t.val / 4 % 2] := (by decide +kernel : ∀ t : Fin grid0.N, _)

theorem at2 : ∀ t : Fin cfg0.N, win0_2.index t = ![t.val / 8, t.val / 4 % 2] := (by decide +kernel : ∀ t : Fin grid0.N, _)

/-- The sums over the rows of two blocks. -/
def part (x0 x1 : Vec Ideal S2048x1024 .bf16) (j : S1024x1024.Idx) : EReal := ∑ k : Fin 2048, x0 (ix2 k (j 0)) * x1 (ix2 k (j 1))

theorem first_eq (x0 x1 : Vec Ideal S2048x1024 .bf16) (j : S1024x1024.Idx) : k0_pay2 (F := Ideal) x0 x1 j = part x0 x1 j := by
  pointwise [k0_pay2, k0_pay1]
  rfl

theorem next_eq (x0 x1 : Vec Ideal S2048x1024 .bf16) (a : Vec Ideal S1024x1024 .f32) (j : S1024x1024.Idx) :
    k0_pay3 (F := Ideal) x0 x1 a j = a j + part x0 x1 j := by
  pointwise [k0_pay3, k0_pay1]
  rfl

theorem last_eq (a : Vec Ideal S1024x1024 .f32) (j : S1024x1024.Idx) : k0_pay4 (F := Ideal) a j = a j := by
  pointwise [k0_pay4]

variable (m : (ℓ : Loc nD τ sig) → Buf (Elt Ideal) ℓ) (c : Dev nD)

theorem start (t : Fin cfg0.N) (h : t.val % 4 = 0) (j : S1024x1024.Idx) : (outsAt0 m c t.val t.isLt).2 j = part (iblk m c 0 t) (iblk m c 1 t) j := by
  rw [outsAt0_A m c t h (by omega) (by omega)]
  frame_out
  rw [first_eq]

theorem step (t : Fin cfg0.N) (h : ¬t.val % 4 = 0) (j : S1024x1024.Idx) : (outsAt0 m c t.val t.isLt).2 j
    = (outsAt0 m c (t.val - 1) (Nat.lt_of_le_of_lt (Nat.sub_le _ _) t.isLt)).2 j + part (iblk m c 0 t) (iblk m c 1 t) j := by
  by_cases h3 : t.val % 4 = 3
  · rw [outsAt0_C m c t h (by omega) h3]
    frame_out
    rw [next_eq, read_unread_whole]
  · rw [outsAt0_B m c t h (by omega) h3]
    frame_out
    rw [next_eq, read_unread_whole]

theorem written (t : Fin cfg0.N) (h : t.val % 4 = 3) (j : S1024x1024.Idx) :
    (outsAt0 m c t.val t.isLt).1 j = (outsAt0 m c t.val t.isLt).2 j + 0 := by
  rw [outsAt0_C m c t (by omega) (by omega) h]
  frame_out
  rw [last_eq, add_zero]

/-- The sums over all rows. -/
def sums (A : Vec Ideal S8192x2048 .bf16) (B : Vec Ideal S8192x2048 .bf16) (i : S2048x2048.Idx) : EReal :=
  ∑ l : Fin 8192, A (ix2 l (i 0)) * B (ix2 l (i 1))

/-- A run's blocks hold the sums over all rows when they are written back. -/
theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  rw [after0_2]
  refine (Cert.Mm.run_sum 4 (fun n h => (outsAt0 m c n h).2) (fun n h => (outsAt0 m c n h).1) (fun _ _ _ => 0) (fun n h => part
    (iblk m c 0 ⟨n, h⟩) (iblk m c 1 ⟨n, h⟩)) (start m c) (step m c) (written m c) t h _).trans ((add_zero _).trans ?_)
  refine Fin.sum_mul_add_congr fun s k hl => ?_
  have e0 : (4 * (t.val / 4) + s.val) % 4 = s.val := by omega
  have e1 : (4 * (t.val / 4) + s.val) / 8 = t.val / 8 := by omega
  have e2 : (4 * (t.val / 4) + s.val) / 4 = t.val / 4 := by omega
  refine Cert.Mm.mul_eq ?_ ?_
  · blk_simp [iblk, V]
    blk_ext [at0, at2, e0, e1]
  · blk_simp [iblk, V]
    blk_ext [at1, at2, e0, e2]

open Cert.ReferenceDwProjIdeal.Read in
theorem reference (A : Vec Ideal S8192x2048 .bf16) (B : Vec Ideal S8192x2048 .bf16) : val_main_v6 (F := Ideal) A B = sums A B := by
  funext i
  refine (val_main_v6_apply A B i).trans ((val_main_v5_apply A B i).trans ((val_main_v4_apply A B _).trans ?_))
  refine Finset.sum_congr rfl fun k _ => (mul_comm _ _).trans (Cert.Mm.mul_eq (congrArg A ?_) (congrArg B ?_)) <;>
    exact Cert.Mm.ext2 rfl rfl

theorem algebraic : Cert.algebraic_KernelDwProjIdeal_ReferenceDwProjIdeal (hKernelDwProjIdeal := Cert.KernelDwProjIdeal.Gen.facts)
    (hReferenceDwProjIdeal := Cert.ReferenceDwProjIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDwProjIdeal.Value.run_blocks m ρ),
    (θ_run Cert.ReferenceDwProjIdeal.defs _ _).mono (fun r hr c => ?_) (Cert.ReferenceDwProjIdeal.Value.run m' ρ')⟩
  · exact ⟨(hr c).1.trans (result m c), (hr c).2⟩
  · obtain ⟨a0, a1⟩ := hargs c
    refine ⟨(hr c).1.trans ?_, (hr c).2⟩
    rw [Cert.ReferenceDwProjIdeal.Read.val_main_v6_eq, a0, a1]
    exact reference _ _

end Cert.DwProj

end
-- ==== Proof.MmDwGlu.lean ====
module

public import proofs.«01_k».proof.Defs
public import proofs.«01_k».proof.Proof.Gen.KernelDwGluIdeal.Value
public import proofs.«01_k».proof.Proof.Gen.ReferenceDwGluIdeal.Read
public import proofs.«01_k».proof.Proof.Mm

@[expose] public section

/-! The gradient of the weight before the gated linear unit: the sums over the rows, taken a quarter at a time, are the
reference's sums. -/

set_option maxRecDepth 16384

noncomputable section

namespace Cert.DwGlu

open Cert.KernelDwGluIdeal Cert.KernelDwGluIdeal.Gen Idealize.ShloMosaic Idealize.ShloMosaic.TcCoe Idealize.SL.Sem

theorem at0 : ∀ t : Fin cfg0.N, win0_0.index t = ![t.val % 4, t.val / 16] := (by decide +kernel : ∀ t : Fin grid0.N, _)

theorem at1 : ∀ t : Fin cfg0.N, win0_1.index t = ![t.val % 4, t.val / 4 % 4] := (by decide +kernel : ∀ t : Fin grid0.N, _)

theorem at2 : ∀ t : Fin cfg0.N, win0_2.index t = ![t.val / 16, t.val / 4 % 4] := (by decide +kernel : ∀ t : Fin grid0.N, _)

/-- The sums over the rows of two blocks. -/
def part (x0 x1 : Vec Ideal S2048x1024 .bf16) (j : S1024x1024.Idx) : EReal := ∑ k : Fin 2048, x0 (ix2 k (j 0)) * x1 (ix2 k (j 1))

theorem first_eq (x0 x1 : Vec Ideal S2048x1024 .bf16) (j : S1024x1024.Idx) : k0_pay2 (F := Ideal) x0 x1 j = part x0 x1 j := by
  pointwise [k0_pay2, k0_pay1]
  rfl

theorem next_eq (x0 x1 : Vec Ideal S2048x1024 .bf16) (a : Vec Ideal S1024x1024 .f32) (j : S1024x1024.Idx) :
    k0_pay3 (F := Ideal) x0 x1 a j = a j + part x0 x1 j := by
  pointwise [k0_pay3, k0_pay1]
  rfl

theorem last_eq (a : Vec Ideal S1024x1024 .f32) (j : S1024x1024.Idx) : k0_pay4 (F := Ideal) a j = a j := by
  pointwise [k0_pay4]

variable (m : (ℓ : Loc nD τ sig) → Buf (Elt Ideal) ℓ) (c : Dev nD)

theorem start (t : Fin cfg0.N) (h : t.val % 4 = 0) (j : S1024x1024.Idx) : (outsAt0 m c t.val t.isLt).2 j = part (iblk m c 0 t) (iblk m c 1 t) j := by
  rw [outsAt0_A m c t h (by omega) (by omega)]
  frame_out
  rw [first_eq]

theorem step (t : Fin cfg0.N) (h : ¬t.val % 4 = 0) (j : S1024x1024.Idx) : (outsAt0 m c t.val t.isLt).2 j
    = (outsAt0 m c (t.val - 1) (Nat.lt_of_le_of_lt (Nat.sub_le _ _) t.isLt)).2 j + part (iblk m c 0 t) (iblk m c 1 t) j := by
  by_cases h3 : t.val % 4 = 3
  · rw [outsAt0_C m c t h (by omega) h3]
    frame_out
    rw [next_eq, read_unread_whole]
  · rw [outsAt0_B m c t h (by omega) h3]
    frame_out
    rw [next_eq, read_unread_whole]

theorem written (t : Fin cfg0.N) (h : t.val % 4 = 3) (j : S1024x1024.Idx) :
    (outsAt0 m c t.val t.isLt).1 j = (outsAt0 m c t.val t.isLt).2 j + 0 := by
  rw [outsAt0_C m c t (by omega) (by omega) h]
  frame_out
  rw [last_eq, add_zero]

/-- The sums over all rows. -/
def sums (A : Vec Ideal S8192x2048 .bf16) (B : Vec Ideal S8192x4096 .bf16) (i : S2048x4096.Idx) : EReal :=
  ∑ l : Fin 8192, A (ix2 l (i 0)) * B (ix2 l (i 1))

/-- A run's blocks hold the sums over all rows when they are written back. -/
theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  rw [after0_2]
  refine (Cert.Mm.run_sum 4 (fun n h => (outsAt0 m c n h).2) (fun n h => (outsAt0 m c n h).1) (fun _ _ _ => 0) (fun n h => part
    (iblk m c 0 ⟨n, h⟩) (iblk m c 1 ⟨n, h⟩)) (start m c) (step m c) (written m c) t h _).trans ((add_zero _).trans ?_)
  refine Fin.sum_mul_add_congr fun s k hl => ?_
  have e0 : (4 * (t.val / 4) + s.val) % 4 = s.val := by omega
  have e1 : (4 * (t.val / 4) + s.val) / 16 = t.val / 16 := by omega
  have e2 : (4 * (t.val / 4) + s.val) / 4 = t.val / 4 := by omega
  refine Cert.Mm.mul_eq ?_ ?_
  · blk_simp [iblk, V]
    blk_ext [at0, at2, e0, e1]
  · blk_simp [iblk, V]
    blk_ext [at1, at2, e0, e2]

open Cert.ReferenceDwGluIdeal.Read in
theorem reference (A : Vec Ideal S8192x2048 .bf16) (B : Vec Ideal S8192x4096 .bf16) : val_main_v6 (F := Ideal) A B = sums A B := by
  funext i
  refine (val_main_v6_apply A B i).trans ((val_main_v5_apply A B i).trans ((val_main_v4_apply A B _).trans ?_))
  refine Finset.sum_congr rfl fun k _ => (mul_comm _ _).trans (Cert.Mm.mul_eq (congrArg A ?_) (congrArg B ?_)) <;>
    exact Cert.Mm.ext2 rfl rfl

theorem algebraic : Cert.algebraic_KernelDwGluIdeal_ReferenceDwGluIdeal (hKernelDwGluIdeal := Cert.KernelDwGluIdeal.Gen.facts)
    (hReferenceDwGluIdeal := Cert.ReferenceDwGluIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDwGluIdeal.Value.run_blocks m ρ),
    (θ_run Cert.ReferenceDwGluIdeal.defs _ _).mono (fun r hr c => ?_) (Cert.ReferenceDwGluIdeal.Value.run m' ρ')⟩
  · exact ⟨(hr c).1.trans (result m c), (hr c).2⟩
  · obtain ⟨a0, a1⟩ := hargs c
    refine ⟨(hr c).1.trans ?_, (hr c).2⟩
    rw [Cert.ReferenceDwGluIdeal.Read.val_main_v6_eq, a0, a1]
    exact reference _ _

end Cert.DwGlu

end
-- ==== Proof.MmDhProj.lean ====
module

public import proofs.«01_k».proof.Defs
public import proofs.«01_k».proof.Proof.Gen.KernelDhProjIdeal.Value
public import proofs.«01_k».proof.Proof.Gen.ReferenceDhProjIdeal.Read
public import proofs.«01_k».proof.Proof.Mm

@[expose] public section

/-! The gradient of the rows that a square weight takes: every block holds whole sums. -/

set_option maxRecDepth 16384

noncomputable section

namespace Cert.DhProj

open Cert.KernelDhProjIdeal Cert.KernelDhProjIdeal.Gen Idealize.ShloMosaic Idealize.ShloMosaic.TcCoe Idealize.SL.Sem

theorem at0 : ∀ t : Fin cfg0.N, win0_0.index t = ![t.val / 2, 0] := (by decide +kernel : ∀ t : Fin grid0.N, _)

theorem at1 : ∀ t : Fin cfg0.N, win0_1.index t = ![t.val % 2, 0] := (by decide +kernel : ∀ t : Fin grid0.N, _)

theorem at2 : ∀ t : Fin cfg0.N, win0_2.index t = ![t.val / 2, t.val % 2] := (by decide +kernel : ∀ t : Fin grid0.N, _)

theorem pay_eq (x0 : Vec Ideal S1024x2048 .bf16) (x1 : Vec Ideal S1024x2048 .bf16) (j : S1024x1024.Idx) :
    k0_pay1 (F := Ideal) x0 x1 j = ∑ k : Fin 2048, x0 (ix2 (j 0) k) * x1 (ix2 (j 1) k) := by
  pointwise [k0_pay1]

variable (m : (ℓ : Loc nD τ sig) → Buf (Elt Ideal) ℓ) (c : Dev nD)

/-- The sums over the row's entries. -/
def sums (A : Vec Ideal S8192x2048 .bf16) (B : Vec Ideal S2048x2048 .bf16) (i : S8192x2048.Idx) : EReal :=
  ∑ l : Fin 2048, A (ix2 (i 0) l) * B (ix2 (i 1) l)

theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (Finset.sum_congr rfl fun k _ => Cert.Mm.mul_eq ?_ ?_)
  · blk_simp [iblk, V]
    blk_ext [at0, at2]
  · blk_simp [iblk, V]
    blk_ext [at1, at2]

open Cert.ReferenceDhProjIdeal.Read in
theorem reference (A : Vec Ideal S8192x2048 .bf16) (B : Vec Ideal S2048x2048 .bf16) : val_main_v4 (F := Ideal) A B = sums A B := by
  funext i
  exact (val_main_v4_apply A B i).trans (Finset.sum_congr rfl fun k _ => Cert.Mm.mul_eq (congrArg A (Cert.Mm.ext2 rfl rfl))
    (congrArg B (Cert.Mm.ext2 rfl rfl)))

theorem algebraic : Cert.algebraic_KernelDhProjIdeal_ReferenceDhProjIdeal (hKernelDhProjIdeal := Cert.KernelDhProjIdeal.Gen.facts)
    (hReferenceDhProjIdeal := Cert.ReferenceDhProjIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDhProjIdeal.Value.run_blocks m ρ),
    (θ_run Cert.ReferenceDhProjIdeal.defs _ _).mono (fun r hr c => ?_) (Cert.ReferenceDhProjIdeal.Value.run m' ρ')⟩
  · exact ⟨(hr c).1.trans (result m c), (hr c).2⟩
  · obtain ⟨a0, a1⟩ := hargs c
    refine ⟨(hr c).1.trans ?_, (hr c).2⟩
    rw [Cert.ReferenceDhProjIdeal.Read.val_main_v4_eq, a0, a1]
    exact reference _ _

end Cert.DhProj

end
-- ==== Proof.MmDo.lean ====
module

public import proofs.«01_k».proof.Defs
public import proofs.«01_k».proof.Proof.Gen.KernelDoIdeal.Value
public import proofs.«01_k».proof.Proof.Gen.ReferenceDoIdeal.Read
public import proofs.«01_k».proof.Proof.Mm

@[expose] public section

/-! The gradient of the attention's output, rounded: every block holds whole sums. -/

set_option maxRecDepth 16384

noncomputable section

namespace Cert.Do

open Cert.KernelDoIdeal Cert.KernelDoIdeal.Gen Idealize.ShloMosaic Idealize.ShloMosaic.TcCoe Idealize.SL.Sem

theorem at0 : ∀ t : Fin cfg0.N, win0_0.index t = ![t.val / 2, 0] := (by decide +kernel : ∀ t : Fin grid0.N, _)

theorem at1 : ∀ t : Fin cfg0.N, win0_1.index t = ![t.val % 2, 0] := (by decide +kernel : ∀ t : Fin grid0.N, _)

theorem at2 : ∀ t : Fin cfg0.N, win0_2.index t = ![t.val / 2, t.val % 2] := (by decide +kernel : ∀ t : Fin grid0.N, _)

theorem pay_eq (x0 : Vec Ideal S1024x2048 .bf16) (x1 : Vec Ideal S1024x2048 .bf16) (j : S1024x1024.Idx) :
    k0_pay1 (F := Ideal) x0 x1 j = ∑ k : Fin 2048, x0 (ix2 (j 0) k) * x1 (ix2 (j 1) k) := by
  pointwise [k0_pay1]

variable (m : (ℓ : Loc nD τ sig) → Buf (Elt Ideal) ℓ) (c : Dev nD)

/-- The sums over the row's entries. -/
def sums (A : Vec Ideal S8192x2048 .bf16) (B : Vec Ideal S2048x2048 .bf16) (i : S8192x2048.Idx) : EReal :=
  ∑ l : Fin 2048, A (ix2 (i 0) l) * B (ix2 (i 1) l)

theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (Finset.sum_congr rfl fun k _ => Cert.Mm.mul_eq ?_ ?_)
  · blk_simp [iblk, V]
    blk_ext [at0, at2]
  · blk_simp [iblk, V]
    blk_ext [at1, at2]

open Cert.ReferenceDoIdeal.Read in
theorem reference (A : Vec Ideal S8192x2048 .bf16) (B : Vec Ideal S2048x2048 .bf16) : val_main_v5 (F := Ideal) A B = sums A B := by
  funext i
  exact (val_main_v4_apply A B i).trans (Finset.sum_congr rfl fun k _ => Cert.Mm.mul_eq (congrArg A (Cert.Mm.ext2 rfl rfl))
    (congrArg B (Cert.Mm.ext2 rfl rfl)))

theorem algebraic : Cert.algebraic_KernelDoIdeal_ReferenceDoIdeal (hKernelDoIdeal := Cert.KernelDoIdeal.Gen.facts)
    (hReferenceDoIdeal := Cert.ReferenceDoIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDoIdeal.Value.run_blocks m ρ),
    (θ_run Cert.ReferenceDoIdeal.defs _ _).mono (fun r hr c => ?_) (Cert.ReferenceDoIdeal.Value.run m' ρ')⟩
  · exact ⟨(hr c).1.trans (result m c), (hr c).2⟩
  · obtain ⟨a0, a1⟩ := hargs c
    refine ⟨(hr c).1.trans ?_, (hr c).2⟩
    rw [Cert.ReferenceDoIdeal.Read.val_main_v5_eq, a0, a1]
    exact reference _ _

end Cert.Do

end
-- ==== Proof.MmDhAdd.lean ====
module

public import proofs.«01_k».proof.Defs
public import proofs.«01_k».proof.Proof.Gen.KernelDhAddIdeal.Value
public import proofs.«01_k».proof.Proof.Gen.ReferenceDhAddIdeal.Read
public import proofs.«01_k».proof.Proof.Mm

@[expose] public section

/-! The gradient of the keys' and values' rows, added to the one before: every block holds whole sums. -/

set_option maxRecDepth 16384

noncomputable section

namespace Cert.DhAdd

open Cert.KernelDhAddIdeal Cert.KernelDhAddIdeal.Gen Idealize.ShloMosaic Idealize.ShloMosaic.TcCoe Idealize.SL.Sem

theorem at0 : ∀ t : Fin cfg0.N, win0_0.index t = ![t.val / 2, 0] := (by decide +kernel : ∀ t : Fin grid0.N, _)

theorem at1 : ∀ t : Fin cfg0.N, win0_1.index t = ![t.val % 2, 0] := (by decide +kernel : ∀ t : Fin grid0.N, _)

theorem at2 : ∀ t : Fin cfg0.N, win0_2.index t = ![t.val / 2, t.val % 2] := (by decide +kernel : ∀ t : Fin grid0.N, _)

theorem at3 : ∀ t : Fin cfg0.N, win0_3.index t = ![t.val / 2, t.val % 2] := (by decide +kernel : ∀ t : Fin grid0.N, _)

theorem pay_eq (x0 : Vec Ideal S1024x2048 .bf16) (x1 : Vec Ideal S1024x2048 .bf16) (x2 : Vec Ideal S1024x1024 .f32) (j : S1024x1024.Idx) :
    k0_pay1 (F := Ideal) x0 x1 x2 j = (∑ k : Fin 2048, x0 (ix2 (j 0) k) * x1 (ix2 (j 1) k)) + x2 j := by
  pointwise [k0_pay1]

variable (m : (ℓ : Loc nD τ sig) → Buf (Elt Ideal) ℓ) (c : Dev nD)

/-- The sums over the row's entries, and the gradient before. -/
def sums (A : Vec Ideal S8192x2048 .bf16) (B : Vec Ideal S2048x2048 .bf16) (X : Vec Ideal S8192x2048 .f32) (i : S8192x2048.Idx) : EReal :=
  (∑ l : Fin 2048, A (ix2 (i 0) l) * B (ix2 (i 1) l)) + X i

theorem result : (dats m 0 c).arrAt 3 cfg0.N = sums (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  frame_out
  refine (pay_eq _ _ _ _).trans (Cert.Mm.add_eq (Finset.sum_congr rfl fun k _ => Cert.Mm.mul_eq ?_ ?_) ?_)
  · blk_simp [iblk, V]
    blk_ext [at0, at3]
  · blk_simp [iblk, V]
    blk_ext [at1, at3]
  · blk_simp [iblk, V]
    blk_ext [at2, at3]

open Cert.ReferenceDhAddIdeal.Read in
theorem reference (A : Vec Ideal S8192x2048 .bf16) (B : Vec Ideal S2048x2048 .bf16) (X : Vec Ideal S8192x2048 .f32) : val_main_v5 (F := Ideal) A B X = sums A B X := by
  funext i
  exact (add_comm (X i) _).trans (Cert.Mm.add_eq ((val_main_v4_apply A B i).trans (Finset.sum_congr rfl fun k _ => Cert.Mm.mul_eq (congrArg A (Cert.Mm.ext2 rfl rfl))
    (congrArg B (Cert.Mm.ext2 rfl rfl)))) rfl)

theorem algebraic : Cert.algebraic_KernelDhAddIdeal_ReferenceDhAddIdeal (hKernelDhAddIdeal := Cert.KernelDhAddIdeal.Gen.facts)
    (hReferenceDhAddIdeal := Cert.ReferenceDhAddIdeal.Gen.facts) := by
  intro m ρ m' ρ' _ hargs
  refine ⟨fun c => sums (m ((c : Thread nD τ).loc main_arg0)) (m ((c : Thread nD τ).loc main_arg1)) (m ((c : Thread nD τ).loc main_arg2)),
    (θ_run defs _ _).mono (fun r hr c => ?_) (Cert.KernelDhAddIdeal.Value.run_blocks m ρ),
    (θ_run Cert.ReferenceDhAddIdeal.defs _ _).mono (fun r hr c => ?_) (Cert.ReferenceDhAddIdeal.Value.run m' ρ')⟩
  · exact ⟨(hr c).1.trans (result m c), (hr c).2⟩
  · obtain ⟨a0, a1, a2⟩ := hargs c
    refine ⟨(hr c).1.trans ?_, (hr c).2⟩
    rw [Cert.ReferenceDhAddIdeal.Read.val_main_v5_eq, a0, a1, a2]
    exact reference _ _ _

end Cert.DhAdd

end
-- ==== Proof.MmDyg.lean ====
module

public import proofs.«01_k».proof.Defs
public import proofs.«01_k».proof.Proof.Gen.KernelDygIdeal.Value
public import proofs.«01_k».proof.Proof.Gen.ReferenceDygIdeal.Read
public import proofs.«01_k».proof.Proof.Mm

@[expose] public section

/-! The gradient of the features before the gated linear unit: the sums over the unit's two halves are the reference's sums. -/

set_option maxRecDepth 16384

noncomputable section

namespace Cert.Dyg

open Cert.KernelDygIdeal Cert.KernelDygIdeal.Gen Idealize.ShloMosaic Idealize.ShloMosaic.TcCoe Idealize.SL.Sem

theorem at0 : ∀ t : Fin cfg0.N, win0_0.index t = ![t.val / 4, t.val % 2] := (by decide +kernel : ∀ t : Fin grid0.N, _)

theorem at1 : ∀ t : Fin cfg0.N, win0_1.index t = ![t.val / 2 % 2, t.val % 2] := (by decide +kernel : ∀ t : Fin grid0.N, _)

theorem at2 : ∀ t : Fin cfg0.N, win0_2.index t = ![t.val / 4, t.val / 2 % 2] := (by decide +kernel : ∀ t : Fin grid0.N, _)

/-- The sums over the features of two blocks. -/
def part (x0 x1 : Vec Ideal S1024x2048 .bf16) (j : S1024x1024.Idx) : EReal := ∑ k : Fin 2048, x0 (ix2 (j 0) k) * x1 (ix2 (j 1) k)

theorem first_eq (x0 x1 : Vec Ideal S1024x2048 .bf16) (j : S1024x1024.Idx) : k0_pay2 (F := Ideal) x0 x1 j = part x0 x1 j := by
  pointwise [k0_pay2, k0_pay1]
  rfl

theorem next_eq (x0 x1 : Vec Ideal S1024x2048 .bf16) (a : Vec Ideal S1024x1024 .f32) (j : S1024x1024.Idx) :
    k0_pay3 (F := Ideal) x0 x1 a j = a j + part x0 x1 j := by
  pointwise [k0_pay3, k0_pay1]
  rfl

theorem last_eq (a : Vec Ideal S1024x1024 .f32) (j : S1024x1024.Idx) : k0_pay4 (F := Ideal) a j = a j := by
  pointwise [k0_pay4]

variable (m : (ℓ : Loc nD τ sig) → Buf (Elt Ideal) ℓ) (c : Dev nD)

theorem start (t : Fin cfg0.N) (h : t.val % 2 = 0) (j : S1024x1024.Idx) : (outsAt0 m c t.val t.isLt).2 j = part (iblk m c 0 t) (iblk m c 1 t) j := by
  rw [outsAt0_A m c t h (by omega) (by omega)]
  frame_out
  rw [first_eq]

theorem step (t : Fin cfg0.N) (h : ¬t.val % 2 = 0) (j : S1024x1024.Idx) : (outsAt0 m c t.val t.isLt).2 j
    = (outsAt0 m c (t.val - 1) (Nat.lt_of_le_of_lt (Nat.sub_le _ _) t.isLt)).2 j + part (iblk m c 0 t) (iblk m c 1 t) j := by
  rw [outsAt0_B m c t h (by omega) (by omega)]
  frame_out
  rw [next_eq, read_unread_whole]

theorem written (t : Fin cfg0.N) (h : t.val % 2 = 1) (j : S1024x1024.Idx) :
    (outsAt0 m c t.val t.isLt).1 j = (outsAt0 m c t.val t.isLt).2 j + 0 := by
  rw [outsAt0_B m c t (by omega) (by omega) h]
  frame_out
  rw [last_eq, add_zero]

/-- The sums over all features. -/
def sums (A : Vec Ideal S8192x4096 .bf16) (B : Vec Ideal S2048x4096 .bf16) (i : S8192x2048.Idx) : EReal :=
  ∑ l : Fin 4096, A (ix2 (i 0) l) * B (ix2 (i 1) l)

/-- A run's blocks hold the sums over all features when they are written back. -/
theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  rw [after0_2]
  refine (Cert.Mm.run_sum 2 (fun n h => (outsAt0 m c n h).2) (fun n h => (outsAt0 m c n h).1) (fun _ _ _ => 0) (fun n h => part
    (iblk m c 0 ⟨n, h⟩) (iblk m c 1 ⟨n, h⟩)) (start m c) (step m c) (written m c) t h _).trans ((add_zero _).trans ?_)
  refine Fin.sum_mul_add_congr fun s k hl => ?_
  have e0 : (2 * (t.val / 2) + s.val) % 2 = s.val := by omega
  have e1 : (2 * (t.val / 2) + s.val) / 4 = t.val / 4 := by omega
  have e2 : (2 * (t.val / 2) + s.val) / 2 = t.val / 2 := by omega
  refine Cert.Mm.mul_eq ?_ ?_
  · blk_simp [iblk, V]
    blk_ext [at0, at2, e0, e1]
  · blk_simp [iblk, V]
    blk_ext [at1, at2, e0, e2]

open Cert.ReferenceDygIdeal.Read in
theorem reference (A : Vec Ideal S8192x4096 .bf16) (B : Vec Ideal S2048x4096 .bf16) : val_main_v5 (F := Ideal) A B = sums A B := by
  funext i
  exact (val_main_v4_apply A B i).trans (Finset.sum_congr rfl fun k _ => Cert.Mm.mul_eq (congrArg A (Cert.Mm.ext2 rfl rfl))
    (congrArg B (Cert.Mm.ext2 rfl rfl)))

theorem algebraic : Cert.algebraic_KernelDygIdeal_ReferenceDygIdeal (hKernelDygIdeal := Cert.KernelDygIdeal.Gen.facts)
    (hReferenceDygIdeal := Cert.ReferenceDygIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelDygIdeal.Value.run_blocks m ρ),
    (θ_run Cert.ReferenceDygIdeal.defs _ _).mono (fun r hr c => ?_) (Cert.ReferenceDygIdeal.Value.run m' ρ')⟩
  · exact ⟨(hr c).1.trans (result m c), (hr c).2⟩
  · obtain ⟨a0, a1⟩ := hargs c
    refine ⟨(hr c).1.trans ?_, (hr c).2⟩
    rw [Cert.ReferenceDygIdeal.Read.val_main_v5_eq, a0, a1]
    exact reference _ _

end Cert.Dyg

end
-- ==== Proof.MmProj.lean ====
module

public import proofs.«01_k».proof.Defs
public import proofs.«01_k».proof.Proof.Gen.KernelProjIdeal.Value
public import proofs.«01_k».proof.Proof.Gen.ReferenceProjIdeal.Read
public import proofs.«01_k».proof.Proof.Mm

@[expose] public section

/-! A product of the rows with a square weight: every block holds whole sums. -/

set_option maxRecDepth 16384

noncomputable section

namespace Cert.Proj

open Cert.KernelProjIdeal Cert.KernelProjIdeal.Gen Idealize.ShloMosaic Idealize.ShloMosaic.TcCoe Idealize.SL.Sem

theorem at0 : ∀ t : Fin cfg0.N, win0_0.index t = ![t.val / 2, 0] := (by decide +kernel : ∀ t : Fin grid0.N, _)

theorem at1 : ∀ t : Fin cfg0.N, win0_1.index t = ![0, t.val % 2] := (by decide +kernel : ∀ t : Fin grid0.N, _)

theorem at2 : ∀ t : Fin cfg0.N, win0_2.index t = ![t.val / 2, t.val % 2] := (by decide +kernel : ∀ t : Fin grid0.N, _)

theorem pay_eq (x0 : Vec Ideal S1024x2048 .bf16) (x1 : Vec Ideal S2048x1024 .bf16) (j : S1024x1024.Idx) :
    k0_pay1 (F := Ideal) x0 x1 j = ∑ k : Fin 2048, x0 (ix2 (j 0) k) * x1 (ix2 k (j 1)) := by
  pointwise [k0_pay1]

variable (m : (ℓ : Loc nD τ sig) → Buf (Elt Ideal) ℓ) (c : Dev nD)

/-- The sums over the row's entries. -/
def sums (A : Vec Ideal S8192x2048 .bf16) (B : Vec Ideal S2048x2048 .bf16) (i : S8192x2048.Idx) : EReal :=
  ∑ l : Fin 2048, A (ix2 (i 0) l) * B (ix2 l (i 1))

theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (Finset.sum_congr rfl fun k _ => Cert.Mm.mul_eq ?_ ?_)
  · blk_simp [iblk, V]
    blk_ext [at0, at2]
  · blk_simp [iblk, V]
    blk_ext [at1, at2]

open Cert.ReferenceProjIdeal.Read in
theorem reference (A : Vec Ideal S8192x2048 .bf16) (B : Vec Ideal S2048x2048 .bf16) : val_main_v3 (F := Ideal) A B = sums A B := by
  funext i
  exact (val_main_v2_apply A B i).trans (Finset.sum_congr rfl fun k _ => Cert.Mm.mul_eq (congrArg A (Cert.Mm.ext2 rfl rfl))
    (congrArg B (Cert.Mm.ext2 rfl rfl)))

theorem algebraic : Cert.algebraic_KernelProjIdeal_ReferenceProjIdeal (hKernelProjIdeal := Cert.KernelProjIdeal.Gen.facts)
    (hReferenceProjIdeal := Cert.ReferenceProjIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelProjIdeal.Value.run_blocks m ρ),
    (θ_run Cert.ReferenceProjIdeal.defs _ _).mono (fun r hr c => ?_) (Cert.ReferenceProjIdeal.Value.run m' ρ')⟩
  · exact ⟨(hr c).1.trans (result m c), (hr c).2⟩
  · obtain ⟨a0, a1⟩ := hargs c
    refine ⟨(hr c).1.trans ?_, (hr c).2⟩
    rw [Cert.ReferenceProjIdeal.Read.val_main_v3_eq, a0, a1]
    exact reference _ _

end Cert.Proj

end
-- ==== Proof.MmOut.lean ====
module

public import proofs.«01_k».proof.Defs
public import proofs.«01_k».proof.Proof.Gen.KernelOutIdeal.Value
public import proofs.«01_k».proof.Proof.Gen.ReferenceOutIdeal.Read
public import proofs.«01_k».proof.Proof.Mm

@[expose] public section

/-! The product that closes an attention layer, and the input carried past the layer: every block holds whole sums. -/

set_option maxRecDepth 16384

noncomputable section

namespace Cert.Out

open Cert.KernelOutIdeal Cert.KernelOutIdeal.Gen Idealize.ShloMosaic Idealize.ShloMosaic.TcCoe Idealize.SL.Sem

theorem at0 : ∀ t : Fin cfg0.N, win0_0.index t = ![t.val / 2, 0] := (by decide +kernel : ∀ t : Fin grid0.N, _)

theorem at1 : ∀ t : Fin cfg0.N, win0_1.index t = ![0, t.val % 2] := (by decide +kernel : ∀ t : Fin grid0.N, _)

theorem at2 : ∀ t : Fin cfg0.N, win0_2.index t = ![t.val / 2, t.val % 2] := (by decide +kernel : ∀ t : Fin grid0.N, _)

theorem at3 : ∀ t : Fin cfg0.N, win0_3.index t = ![t.val / 2, t.val % 2] := (by decide +kernel : ∀ t : Fin grid0.N, _)

theorem pay_eq (x0 : Vec Ideal S1024x2048 .bf16) (x1 : Vec Ideal S2048x1024 .bf16) (x2 : Vec Ideal S1024x1024 .f32) (j : S1024x1024.Idx) :
    k0_pay1 (F := Ideal) x0 x1 x2 j = (∑ k : Fin 2048, x0 (ix2 (j 0) k) * x1 (ix2 k (j 1))) + x2 j := by
  pointwise [k0_pay1]

variable (m : (ℓ : Loc nD τ sig) → Buf (Elt Ideal) ℓ) (c : Dev nD)

/-- The sums over the row's entries, and the input. -/
def sums (A : Vec Ideal S8192x2048 .bf16) (B : Vec Ideal S2048x2048 .bf16) (X : Vec Ideal S8192x2048 .f32) (i : S8192x2048.Idx) : EReal :=
  (∑ l : Fin 2048, A (ix2 (i 0) l) * B (ix2 l (i 1))) + X i

theorem result : (dats m 0 c).arrAt 3 cfg0.N = sums (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  frame_out
  refine (pay_eq _ _ _ _).trans (Cert.Mm.add_eq (Finset.sum_congr rfl fun k _ => Cert.Mm.mul_eq ?_ ?_) ?_)
  · blk_simp [iblk, V]
    blk_ext [at0, at3]
  · blk_simp [iblk, V]
    blk_ext [at1, at3]
  · blk_simp [iblk, V]
    blk_ext [at2, at3]

open Cert.ReferenceOutIdeal.Read in
theorem reference (A : Vec Ideal S8192x2048 .bf16) (B : Vec Ideal S2048x2048 .bf16) (X : Vec Ideal S8192x2048 .f32) : val_main_v3 (F := Ideal) A B X = sums A B X := by
  funext i
  exact (add_comm (X i) _).trans (Cert.Mm.add_eq ((val_main_v2_apply A B i).trans (Finset.sum_congr rfl fun k _ => Cert.Mm.mul_eq (congrArg A (Cert.Mm.ext2 rfl rfl))
    (congrArg B (Cert.Mm.ext2 rfl rfl)))) rfl)

theorem algebraic : Cert.algebraic_KernelOutIdeal_ReferenceOutIdeal (hKernelOutIdeal := Cert.KernelOutIdeal.Gen.facts)
    (hReferenceOutIdeal := Cert.ReferenceOutIdeal.Gen.facts) := by
  intro m ρ m' ρ' _ hargs
  refine ⟨fun c => sums (m ((c : Thread nD τ).loc main_arg0)) (m ((c : Thread nD τ).loc main_arg1)) (m ((c : Thread nD τ).loc main_arg2)),
    (θ_run defs _ _).mono (fun r hr c => ?_) (Cert.KernelOutIdeal.Value.run_blocks m ρ),
    (θ_run Cert.ReferenceOutIdeal.defs _ _).mono (fun r hr c => ?_) (Cert.ReferenceOutIdeal.Value.run m' ρ')⟩
  · exact ⟨(hr c).1.trans (result m c), (hr c).2⟩
  · obtain ⟨a0, a1, a2⟩ := hargs c
    refine ⟨(hr c).1.trans ?_, (hr c).2⟩
    rw [Cert.ReferenceOutIdeal.Read.val_main_v3_eq, a0, a1, a2]
    exact reference _ _ _

end Cert.Out

end
-- ==== Proof.MmGlu.lean ====
module

public import proofs.«01_k».proof.Defs
public import proofs.«01_k».proof.Proof.Gen.KernelGluIdeal.Value
public import proofs.«01_k».proof.Proof.Gen.ReferenceGluIdeal.Read
public import proofs.«01_k».proof.Proof.Mm

@[expose] public section

/-! The product before the gated linear unit: every block holds whole sums. -/

set_option maxRecDepth 16384

noncomputable section

namespace Cert.Glu

open Cert.KernelGluIdeal Cert.KernelGluIdeal.Gen Idealize.ShloMosaic Idealize.ShloMosaic.TcCoe Idealize.SL.Sem

theorem at0 : ∀ t : Fin cfg0.N, win0_0.index t = ![t.val / 4, 0] := (by decide +kernel : ∀ t : Fin grid0.N, _)

theorem at1 : ∀ t : Fin cfg0.N, win0_1.index t = ![0, t.val % 4] := (by decide +kernel : ∀ t : Fin grid0.N, _)

theorem at2 : ∀ t : Fin cfg0.N, win0_2.index t = ![t.val / 4, t.val % 4] := (by decide +kernel : ∀ t : Fin grid0.N, _)

theorem pay_eq (x0 : Vec Ideal S1024x2048 .bf16) (x1 : Vec Ideal S2048x1024 .bf16) (j : S1024x1024.Idx) :
    k0_pay1 (F := Ideal) x0 x1 j = ∑ k : Fin 2048, x0 (ix2 (j 0) k) * x1 (ix2 k (j 1)) := by
  pointwise [k0_pay1]

variable (m : (ℓ : Loc nD τ sig) → Buf (Elt Ideal) ℓ) (c : Dev nD)

/-- The sums over the row's entries. -/
def sums (A : Vec Ideal S8192x2048 .bf16) (B : Vec Ideal S2048x4096 .bf16) (i : S8192x4096.Idx) : EReal :=
  ∑ l : Fin 2048, A (ix2 (i 0) l) * B (ix2 l (i 1))

theorem result : (dats m 0 c).arrAt 2 cfg0.N = sums (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (Finset.sum_congr rfl fun k _ => Cert.Mm.mul_eq ?_ ?_)
  · blk_simp [iblk, V]
    blk_ext [at0, at2]
  · blk_simp [iblk, V]
    blk_ext [at1, at2]

open Cert.ReferenceGluIdeal.Read in
theorem reference (A : Vec Ideal S8192x2048 .bf16) (B : Vec Ideal S2048x4096 .bf16) : val_main_v2 (F := Ideal) A B = sums A B := by
  funext i
  exact (val_main_v2_apply A B i).trans (Finset.sum_congr rfl fun k _ => Cert.Mm.mul_eq (congrArg A (Cert.Mm.ext2 rfl rfl))
    (congrArg B (Cert.Mm.ext2 rfl rfl)))

theorem algebraic : Cert.algebraic_KernelGluIdeal_ReferenceGluIdeal (hKernelGluIdeal := Cert.KernelGluIdeal.Gen.facts)
    (hReferenceGluIdeal := Cert.ReferenceGluIdeal.Gen.facts) := by
  intro m ρ m' ρ' _ hargs
  refine ⟨fun c => sums (m ((c : Thread nD τ).loc main_arg0)) (m ((c : Thread nD τ).loc main_arg1)),
    (θ_run defs _ _).mono (fun r hr c => ?_) (Cert.KernelGluIdeal.Value.run_blocks m ρ),
    (θ_run Cert.ReferenceGluIdeal.defs _ _).mono (fun r hr c => ?_) (Cert.ReferenceGluIdeal.Value.run m' ρ')⟩
  · exact ⟨(hr c).1.trans (result m c), (hr c).2⟩
  · obtain ⟨a0, a1⟩ := hargs c
    refine ⟨(hr c).1.trans ?_, (hr c).2⟩
    rw [Cert.ReferenceGluIdeal.Read.val_main_v2_eq, a0, a1]
    exact reference _ _

end Cert.Glu

end
-- ==== Proof.Rms.lean ====
module

public import proofs.«01_k».proof.Proof.Mm

@[expose] public section

/-! The root-mean-square norm of a row of 2048 entries and its gradient, at every row of extended reals. -/

noncomputable section

namespace Cert.Rms

open Idealize.ShloMosaic

theorem bits_len : Ideal.ofBits .f32 0x45000000#32 = ((2048 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_inv_len : Ideal.ofBits .f32 0x3A000000#32 = ((1 / 2048 : ℝ) : EReal) := by
  simp [Ideal.ofBits, Ideal.ieee, -EReal.coe_mul]; norm_num

theorem bits_eps : ∃ e : ℝ, 0 < e ∧ Ideal.ofBits .f32 0x358637BD#32 = (e : EReal) := by
  refine ⟨8796093 * (2 : ℝ) ^ (-43 : ℤ), by norm_num, ?_⟩
  simp [Ideal.ofBits, Ideal.ieee, -EReal.coe_mul]

/-- The mean of the squares and the small number. -/
def mean (x : Fin 2048 → EReal) : EReal :=
  Ideal.div (∑ k, x k * x k) (Ideal.ofBits .f32 0x45000000#32) + Ideal.ofBits .f32 0x358637BD#32

/-- One over the root of the mean. -/
def inv (x : Fin 2048 → EReal) : EReal := Ideal.rsqrt (mean x)

/-- The gradient of the norm at a row, of weighted output gradients `w`. -/
def back (x w : Fin 2048 → EReal) (j : Fin 2048) : EReal :=
  inv x * w j - x j * (inv x * inv x * inv x) * Ideal.div (∑ k, x k * w k) (Ideal.ofBits .f32 0x45000000#32)

/-- The share of an entry's gradient that comes through the mean, half of it. -/
def through (x w : Fin 2048 → EReal) : EReal :=
  Ideal.div ((∑ k, x k * w k) * (Ideal.ofBits .f32 0xBF000000#32 * Ideal.div (inv x) (mean x))) (Ideal.ofBits .f32 0x45000000#32)

theorem sq_nonneg (a : EReal) : 0 ≤ a * a := by
  induction a with
  | bot => simp
  | top => simp
  | coe r => exact_mod_cast mul_self_nonneg r

/-- The mean is positive; it is a number or infinite. -/
theorem mean_pos (x : Fin 2048 → EReal) : mean x = ⊤ ∨ ∃ n : ℝ, 0 < n ∧ mean x = (n : EReal) := by
  obtain ⟨e, he, h⟩ := bits_eps
  have hs : 0 ≤ (∑ k, x k * x k) * ((1 / 2048 : ℝ) : EReal) :=
    mul_nonneg (Finset.sum_nonneg fun k _ => sq_nonneg (x k)) (by exact_mod_cast (by norm_num : (0 : ℝ) ≤ 1 / 2048))
  have hm : mean x = (∑ k, x k * x k) * ((1 / 2048 : ℝ) : EReal) + (e : EReal) := by
    rw [mean, bits_len, h, Ideal.div_coe (by norm_num)]
  rw [hm]
  generalize (∑ k, x k * x k) * ((1 / 2048 : ℝ) : EReal) = s at hs
  induction s with
  | bot => simp at hs
  | top => left; simp
  | coe r =>
    right
    have : 0 ≤ r := by exact_mod_cast hs
    exact ⟨r + e, by linarith, by norm_cast⟩

theorem twice (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_add, ← EReal.coe_mul]; congr 1; ring

theorem neg_real (a : EReal) (r : ℝ) : -(a * (r : EReal)) = a * ((-r : ℝ) : EReal) := by
  rw [EReal.coe_neg, mul_comm a, mul_comm a, EReal.neg_mul]

theorem back_eq (x w : Fin 2048 → EReal) (j : Fin 2048) : w j * inv x + x j * through x w + through x w * x j = back x w j := by
  rw [back, through]
  generalize (∑ k, x k * w k) = S
  rw [bits_len, Ideal.div_coe (by norm_num), Ideal.div_coe (by norm_num), bits_neg_half, add_assoc, mul_comm _ (x j), twice, mul_comm (w j),
    sub_eq_add_neg]
  congr 1
  rcases mean_pos x with h | ⟨n, hn, h⟩
  · rw [inv, h, Ideal.rsqrt_top, Ideal.div, if_neg (by simp)]
    simp
  · have hr : inv x = (((Real.sqrt n)⁻¹ : ℝ) : EReal) := by
      rw [inv, h, Ideal.rsqrt_coe, if_neg (by linarith), if_neg hn.ne']
    have hc : (Real.sqrt n)⁻¹ * (Real.sqrt n)⁻¹ = 1 / n := by
      rw [← mul_inv, Real.mul_self_sqrt hn.le, one_div]
    rw [hr, h, Ideal.div_coe hn.ne', ← EReal.coe_mul, ← EReal.coe_mul, ← EReal.coe_mul, ← EReal.coe_mul, hc, mul_assoc (x j) (_ : EReal) (S * _),
      mul_left_comm (_ : EReal) S, ← EReal.coe_mul, mul_assoc S, ← EReal.coe_mul, ← mul_assoc (x j) S, ← mul_assoc (x j) S, mul_assoc (x j * S),
      ← EReal.coe_mul, neg_real]
    congr 2
    ring

end Cert.Rms
-- ==== Proof.MmNormBwd.lean ====
module

public import proofs.«01_k».proof.Defs
public import proofs.«01_k».proof.Proof.Gen.KernelNormBwdIdeal.Value
public import proofs.«01_k».proof.Proof.Gen.ReferenceNormBwdIdeal.Read
public import proofs.«01_k».proof.Proof.Rms

@[expose] public section

/-! The norm's gradient: row by row it is the reference's, with the gradient carried past the layer added; the gain's
gradient is summed a block of rows at a time. -/

set_option maxRecDepth 16384

noncomputable section

namespace Cert.NormBwd

open Cert.KernelNormBwdIdeal Cert.KernelNormBwdIdeal.Gen Idealize.ShloMosaic Idealize.ShloMosaic.TcCoe Idealize.SL.Sem

theorem at0 : ∀ t : Fin cfg0.N, win0_0.index t = ![t.val, 0] := (by decide +kernel : ∀ t : Fin grid0.N, _)

theorem at1 : ∀ t : Fin cfg0.N, win0_1.index t = ![t.val, 0] := (by decide +kernel : ∀ t : Fin grid0.N, _)

theorem at2 : ∀ t : Fin cfg0.N, win0_2.index t = ![t.val, 0] := (by decide +kernel : ∀ t : Fin grid0.N, _)

theorem at3 : ∀ t : Fin cfg0.N, win0_3.index t = ![0, 0] := (by decide +kernel : ∀ t : Fin grid0.N, _)

theorem at4 : ∀ t : Fin cfg0.N, win0_4.index t = ![t.val, 0] := (by decide +kernel : ∀ t : Fin grid0.N, _)

theorem at5 : ∀ t : Fin cfg0.N, win0_5.index t = ![t.val, 0] := (by decide +kernel : ∀ t : Fin grid0.N, _)

theorem at6 : ∀ t : Fin cfg0.N, win0_6.index t = ![0, 0] := (by decide +kernel : ∀ t : Fin grid0.N, _)

/-- A block of rows' gradients. -/
def part (x0 x1 x2 : Vec Ideal S256x2048 .f32) (x3 : Vec Ideal S1x2048 .f32) (j : S256x2048.Idx) : EReal :=
  x2 (ix2 (j 0) (j 1)) + Rms.back (fun k => x0 (ix2 (j 0) k)) (fun k => x1 (ix2 (j 0) k) * x3 (ix2 0 k)) (j 1)

/-- A block of rows' share of the gain's gradient. -/
def share (x0 x1 : Vec Ideal S256x2048 .f32) (j : S1x2048.Idx) : EReal :=
  ∑ r : Fin 256, x1 (ix2 r (j 1)) * x0 (ix2 r (j 1)) * Rms.inv (fun k => x0 (ix2 r k))

theorem dx_eq (x0 x1 x2 : Vec Ideal S256x2048 .f32) (x3 : Vec Ideal S1x2048 .f32) (j : S256x2048.Idx) :
    k0_pay4 (F := Ideal) x0 x1 x2 x3 j = part x0 x1 x2 x3 j := by
  have e (x : Vec Ideal S256x2048 .f32) : x j = x (ix2 (j 0) (j 1)) := congrArg x (Cert.Mm.ext2 rfl rfl)
  pointwise [k0_pay4, k0_pay3]
  rw [e x0, e x1, e x2]
  rfl

theorem dxb_eq (x0 x1 x2 : Vec Ideal S256x2048 .f32) (x3 : Vec Ideal S1x2048 .f32) (j : S256x2048.Idx) :
    k0_pay6 (F := Ideal) x0 x1 x2 x3 j = part x0 x1 x2 x3 j := dx_eq x0 x1 x2 x3 j

theorem dg_eq (x0 x1 : Vec Ideal S256x2048 .f32) (j : S1x2048.Idx) : k0_pay5 (F := Ideal) x0 x1 j = share x0 x1 j := by
  pointwise [k0_pay5, k0_pay3]
  rfl

theorem next_eq (v a : Vec Ideal S1x2048 .f32) (j : S1x2048.Idx) : k0_pay2 (F := Ideal) v a j = a j + v j := by
  pointwise [k0_pay2]

theorem zero_eq (j : S1x2048.Idx) : k0_pay1 (F := Ideal) j = (0 : EReal) := by
  pointwise [k0_pay1]

variable (m : (ℓ : Loc nD τ sig) → Buf (Elt Ideal) ℓ) (c : Dev nD)

theorem dx_at (t : Fin cfg0.N) (j : S256x2048.Idx) :
    (outsAt0 m c t.val t.isLt).1 j = part (iblk m c 0 t) (iblk m c 1 t) (iblk m c 2 t) (iblk m c 3 t) j := by
  by_cases h : t.val % 32 = 0
  · rw [outsAt0_A m c t h]
    frame_out
    rw [dx_eq]
  · rw [outsAt0_B m c t h]
    frame_out
    rw [dx_eq]

theorem dxb_at (t : Fin cfg0.N) (j : S256x2048.Idx) :
    (outsAt0 m c t.val t.isLt).2.1 j = part (iblk m c 0 t) (iblk m c 1 t) (iblk m c 2 t) (iblk m c 3 t) j := by
  by_cases h : t.val % 32 = 0
  · rw [outsAt0_A m c t h]
    frame_out
    exact dxb_eq _ _ _ _ _
  · rw [outsAt0_B m c t h]
    frame_out
    exact dxb_eq _ _ _ _ _

theorem start (t : Fin cfg0.N) (h : t.val % 32 = 0) (j : S1x2048.Idx) :
    (outsAt0 m c t.val t.isLt).2.2 j = share (iblk m c 0 t) (iblk m c 1 t) j := by
  rw [outsAt0_A m c t h]
  frame_out
  rw [next_eq, dg_eq, zero_eq, zero_add]

theorem step (t : Fin cfg0.N) (h : ¬t.val % 32 = 0) (j : S1x2048.Idx) : (outsAt0 m c t.val t.isLt).2.2 j
    = (outsAt0 m c (t.val - 1) (Nat.lt_of_le_of_lt (Nat.sub_le _ _) t.isLt)).2.2 j + share (iblk m c 0 t) (iblk m c 1 t) j := by
  rw [outsAt0_B m c t h]
  frame_out
  rw [next_eq, dg_eq]

/-- The input's gradient. -/
def dx (X : Vec Ideal S8192x2048 .f32) (G : Vec Ideal S1x2048 .f32) (D R : Vec Ideal S8192x2048 .f32) (i : S8192x2048.Idx) : EReal :=
  R (ix2 (i 0) (i 1)) + Rms.back (fun k => X (ix2 (i 0) k)) (fun k => D (ix2 (i 0) k) * G (ix2 0 k)) (i 1)

/-- The gain's gradient. -/
def dg (X D : Vec Ideal S8192x2048 .f32) (i : S1x2048.Idx) : EReal :=
  ∑ l : Fin 8192, D (ix2 l (i 1)) * X (ix2 l (i 1)) * Rms.inv (fun k => X (ix2 l k))

theorem back_congr {x w x' w' : Fin 2048 → EReal} {j j' : Fin 2048} (hx : ∀ k, x k = x' k) (hw : ∀ k, w k = w' k) (hj : (ix2 0 j : S1x2048.Idx) = ix2 0 j') :
    Rms.back x w j = Rms.back x' w' j' := by rw [funext hx, funext hw, show j = j' from congrFun hj 1]

theorem result4 : (dats m 0 c).arrAt 4 cfg0.N = dx (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  rw [after0_4]
  refine (dx_at m c t _).trans (Cert.Mm.add_eq ?_ (back_congr (fun k => ?_) (fun k => Cert.Mm.mul_eq ?_ ?_) ?_))
  · blk_simp [iblk, V]
    blk_ext [at2, at4]
  · blk_simp [iblk, V]
    blk_ext [at0, at4]
  · blk_simp [iblk, V]
    blk_ext [at1, at4]
  · blk_simp [iblk, V]
    blk_ext [at3, at4]
  · blk_ext [at4]

theorem result5 : (dats m 0 c).arrAt 5 cfg0.N = dx (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  rw [after0_5]
  refine (dxb_at m c t _).trans (Cert.Mm.add_eq ?_ (back_congr (fun k => ?_) (fun k => Cert.Mm.mul_eq ?_ ?_) ?_))
  · blk_simp [iblk, V]
    blk_ext [at2, at5]
  · blk_simp [iblk, V]
    blk_ext [at0, at5]
  · blk_simp [iblk, V]
    blk_ext [at1, at5]
  · blk_simp [iblk, V]
    blk_ext [at3, at5]
  · blk_ext [at5]

theorem result6 : (dats m 0 c).arrAt 6 cfg0.N = dg (m ((c : Thread nD τ).loc main_arg0)) (m ((c : Thread nD τ).loc main_arg2)) := by
  refine (dats m 0 c).arrAt_eq_of_covers 6 _ (by decide +kernel) fun t hf y => ?_
  have h : t.val % 32 = 31 := (flush0_6 t).mp hf
  have ht : t.val < 32 := t.isLt
  rw [after0_6]
  refine (Cert.Mm.run_sum 32 (fun n h => (outsAt0 m c n h).2.2) (fun n h => (outsAt0 m c n h).2.2) (fun _ _ _ => 0) (fun n h => share
    (iblk m c 0 ⟨n, h⟩) (iblk m c 1 ⟨n, h⟩)) (start m c) (step m c) (fun _ _ _ => (add_zero _).symm) t h _).trans ((add_zero _).trans ?_)
  refine Fin.sum_mul_add_congr fun s k hl => ?_
  have e0 : 32 * (t.val / 32) + s.val = s.val := by omega
  refine Cert.Mm.mul_eq (Cert.Mm.mul_eq ?_ ?_) (congrArg Rms.inv (funext fun k' => ?_))
  · blk_simp [iblk, V]
    blk_ext [at1, at6, e0]
  · blk_simp [iblk, V]
    blk_ext [at0, at6, e0]
  · blk_simp [iblk, V]
    blk_ext [at0, at6, e0]

open Cert.ReferenceNormBwdIdeal.Read in
theorem ref_mean (X : Vec Ideal S8192x2048 .f32) (i : Cert.ReferenceNormBwdIdeal.S8192x1.Idx) :
    val_main_v6 (F := Ideal) X i = Rms.mean (fun k => X (ix2 (i 0) k)) := by
  rw [val_main_v6_apply, val_main_v5_apply, val_main_v4_apply, val_main_v3_apply, val_main_v2_apply, val_main_v1_apply, val_main_cst_apply,
    val_main_cst_0_apply, val_main_cst_1_apply]
  simp only [val_main_v0_apply, Ideal.ofBits_def, Ideal.ofBits_zero_f32, zero_add]
  exact Cert.Mm.add_eq (congrArg (fun s => Ideal.div s (Ideal.ofBits .f32 0x45000000#32)) (Finset.sum_congr rfl fun k _ =>
    Cert.Mm.mul_eq (congrArg X (Cert.Mm.ext2 rfl rfl)) (congrArg X (Cert.Mm.ext2 rfl rfl)))) rfl

open Cert.ReferenceNormBwdIdeal.Read in
theorem ref_inv (X : Vec Ideal S8192x2048 .f32) (i : Cert.ReferenceNormBwdIdeal.S8192x1.Idx) :
    val_main_v7 (F := Ideal) X i = Rms.inv (fun k => X (ix2 (i 0) k)) := by
  rw [val_main_v7_apply, ref_mean]
  rfl

open Cert.ReferenceNormBwdIdeal.Read in
theorem ref_w (G : Vec Ideal S1x2048 .f32) (D : Vec Ideal S8192x2048 .f32) (i : Cert.ReferenceNormBwdIdeal.S8192x2048.Idx) :
    val_main_v19 (F := Ideal) G D i = D (ix2 (i 0) (i 1)) * G (ix2 0 (i 1)) := by
  rw [val_main_v19_apply, val_main_v18_apply]
  exact Cert.Mm.mul_eq (congrArg D (Cert.Mm.ext2 rfl rfl)) (congrArg G (Cert.Mm.ext2 rfl rfl))

open Cert.ReferenceNormBwdIdeal.Read in
theorem ref_term (X : Vec Ideal S8192x2048 .f32) (G : Vec Ideal S1x2048 .f32) (D : Vec Ideal S8192x2048 .f32) (l : Fin 8192) (k : Fin 2048) :
    val_main_v20 (F := Ideal) X G D (ix2 l k) = X (ix2 l k) * (D (ix2 l k) * G (ix2 0 k)) := by
  rw [val_main_v20_apply, ref_w]
  rfl

open Cert.ReferenceNormBwdIdeal.Read in
theorem ref_through (X : Vec Ideal S8192x2048 .f32) (G : Vec Ideal S1x2048 .f32) (D : Vec Ideal S8192x2048 .f32)
    (i : Cert.ReferenceNormBwdIdeal.S8192x2048.Idx) :
    val_main_v29 (F := Ideal) X G D i = Rms.through (fun k => X (ix2 (i 0) k)) (fun k => D (ix2 (i 0) k) * G (ix2 0 k)) := by
  rw [val_main_v29_apply, val_main_v28_apply, val_main_cst_6_apply, Ideal.ofBits_def, Ideal.ofBits_zero_f32, zero_add, Fin.sum_univ_one,
    val_main_v27_apply, val_main_v26_apply, val_main_cst_5_apply, val_main_v25_apply, val_main_v22_apply, val_main_v21_apply, val_main_cst_4_apply,
    Ideal.ofBits_def, Ideal.ofBits_zero_f32, zero_add, val_main_v10_apply, val_main_v9_apply, val_main_cst_2_apply, val_main_v8_apply, ref_inv, ref_mean]
  have e (k : Fin 2048) : idx_main_v21 (idx_main_v22 (idx_main_v28 (idx_main_v29 i) 0)) k = ix2 (i 0) k := Cert.Mm.ext2 (by simp) rfl
  exact congrArg (fun s => Ideal.div s (Ideal.ofBits .f32 0x45000000#32)) (Cert.Mm.mul_eq (Finset.sum_congr rfl fun k _ =>
    (congrArg (val_main_v20 (F := Ideal) X G D) (e k)).trans (ref_term X G D (i 0) k)) rfl)

open Cert.ReferenceNormBwdIdeal.Read in
theorem reference_dx (X : Vec Ideal S8192x2048 .f32) (G : Vec Ideal S1x2048 .f32) (D R : Vec Ideal S8192x2048 .f32) :
    val_main_v34 (F := Ideal) X G D R = dx X G D R := by
  funext i
  rw [val_main_v34_apply, val_main_v33_apply, val_main_v32_apply, val_main_v31_apply, val_main_v30_apply, val_main_v24_apply,
    val_main_v23_apply, ref_through, ref_w, ref_inv]
  have e : X i = X (ix2 (i 0) (i 1)) := congrArg X (Cert.Mm.ext2 rfl rfl)
  have e' : R i = R (ix2 (i 0) (i 1)) := congrArg R (Cert.Mm.ext2 rfl rfl)
  rw [e, e']
  exact congrArg (fun s => R (ix2 (i 0) (i 1)) + s) (Rms.back_eq (fun k => X (ix2 (i 0) k)) (fun k => D (ix2 (i 0) k) * G (ix2 0 k)) (i 1))

open Cert.ReferenceNormBwdIdeal.Read in
theorem reference_dxb (X : Vec Ideal S8192x2048 .f32) (G : Vec Ideal S1x2048 .f32) (D R : Vec Ideal S8192x2048 .f32) :
    val_main_v35 (F := Ideal) X G D R = dx X G D R := by
  funext i
  rw [val_main_v35_apply, reference_dx]
  rfl

open Cert.ReferenceNormBwdIdeal.Read in
theorem reference_dg (X : Vec Ideal S8192x2048 .f32) (D : Vec Ideal S8192x2048 .f32) : val_main_v17 (F := Ideal) X D = dg X D := by
  funext i
  have h0 : (i 0).val = 0 := by have : (i 0).val < 1 := (i 0).isLt; omega
  rw [val_main_v17_apply, val_main_v16_apply, val_main_cst_3_apply, Ideal.ofBits_def, Ideal.ofBits_zero_f32, zero_add]
  refine Finset.sum_congr rfl fun l _ => ?_
  rw [val_main_v15_apply, val_main_v12_apply, val_main_v11_apply, ref_inv]
  have e : idx_main_v16 (idx_main_v17 i) l = ix2 l (i 1) := Cert.Mm.ext2 rfl (by show (i 0).val * 2048 + (i 1).val = (i 1).val; omega)
  rw [e]
  exact (mul_comm _ _).trans (mul_assoc _ _ _).symm

theorem algebraic : Cert.algebraic_KernelNormBwdIdeal_ReferenceNormBwdIdeal (hKernelNormBwdIdeal := Cert.KernelNormBwdIdeal.Gen.facts)
    (hReferenceNormBwdIdeal := Cert.ReferenceNormBwdIdeal.Gen.facts) := by
  intro m ρ m' ρ' _ hargs
  refine ⟨fun c => dx (m ((c : Thread nD τ).loc main_arg0)) (m ((c : Thread nD τ).loc main_arg1)) (m ((c : Thread nD τ).loc main_arg2))
      (m ((c : Thread nD τ).loc main_arg3)),
    fun c => dx (m ((c : Thread nD τ).loc main_arg0)) (m ((c : Thread nD τ).loc main_arg1)) (m ((c : Thread nD τ).loc main_arg2))
      (m ((c : Thread nD τ).loc main_arg3)),
    fun c => dg (m ((c : Thread nD τ).loc main_arg0)) (m ((c : Thread nD τ).loc main_arg2)),
    (θ_run defs _ _).mono (fun r hr c => ?_) (Cert.KernelNormBwdIdeal.Value.run_blocks m ρ),
    (θ_run Cert.ReferenceNormBwdIdeal.defs _ _).mono (fun r hr c => ?_) (Cert.ReferenceNormBwdIdeal.Value.run m' ρ')⟩
  · exact ⟨(hr c).1.trans (result4 m c), (hr c).2.1.trans (result5 m c), (hr c).2.2.1.trans (result6 m c), (hr c).2.2.2⟩
  · obtain ⟨a0, a1, a2, a3⟩ := hargs c
    refine ⟨(hr c).1.trans ?_, (hr c).2.1.trans ?_, (hr c).2.2.1.trans ?_, (hr c).2.2.2⟩
    · rw [Cert.ReferenceNormBwdIdeal.Read.val_main_v34_eq, a0, a1, a2, a3]
      exact reference_dx _ _ _ _
    · rw [Cert.ReferenceNormBwdIdeal.Read.val_main_v35_eq, a0, a1, a2, a3]
      exact reference_dxb _ _ _ _
    · rw [Cert.ReferenceNormBwdIdeal.Read.val_main_v17_eq, a0, a2]
      exact reference_dg _ _

end Cert.NormBwd

end
-- ==== Proof.MmGluBwd.lean ====
module

public import proofs.«01_k».proof.Defs
public import proofs.«01_k».proof.Proof.Gen.KernelGluBwdIdeal.Value
public import proofs.«01_k».proof.Proof.Gen.ReferenceGluBwdIdeal.Read
public import proofs.«01_k».proof.Proof.Rms

@[expose] public section

/-! The gradient of the gate between the scan's products: a block of rows at a time it is the reference's. -/

set_option maxRecDepth 16384

noncomputable section

namespace Cert.GluBwd

open Cert.KernelGluBwdIdeal Cert.KernelGluBwdIdeal.Gen Idealize.ShloMosaic Idealize.ShloMosaic.TcCoe Idealize.SL.Sem

theorem at0 : ∀ t : Fin cfg0.N, win0_0.index t = ![t.val, 0] := (by decide +kernel : ∀ t : Fin grid0.N, _)

theorem at1 : ∀ t : Fin cfg0.N, win0_1.index t = ![t.val, 0] := (by decide +kernel : ∀ t : Fin grid0.N, _)

theorem at2 : ∀ t : Fin cfg0.N, win0_2.index t = ![t.val, 0] := (by decide +kernel : ∀ t : Fin grid0.N, _)

/-- The gradients by the value and by the gate. -/
def byHalf (val gate d : EReal) : Fin 2 → EReal
  | ⟨0, _⟩ => d * Ideal.logistic gate
  | ⟨1, _⟩ => d * val * Ideal.logistic gate * (1 - Ideal.logistic gate)

/-- An entry's place in its half, and the half. -/
def col (j : Fin 4096) : Fin 2048 := ⟨j.val % 2048, Nat.mod_lt _ (by norm_num)⟩

def half (j : Fin 4096) : Fin 2 := ⟨j.val / 2048, by omega⟩

def lo (j : Fin 2048) : Fin 4096 := ⟨j.val, by omega⟩

def hi (j : Fin 2048) : Fin 4096 := ⟨2048 + j.val, by omega⟩

theorem pay_eq (x0 : Vec Ideal S256x4096 .f32) (x1 : Vec Ideal S256x2048 .f32) (j : S256x4096.Idx) :
    k0_pay1 (F := Ideal) x0 x1 j
      = byHalf (x0 (ix2 (j 0) (lo (col (j 1))))) (x0 (ix2 (j 0) (hi (col (j 1))))) (x1 (ix2 (j 0) (col (j 1)))) (half (j 1)) := by
  have hj : (j 1).val < 4096 := (j 1).isLt
  have ej : Cert.KernelGluBwdIdeal.Value.ix2_0 j = ix2 (j 0) (col (j 1)) := Cert.Mm.ext2 rfl rfl
  have er : Cert.KernelGluBwdIdeal.Gen.r0_0.idx j = j := Cert.Mm.ext2 (by show 0 + 1 * (j 0).val = (j 0).val; omega) (by show 0 + 1 * (j 1).val = (j 1).val; omega)
  rw [Cert.KernelGluBwdIdeal.Value.piece2_0, er]
  rcases (by omega : (j 1).val / 2048 = 0 ∨ (j 1).val / 2048 = 1) with h | h
  · have e : half (j 1) = 0 := Fin.ext h
    have e' : Cert.KernelGluBwdIdeal.Value.csel2_0 j = 0 := Fin.ext h
    simp only [Cert.KernelGluBwdIdeal.Value.E2, e, e']
    pointwise [byHalf]
    exact Cert.Mm.mul_eq (congrArg x1 ej) rfl
  · have e : half (j 1) = 1 := Fin.ext h
    have e' : Cert.KernelGluBwdIdeal.Value.csel2_0 j = 1 := Fin.ext h
    simp only [Cert.KernelGluBwdIdeal.Value.E2, e, e']
    pointwise [byHalf]
    exact Cert.Mm.mul_eq (Cert.Mm.mul_eq (Cert.Mm.mul_eq (congrArg x1 ej) rfl) rfl) rfl

variable (m : (ℓ : Loc nD τ sig) → Buf (Elt Ideal) ℓ) (c : Dev nD)

/-- The gradient by both halves. -/
def grad (Z : Vec Ideal S8192x4096 .f32) (D : Vec Ideal S8192x2048 .f32) (i : S8192x4096.Idx) : EReal :=
  byHalf (Z (ix2 (i 0) (lo (col (i 1))))) (Z (ix2 (i 0) (hi (col (i 1))))) (D (ix2 (i 0) (col (i 1)))) (half (i 1))

theorem half_eq {a b d a' b' d' : EReal} {h h' : Fin 2} (ha : a = a') (hb : b = b') (hd : d = d') (hh : h = h') :
    byHalf a b d h = byHalf a' b' d' h' := by rw [ha, hb, hd, hh]

theorem result : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (half_eq ?_ ?_ ?_ ?_)
  · blk_simp [iblk, V]
    blk_ext [at0, at2, lo, col]
  · blk_simp [iblk, V]
    blk_ext [at0, at2, hi, col]
  · blk_simp [iblk, V]
    blk_ext [at1, at2, col]
  · blk_ext [at2, half]

open Cert.ReferenceGluBwdIdeal.Read in
theorem gate_eq (Z : Vec Ideal S8192x4096 .f32) (i : S8192x2048.Idx) : val_main_v7 (F := Ideal) Z i = Ideal.logistic (Z (ix2 (i 0) (hi (i 1)))) := by
  rw [val_main_v7_apply, val_main_v6_apply,
    val_main_v5_apply, val_main_v4_apply, val_main_v3_apply, val_main_v2_apply, val_main_v1_apply, val_main_cst_apply, val_main_cst_0_apply]
  simp only [Ideal.ofBits_def, Ideal.ofBits_one_f32]
  exact congrArg (fun z => Ideal.logistic (Z z)) (Cert.Mm.ext2 rfl rfl)

open Cert.ReferenceGluBwdIdeal.Read in
theorem reference (Z : Vec Ideal S8192x4096 .f32) (D : Vec Ideal S8192x2048 .f32) : val_main_v16 (F := Ideal) Z D = grad Z D := by
  funext i
  have hi1 : (i 1).val < 4096 := (i 1).isLt
  rw [val_main_v16_apply, val_main_v15]
  refine (concatenate_ofFn_apply (t := S8192x4096) (s₁ := S8192x2048) (1 : Fin 2)
    (fun n : Fin 2 => match n with | ⟨0, _⟩ => val_main_v13 (F := Ideal) Z D | ⟨1, _⟩ => val_main_v14 (F := Ideal) Z D) _ rfl 2048 rfl i (half (i 1)) rfl
    (ix2 (i 0) (col (i 1))) rfl (fun b hb => match b, hb with
      | ⟨0, _⟩, _ => rfl
      | ⟨1, _⟩, hb => absurd rfl hb)).trans ?_
  rcases (by omega : (i 1).val / 2048 = 0 ∨ (i 1).val / 2048 = 1) with h | h
  · have e : half (i 1) = 0 := Fin.ext h
    rw [grad, e]
    show val_main_v13 (F := Ideal) Z D _ = _
    rw [val_main_v13_apply, gate_eq]
    rfl
  · have e : half (i 1) = 1 := Fin.ext h
    rw [grad, e]
    show val_main_v14 (F := Ideal) Z D _ = _
    rw [val_main_v14_apply, val_main_v12_apply, val_main_v10_apply, val_main_v9_apply, val_main_v8_apply, val_main_v0_apply, val_main_cst_1_apply, gate_eq]
    simp only [Ideal.ofBits_def, Ideal.ofBits_one_f32]
    show _ * _ * (_ * _) = _ * _ * _ * _
    rw [← mul_assoc]
    refine Cert.Mm.mul_eq (Cert.Mm.mul_eq ((mul_comm _ _).trans (Cert.Mm.mul_eq rfl (congrArg Z (Cert.Mm.ext2 rfl rfl)))) rfl) rfl

theorem algebraic : Cert.algebraic_KernelGluBwdIdeal_ReferenceGluBwdIdeal (hKernelGluBwdIdeal := Cert.KernelGluBwdIdeal.Gen.facts)
    (hReferenceGluBwdIdeal := Cert.ReferenceGluBwdIdeal.Gen.facts) := by
  intro m ρ m' ρ' _ hargs
  refine ⟨fun c => grad (m ((c : Thread nD τ).loc main_arg0)) (m ((c : Thread nD τ).loc main_arg1)),
    (θ_run defs _ _).mono (fun r hr c => ?_) (Cert.KernelGluBwdIdeal.Value.run_blocks m ρ),
    (θ_run Cert.ReferenceGluBwdIdeal.defs _ _).mono (fun r hr c => ?_) (Cert.ReferenceGluBwdIdeal.Value.run m' ρ')⟩
  · exact ⟨(hr c).1.trans (result m c), (hr c).2⟩
  · obtain ⟨a0, a1⟩ := hargs c
    refine ⟨(hr c).1.trans ?_, (hr c).2⟩
    rw [Cert.ReferenceGluBwdIdeal.Read.val_main_v16_eq, a0, a1]
    exact reference _ _

end Cert.GluBwd

end
-- ==== Proof.MmLoss.lean ====
module

public import proofs.«01_k».proof.Defs
public import proofs.«01_k».proof.Proof.Gen.KernelLossIdeal.Value
public import proofs.«01_k».proof.Proof.Gen.ReferenceLossIdeal.Read
public import proofs.«01_k».proof.Proof.Rms

@[expose] public section

/-! The last norm and the loss, one sweep over the rows: the gradient of half the mean of squares goes back through the
norm, and the gain's gradient and the columns of squares are summed a block of rows at a time. -/

set_option maxRecDepth 16384

noncomputable section

namespace Cert.Loss

open Cert.KernelLossIdeal Cert.KernelLossIdeal.Gen Idealize.ShloMosaic Idealize.ShloMosaic.TcCoe Idealize.SL.Sem

theorem at0 : ∀ t : Fin cfg0.N, win0_0.index t = ![t.val, 0] := (by decide +kernel : ∀ t : Fin grid0.N, _)

theorem at1 : ∀ t : Fin cfg0.N, win0_1.index t = ![t.val, 0] := (by decide +kernel : ∀ t : Fin grid0.N, _)

theorem at2 : ∀ t : Fin cfg0.N, win0_2.index t = ![0, 0] := (by decide +kernel : ∀ t : Fin grid0.N, _)

theorem at3 : ∀ t : Fin cfg0.N, win0_3.index t = ![t.val, 0] := (by decide +kernel : ∀ t : Fin grid0.N, _)

theorem at4 : ∀ t : Fin cfg0.N, win0_4.index t = ![t.val, 0] := (by decide +kernel : ∀ t : Fin grid0.N, _)

theorem at5 : ∀ t : Fin cfg0.N, win0_5.index t = ![0, 0] := (by decide +kernel : ∀ t : Fin grid0.N, _)

theorem at6 : ∀ t : Fin cfg0.N, win0_6.index t = ![0, 0] := (by decide +kernel : ∀ t : Fin grid0.N, _)

/-- By how much a row's norm misses its target. -/
def miss (x g t : Fin 2048 → EReal) (k : Fin 2048) : EReal := x k * Rms.inv x * g k - t k

/-- The gradient of half the mean of the squares. -/
def slope (x g t : Fin 2048 → EReal) (k : Fin 2048) : EReal := miss x g t k * Ideal.ofBits .f32 0x3A000000#32

/-- A block of rows' gradients. -/
def part (x0 x1 : Vec Ideal S256x2048 .f32) (x2 : Vec Ideal S1x2048 .f32) (j : S256x2048.Idx) : EReal :=
  Rms.back (fun k => x0 (ix2 (j 0) k))
    (fun k => slope (fun k => x0 (ix2 (j 0) k)) (fun k => x2 (ix2 0 k)) (fun k => x1 (ix2 (j 0) k)) k * x2 (ix2 0 k)) (j 1)

/-- A block of rows' share of the gain's gradient. -/
def share (x0 x1 : Vec Ideal S256x2048 .f32) (x2 : Vec Ideal S1x2048 .f32) (j : S1x2048.Idx) : EReal :=
  ∑ r : Fin 256, slope (fun k => x0 (ix2 r k)) (fun k => x2 (ix2 0 k)) (fun k => x1 (ix2 r k)) (j 1) * x0 (ix2 r (j 1))
    * Rms.inv (fun k => x0 (ix2 r k))

/-- A block of rows' share of the squares. -/
def squares (x0 x1 : Vec Ideal S256x2048 .f32) (x2 : Vec Ideal S1x2048 .f32) (j : S1x2048.Idx) : EReal :=
  ∑ r : Fin 256, miss (fun k => x0 (ix2 r k)) (fun k => x2 (ix2 0 k)) (fun k => x1 (ix2 r k)) (j 1)
    * miss (fun k => x0 (ix2 r k)) (fun k => x2 (ix2 0 k)) (fun k => x1 (ix2 r k)) (j 1)

theorem inv_eq (x0 : Vec Ideal S256x2048 .f32) (j : S256x1.Idx) : k0_pay6 (F := Ideal) x0 j = Rms.inv (fun k => x0 (ix2 (j 0) k)) := by
  pointwise [k0_pay6]
  rfl

theorem miss_eq (x0 x1 : Vec Ideal S256x2048 .f32) (x2 : Vec Ideal S1x2048 .f32) (j : S256x2048.Idx) : k0_pay7 (F := Ideal) x0 x1 x2 j
    = miss (fun k => x0 (ix2 (j 0) k)) (fun k => x2 (ix2 0 k)) (fun k => x1 (ix2 (j 0) k)) (j 1) := by
  have e (x : Vec Ideal S256x2048 .f32) : x j = x (ix2 (j 0) (j 1)) := congrArg x (Cert.Mm.ext2 rfl rfl)
  pointwise [k0_pay7, k0_pay6]
  rw [e x0, e x1]
  rfl

theorem slope_eq (x0 x1 : Vec Ideal S256x2048 .f32) (x2 : Vec Ideal S1x2048 .f32) (j : S256x2048.Idx) : k0_pay8 (F := Ideal) x0 x1 x2 j
    = slope (fun k => x0 (ix2 (j 0) k)) (fun k => x2 (ix2 0 k)) (fun k => x1 (ix2 (j 0) k)) (j 1) :=
  congrArg (fun s => s * Ideal.ofBits .f32 0x3A000000#32) (miss_eq x0 x1 x2 j)

theorem dx_eq (x0 x1 : Vec Ideal S256x2048 .f32) (x2 : Vec Ideal S1x2048 .f32) (j : S256x2048.Idx) :
    k0_pay9 (F := Ideal) x0 x1 x2 j = part x0 x1 x2 j := by
  have e (x : Vec Ideal S256x2048 .f32) : x j = x (ix2 (j 0) (j 1)) := congrArg x (Cert.Mm.ext2 rfl rfl)
  pointwise [k0_pay9, k0_pay8, k0_pay7, k0_pay6]
  rw [e x0, e x1]
  rfl

theorem dxb_eq (x0 x1 : Vec Ideal S256x2048 .f32) (x2 : Vec Ideal S1x2048 .f32) (j : S256x2048.Idx) :
    k0_pay1 (F := Ideal) (k0_pay9 x0 x1 x2) j = part x0 x1 x2 j := dx_eq x0 x1 x2 j

theorem dg_eq (x0 x1 : Vec Ideal S256x2048 .f32) (x2 : Vec Ideal S1x2048 .f32) (j : S1x2048.Idx) :
    k0_pay10 (F := Ideal) x0 x1 x2 j = share x0 x1 x2 j := by
  pointwise [k0_pay10, k0_pay8, k0_pay7, k0_pay6]
  rfl

theorem sq_eq (x0 x1 : Vec Ideal S256x2048 .f32) (x2 : Vec Ideal S1x2048 .f32) (j : S1x2048.Idx) :
    k0_pay11 (F := Ideal) x0 x1 x2 j = squares x0 x1 x2 j := by
  pointwise [k0_pay11, k0_pay7, k0_pay6]
  rfl

theorem next_eq (v a : Vec Ideal S1x2048 .f32) (j : S1x2048.Idx) : k0_pay4 (F := Ideal) v a j = a j + v j := by
  pointwise [k0_pay4]

theorem next_eq' (v a : Vec Ideal S1x2048 .f32) (j : S1x2048.Idx) : k0_pay5 (F := Ideal) v a j = a j + v j := by
  pointwise [k0_pay5]

theorem zero_eq (j : S1x2048.Idx) : k0_pay2 (F := Ideal) j = (0 : EReal) := by
  pointwise [k0_pay2]

theorem zero_eq' (j : S1x2048.Idx) : k0_pay3 (F := Ideal) j = (0 : EReal) := by
  pointwise [k0_pay3]

variable (m : (ℓ : Loc nD τ sig) → Buf (Elt Ideal) ℓ) (c : Dev nD)

theorem dx_at (t : Fin cfg0.N) (j : S256x2048.Idx) :
    (outsAt0 m c t.val t.isLt).1 j = part (iblk m c 0 t) (iblk m c 1 t) (iblk m c 2 t) j := by
  by_cases h : t.val % 32 = 0
  · rw [outsAt0_A m c t h]
    frame_out
    rw [dx_eq]
  · rw [outsAt0_B m c t h]
    frame_out
    rw [dx_eq]

theorem dxb_at (t : Fin cfg0.N) (j : S256x2048.Idx) :
    (outsAt0 m c t.val t.isLt).2.1 j = part (iblk m c 0 t) (iblk m c 1 t) (iblk m c 2 t) j := by
  by_cases h : t.val % 32 = 0
  · rw [outsAt0_A m c t h]
    frame_out
    exact dxb_eq _ _ _ _
  · rw [outsAt0_B m c t h]
    frame_out
    exact dxb_eq _ _ _ _

theorem start5 (t : Fin cfg0.N) (h : t.val % 32 = 0) (j : S1x2048.Idx) :
    (outsAt0 m c t.val t.isLt).2.2.1 j = share (iblk m c 0 t) (iblk m c 1 t) (iblk m c 2 t) j := by
  rw [outsAt0_A m c t h]
  frame_out
  rw [next_eq, dg_eq, zero_eq, zero_add]

theorem step5 (t : Fin cfg0.N) (h : ¬t.val % 32 = 0) (j : S1x2048.Idx) : (outsAt0 m c t.val t.isLt).2.2.1 j
    = (outsAt0 m c (t.val - 1) (Nat.lt_of_le_of_lt (Nat.sub_le _ _) t.isLt)).2.2.1 j
      + share (iblk m c 0 t) (iblk m c 1 t) (iblk m c 2 t) j := by
  rw [outsAt0_B m c t h]
  frame_out
  rw [next_eq, dg_eq]

theorem start6 (t : Fin cfg0.N) (h : t.val % 32 = 0) (j : S1x2048.Idx) :
    (outsAt0 m c t.val t.isLt).2.2.2 j = squares (iblk m c 0 t) (iblk m c 1 t) (iblk m c 2 t) j := by
  rw [outsAt0_A m c t h]
  frame_out
  rw [next_eq', sq_eq, zero_eq', zero_add]

theorem step6 (t : Fin cfg0.N) (h : ¬t.val % 32 = 0) (j : S1x2048.Idx) : (outsAt0 m c t.val t.isLt).2.2.2 j
    = (outsAt0 m c (t.val - 1) (Nat.lt_of_le_of_lt (Nat.sub_le _ _) t.isLt)).2.2.2 j
      + squares (iblk m c 0 t) (iblk m c 1 t) (iblk m c 2 t) j := by
  rw [outsAt0_B m c t h]
  frame_out
  rw [next_eq', sq_eq]

/-- The input's gradient. -/
def dx (X : Vec Ideal S8192x2048 .f32) (G : Vec Ideal S1x2048 .f32) (T : Vec Ideal S8192x2048 .f32) (i : S8192x2048.Idx) : EReal :=
  Rms.back (fun k => X (ix2 (i 0) k))
    (fun k => slope (fun k => X (ix2 (i 0) k)) (fun k => G (ix2 0 k)) (fun k => T (ix2 (i 0) k)) k * G (ix2 0 k)) (i 1)

/-- The gain's gradient. -/
def dg (X : Vec Ideal S8192x2048 .f32) (G : Vec Ideal S1x2048 .f32) (T : Vec Ideal S8192x2048 .f32) (i : S1x2048.Idx) : EReal :=
  ∑ l : Fin 8192, slope (fun k => X (ix2 l k)) (fun k => G (ix2 0 k)) (fun k => T (ix2 l k)) (i 1) * X (ix2 l (i 1))
    * Rms.inv (fun k => X (ix2 l k))

/-- The columns of squares. -/
def sq (X : Vec Ideal S8192x2048 .f32) (G : Vec Ideal S1x2048 .f32) (T : Vec Ideal S8192x2048 .f32) (i : S1x2048.Idx) : EReal :=
  ∑ l : Fin 8192, miss (fun k => X (ix2 l k)) (fun k => G (ix2 0 k)) (fun k => T (ix2 l k)) (i 1)
    * miss (fun k => X (ix2 l k)) (fun k => G (ix2 0 k)) (fun k => T (ix2 l k)) (i 1)

theorem back_congr {x g t x' g' t' : Fin 2048 → EReal} {j j' : Fin 2048} (hx : ∀ k, x k = x' k) (hg : ∀ k, g k = g' k)
    (ht : ∀ k, t k = t' k) (hj : (ix2 0 j : S1x2048.Idx) = ix2 0 j') :
    Rms.back x (fun k => slope x g t k * g k) j = Rms.back x' (fun k => slope x' g' t' k * g' k) j' := by
  rw [funext hx, funext hg, funext ht, show j = j' from congrFun hj 1]

theorem miss_congr {x g t x' g' t' : Fin 2048 → EReal} {j j' : Fin 2048} (hx : ∀ k, x k = x' k) (hg : ∀ k, g k = g' k)
    (ht : ∀ k, t k = t' k) (hj : (ix2 0 j : S1x2048.Idx) = ix2 0 j') : miss x g t j = miss x' g' t' j' := by
  rw [funext hx, funext hg, funext ht, show j = j' from congrFun hj 1]

theorem share_congr {x g t x' g' t' : Fin 2048 → EReal} {j j' : Fin 2048} (hx : ∀ k, x k = x' k) (hg : ∀ k, g k = g' k)
    (ht : ∀ k, t k = t' k) (hj : (ix2 0 j : S1x2048.Idx) = ix2 0 j') :
    slope x g t j * x j * Rms.inv x = slope x' g' t' j' * x' j' * Rms.inv x' := by
  rw [funext hx, funext hg, funext ht, show j = j' from congrFun hj 1]

theorem result3 : (dats m 0 c).arrAt 3 cfg0.N = dx (m ((c : Thread nD τ).loc main_arg0)) (m ((c : Thread nD τ).loc main_arg1))
    (m ((c : Thread nD τ).loc main_arg2)) := by
  refine (dats m 0 c).arrAt_eq_of_covers 3 _ (by decide +kernel) fun t hf y => ?_
  rw [after0_3]
  refine (dx_at m c t _).trans (back_congr (fun k => ?_) (fun k => ?_) (fun k => ?_) ?_)
  · blk_simp [iblk, V]
    blk_ext [at0, at3]
  · blk_simp [iblk, V]
    blk_ext [at2, at3]
  · blk_simp [iblk, V]
    blk_ext [at1, at3]
  · blk_ext [at3]

theorem result4 : (dats m 0 c).arrAt 4 cfg0.N = dx (m ((c : Thread nD τ).loc main_arg0)) (m ((c : Thread nD τ).loc main_arg1))
    (m ((c : Thread nD τ).loc main_arg2)) := by
  refine (dats m 0 c).arrAt_eq_of_covers 4 _ (by decide +kernel) fun t hf y => ?_
  rw [after0_4]
  refine (dxb_at m c t _).trans (back_congr (fun k => ?_) (fun k => ?_) (fun k => ?_) ?_)
  · blk_simp [iblk, V]
    blk_ext [at0, at4]
  · blk_simp [iblk, V]
    blk_ext [at2, at4]
  · blk_simp [iblk, V]
    blk_ext [at1, at4]
  · blk_ext [at4]

theorem result5 : (dats m 0 c).arrAt 5 cfg0.N = dg (m ((c : Thread nD τ).loc main_arg0)) (m ((c : Thread nD τ).loc main_arg1))
    (m ((c : Thread nD τ).loc main_arg2)) := by
  refine (dats m 0 c).arrAt_eq_of_covers 5 _ (by decide +kernel) fun t hf y => ?_
  have h : t.val % 32 = 31 := (flush0_5 t).mp hf
  have ht : t.val < 32 := t.isLt
  rw [after0_5]
  refine (Cert.Mm.run_sum 32 (fun n h => (outsAt0 m c n h).2.2.1) (fun n h => (outsAt0 m c n h).2.2.1) (fun _ _ _ => 0) (fun n h => share
    (iblk m c 0 ⟨n, h⟩) (iblk m c 1 ⟨n, h⟩) (iblk m c 2 ⟨n, h⟩)) (start5 m c) (step5 m c) (fun _ _ _ => (add_zero _).symm) t h _).trans
    ((add_zero _).trans ?_)
  refine Fin.sum_mul_add_congr fun s k hl => ?_
  have e0 : 32 * (t.val / 32) + s.val = s.val := by omega
  refine share_congr (fun k' => ?_) (fun k' => ?_) (fun k' => ?_) ?_
  · blk_simp [iblk, V]
    blk_ext [at0, at5, e0]
  · blk_simp [iblk, V]
    blk_ext [at2, at5, e0]
  · blk_simp [iblk, V]
    blk_ext [at1, at5, e0]
  · blk_ext [at5]

theorem result6 : (dats m 0 c).arrAt 6 cfg0.N = sq (m ((c : Thread nD τ).loc main_arg0)) (m ((c : Thread nD τ).loc main_arg1))
    (m ((c : Thread nD τ).loc main_arg2)) := by
  refine (dats m 0 c).arrAt_eq_of_covers 6 _ (by decide +kernel) fun t hf y => ?_
  have h : t.val % 32 = 31 := (flush0_6 t).mp hf
  have ht : t.val < 32 := t.isLt
  rw [after0_6]
  refine (Cert.Mm.run_sum 32 (fun n h => (outsAt0 m c n h).2.2.2) (fun n h => (outsAt0 m c n h).2.2.2) (fun _ _ _ => 0) (fun n h => squares
    (iblk m c 0 ⟨n, h⟩) (iblk m c 1 ⟨n, h⟩) (iblk m c 2 ⟨n, h⟩)) (start6 m c) (step6 m c) (fun _ _ _ => (add_zero _).symm) t h _).trans
    ((add_zero _).trans ?_)
  refine Fin.sum_mul_add_congr fun s k hl => ?_
  have e0 : 32 * (t.val / 32) + s.val = s.val := by omega
  refine (fun h => Cert.Mm.mul_eq h h) (miss_congr (fun k' => ?_) (fun k' => ?_) (fun k' => ?_) ?_)
  · blk_simp [iblk, V]
    blk_ext [at0, at6, e0]
  · blk_simp [iblk, V]
    blk_ext [at2, at6, e0]
  · blk_simp [iblk, V]
    blk_ext [at1, at6, e0]
  · blk_ext [at6]

open Cert.ReferenceLossIdeal.Read in
theorem ref_mean (X : Vec Ideal S8192x2048 .f32) (i : Cert.ReferenceLossIdeal.S8192x1.Idx) :
    val_main_v6 (F := Ideal) X i = Rms.mean (fun k => X (ix2 (i 0) k)) := by
  rw [val_main_v6_apply, val_main_v5_apply, val_main_v4_apply, val_main_v3_apply, val_main_v2_apply, val_main_v1_apply, val_main_cst_apply,
    val_main_cst_0_apply, val_main_cst_1_apply]
  simp only [val_main_v0_apply, Ideal.ofBits_def, Ideal.ofBits_zero_f32, zero_add]
  exact Cert.Mm.add_eq (congrArg (fun s => Ideal.div s (Ideal.ofBits .f32 0x45000000#32)) (Finset.sum_congr rfl fun k _ =>
    Cert.Mm.mul_eq (congrArg X (Cert.Mm.ext2 rfl rfl)) (congrArg X (Cert.Mm.ext2 rfl rfl)))) rfl

open Cert.ReferenceLossIdeal.Read in
theorem ref_inv (X : Vec Ideal S8192x2048 .f32) (i : Cert.ReferenceLossIdeal.S8192x1.Idx) :
    val_main_v7 (F := Ideal) X i = Rms.inv (fun k => X (ix2 (i 0) k)) := by
  rw [val_main_v7_apply, ref_mean]
  rfl

open Cert.ReferenceLossIdeal.Read in
theorem ref_mean' (X : Vec Ideal S8192x2048 .f32) (i : Cert.ReferenceLossIdeal.S8192x1.Idx) :
    val_main_v56 (F := Ideal) X i = Rms.mean (fun k => X (ix2 (i 0) k)) := by
  rw [val_main_v56_apply, val_main_v55_apply, val_main_v54_apply, val_main_v53_apply, val_main_v52_apply, val_main_v51_apply, val_main_cst_15_apply,
    val_main_cst_16_apply, val_main_cst_17_apply]
  simp only [val_main_v50_apply, Ideal.ofBits_def, Ideal.ofBits_zero_f32, zero_add]
  exact Cert.Mm.add_eq (congrArg (fun s => Ideal.div s (Ideal.ofBits .f32 0x45000000#32)) (Finset.sum_congr rfl fun k _ =>
    Cert.Mm.mul_eq (congrArg X (Cert.Mm.ext2 rfl rfl)) (congrArg X (Cert.Mm.ext2 rfl rfl)))) rfl

open Cert.ReferenceLossIdeal.Read in
theorem ref_inv' (X : Vec Ideal S8192x2048 .f32) (i : Cert.ReferenceLossIdeal.S8192x1.Idx) :
    val_main_v57 (F := Ideal) X i = Rms.inv (fun k => X (ix2 (i 0) k)) := by
  rw [val_main_v57_apply, ref_mean']
  rfl

open Cert.ReferenceLossIdeal.Read in
theorem ref_miss (X : Vec Ideal S8192x2048 .f32) (G : Vec Ideal S1x2048 .f32) (T : Vec Ideal S8192x2048 .f32) (i : Cert.ReferenceLossIdeal.S8192x2048.Idx) : val_main_v15 (F := Ideal) X G T i
    = miss (fun k => X (ix2 (i 0) k)) (fun k => G (ix2 0 k)) (fun k => T (ix2 (i 0) k)) (i 1) := by
  rw [val_main_v15_apply, val_main_v14_apply, val_main_v12_apply, val_main_v11_apply, val_main_v13_apply, ref_inv]
  have e (x : Vec Ideal S8192x2048 .f32) : x i = x (ix2 (i 0) (i 1)) := congrArg x (Cert.Mm.ext2 rfl rfl)
  rw [e X, e T]
  exact congrArg (fun s => X (ix2 (i 0) (i 1)) * Rms.inv (fun k => X (ix2 (i 0) k)) * G s - T (ix2 (i 0) (i 1))) (Cert.Mm.ext2 rfl rfl)

open Cert.ReferenceLossIdeal.Read in
theorem ref_miss' (X : Vec Ideal S8192x2048 .f32) (G : Vec Ideal S1x2048 .f32) (T : Vec Ideal S8192x2048 .f32) (i : Cert.ReferenceLossIdeal.S8192x2048.Idx) : val_main_v62 (F := Ideal) X G T i
    = miss (fun k => X (ix2 (i 0) k)) (fun k => G (ix2 0 k)) (fun k => T (ix2 (i 0) k)) (i 1) := by
  rw [val_main_v62_apply, val_main_v61_apply, val_main_v59_apply, val_main_v58_apply, val_main_v60_apply, ref_inv']
  have e (x : Vec Ideal S8192x2048 .f32) : x i = x (ix2 (i 0) (i 1)) := congrArg x (Cert.Mm.ext2 rfl rfl)
  rw [e X, e T]
  exact congrArg (fun s => X (ix2 (i 0) (i 1)) * Rms.inv (fun k => X (ix2 (i 0) k)) * G s - T (ix2 (i 0) (i 1))) (Cert.Mm.ext2 rfl rfl)

theorem half_twice (d : EReal) : Ideal.div (Ideal.ofBits .f32 0x3F000000#32 * Ideal.ofBits .f32 0x3F800000#32) (Ideal.ofBits .f32 0x45000000#32)
    * (Ideal.ofBits .f32 0x40000000#32 * d) = d * Ideal.ofBits .f32 0x3A000000#32 := by
  rw [Rms.bits_half, Ideal.ofBits_one_f32, Rms.bits_len, Rms.bits_two, Rms.bits_inv_len, mul_one, Ideal.div_coe (by norm_num), ← mul_assoc,
    ← EReal.coe_mul, ← EReal.coe_mul, mul_comm]
  norm_num

open Cert.ReferenceLossIdeal.Read in
theorem ref_slope (X : Vec Ideal S8192x2048 .f32) (G : Vec Ideal S1x2048 .f32) (T : Vec Ideal S8192x2048 .f32) (i : Cert.ReferenceLossIdeal.S8192x2048.Idx) : val_main_v29 (F := Ideal) X G T i
    = slope (fun k => X (ix2 (i 0) k)) (fun k => G (ix2 0 k)) (fun k => T (ix2 (i 0) k)) (i 1) := by
  rw [val_main_v29_apply, val_main_v28_apply, val_main_v27_apply, val_main_v26_apply, val_main_cst_10_apply, val_main_v25_apply, val_main_v24_apply,
    val_main_cst_8_apply, val_main_cst_9_apply, val_main_v18_apply, val_main_v17_apply, val_main_cst_3_apply, ref_miss]
  exact half_twice _

open Cert.ReferenceLossIdeal.Read in
theorem ref_w (X : Vec Ideal S8192x2048 .f32) (G : Vec Ideal S1x2048 .f32) (T : Vec Ideal S8192x2048 .f32) (i : Cert.ReferenceLossIdeal.S8192x2048.Idx) : val_main_v34 (F := Ideal) X G T i
    = slope (fun k => X (ix2 (i 0) k)) (fun k => G (ix2 0 k)) (fun k => T (ix2 (i 0) k)) (i 1) * G (ix2 0 (i 1)) := by
  rw [val_main_v34_apply, val_main_v33_apply, ref_slope]
  exact Cert.Mm.mul_eq rfl (congrArg G (Cert.Mm.ext2 rfl rfl))

open Cert.ReferenceLossIdeal.Read in
theorem ref_term (X : Vec Ideal S8192x2048 .f32) (G : Vec Ideal S1x2048 .f32) (T : Vec Ideal S8192x2048 .f32) (l : Fin 8192) (k : Fin 2048) :
    val_main_v35 (F := Ideal) X G T (ix2 l k) = X (ix2 l k) * (slope (fun k => X (ix2 l k)) (fun k => G (ix2 0 k)) (fun k => T (ix2 l k)) k * G (ix2 0 k)) := by
  rw [val_main_v35_apply, ref_w]
  rfl

open Cert.ReferenceLossIdeal.Read in
theorem ref_through (X : Vec Ideal S8192x2048 .f32) (G : Vec Ideal S1x2048 .f32) (T : Vec Ideal S8192x2048 .f32) (i : Cert.ReferenceLossIdeal.S8192x2048.Idx) : val_main_v44 (F := Ideal) X G T i = Rms.through (fun k => X (ix2 (i 0) k))
    (fun k => slope (fun k => X (ix2 (i 0) k)) (fun k => G (ix2 0 k)) (fun k => T (ix2 (i 0) k)) k * G (ix2 0 k)) := by
  rw [val_main_v44_apply, val_main_v43_apply, val_main_cst_14_apply, Ideal.ofBits_def, Ideal.ofBits_zero_f32, zero_add, Fin.sum_univ_one,
    val_main_v42_apply, val_main_v41_apply, val_main_cst_13_apply, val_main_v40_apply, val_main_v37_apply, val_main_v36_apply, val_main_cst_12_apply,
    Ideal.ofBits_def, Ideal.ofBits_zero_f32, zero_add, val_main_v10_apply, val_main_v9_apply, val_main_cst_2_apply, val_main_v8_apply, ref_inv, ref_mean]
  have e (k : Fin 2048) : idx_main_v36 (idx_main_v37 (idx_main_v43 (idx_main_v44 i) 0)) k = ix2 (i 0) k := Cert.Mm.ext2 (by simp) rfl
  exact congrArg (fun s => Ideal.div s (Ideal.ofBits .f32 0x45000000#32)) (Cert.Mm.mul_eq (Finset.sum_congr rfl fun k _ =>
    (congrArg (val_main_v35 (F := Ideal) X G T) (e k)).trans (ref_term X G T (i 0) k)) rfl)

open Cert.ReferenceLossIdeal.Read in
theorem reference_dx (X : Vec Ideal S8192x2048 .f32) (G : Vec Ideal S1x2048 .f32) (T : Vec Ideal S8192x2048 .f32) : val_main_v48 (F := Ideal) X G T = dx X G T := by
  funext i
  rw [val_main_v48_apply, val_main_v47_apply, val_main_v46_apply, val_main_v45_apply, val_main_v39_apply, val_main_v38_apply, ref_through, ref_w,
    ref_inv]
  have e : X i = X (ix2 (i 0) (i 1)) := congrArg X (Cert.Mm.ext2 rfl rfl)
  rw [e]
  exact Rms.back_eq (fun k => X (ix2 (i 0) k))
    (fun k => slope (fun k => X (ix2 (i 0) k)) (fun k => G (ix2 0 k)) (fun k => T (ix2 (i 0) k)) k * G (ix2 0 k)) (i 1)

open Cert.ReferenceLossIdeal.Read in
theorem reference_dxb (X : Vec Ideal S8192x2048 .f32) (G : Vec Ideal S1x2048 .f32) (T : Vec Ideal S8192x2048 .f32) : val_main_v49 (F := Ideal) X G T = dx X G T := by
  funext i
  rw [val_main_v49_apply, reference_dx]
  rfl

open Cert.ReferenceLossIdeal.Read in
theorem reference_dg (X : Vec Ideal S8192x2048 .f32) (G : Vec Ideal S1x2048 .f32) (T : Vec Ideal S8192x2048 .f32) : val_main_v32 (F := Ideal) X G T = dg X G T := by
  funext i
  have h0 : (i 0).val = 0 := by have : (i 0).val < 1 := (i 0).isLt; omega
  rw [val_main_v32_apply, val_main_v31_apply, val_main_cst_11_apply, Ideal.ofBits_def, Ideal.ofBits_zero_f32, zero_add]
  refine Finset.sum_congr rfl fun l _ => ?_
  rw [val_main_v30_apply, val_main_v12_apply, val_main_v11_apply, ref_inv, ref_slope]
  have e : idx_main_v31 (idx_main_v32 i) l = ix2 l (i 1) := Cert.Mm.ext2 rfl (by show (i 0).val * 2048 + (i 1).val = (i 1).val; omega)
  rw [e]
  exact (mul_comm _ _).trans (mul_assoc _ _ _).symm

open Cert.ReferenceLossIdeal.Read in
theorem reference_sq (X : Vec Ideal S8192x2048 .f32) (G : Vec Ideal S1x2048 .f32) (T : Vec Ideal S8192x2048 .f32) : val_main_v65 (F := Ideal) X G T = sq X G T := by
  funext i
  rw [val_main_v65_apply, val_main_v64_apply, val_main_cst_18_apply, Ideal.ofBits_def, Ideal.ofBits_zero_f32, zero_add]
  refine Finset.sum_congr rfl fun l _ => ?_
  rw [val_main_v63_apply, ref_miss']
  rfl

theorem algebraic : Cert.algebraic_KernelLossIdeal_ReferenceLossIdeal (hKernelLossIdeal := Cert.KernelLossIdeal.Gen.facts)
    (hReferenceLossIdeal := Cert.ReferenceLossIdeal.Gen.facts) := by
  intro m ρ m' ρ' _ hargs
  refine ⟨fun c => dx (m ((c : Thread nD τ).loc main_arg0)) (m ((c : Thread nD τ).loc main_arg1)) (m ((c : Thread nD τ).loc main_arg2)),
    fun c => dx (m ((c : Thread nD τ).loc main_arg0)) (m ((c : Thread nD τ).loc main_arg1)) (m ((c : Thread nD τ).loc main_arg2)),
    fun c => dg (m ((c : Thread nD τ).loc main_arg0)) (m ((c : Thread nD τ).loc main_arg1)) (m ((c : Thread nD τ).loc main_arg2)),
    fun c => sq (m ((c : Thread nD τ).loc main_arg0)) (m ((c : Thread nD τ).loc main_arg1)) (m ((c : Thread nD τ).loc main_arg2)),
    (θ_run defs _ _).mono (fun r hr c => ?_) (Cert.KernelLossIdeal.Value.run_blocks m ρ),
    (θ_run Cert.ReferenceLossIdeal.defs _ _).mono (fun r hr c => ?_) (Cert.ReferenceLossIdeal.Value.run m' ρ')⟩
  · exact ⟨(hr c).1.trans (result3 m c), (hr c).2.1.trans (result4 m c), (hr c).2.2.1.trans (result5 m c), (hr c).2.2.2.1.trans (result6 m c),
      (hr c).2.2.2.2⟩
  · obtain ⟨a0, a1, a2⟩ := hargs c
    refine ⟨(hr c).1.trans ?_, (hr c).2.1.trans ?_, (hr c).2.2.1.trans ?_, (hr c).2.2.2.1.trans ?_, (hr c).2.2.2.2⟩
    · rw [Cert.ReferenceLossIdeal.Read.val_main_v48_eq, a0, a1, a2]
      exact reference_dx _ _ _
    · rw [Cert.ReferenceLossIdeal.Read.val_main_v49_eq, a0, a1, a2]
      exact reference_dxb _ _ _
    · rw [Cert.ReferenceLossIdeal.Read.val_main_v32_eq, a0, a1, a2]
      exact reference_dg _ _ _
    · rw [Cert.ReferenceLossIdeal.Read.val_main_v65_eq, a0, a1, a2]
      exact reference_sq _ _ _

end Cert.Loss

end
-- ==== Proof.MmNorm.lean ====
module

public import proofs.«01_k».proof.Defs
public import proofs.«01_k».proof.Proof.Gen.KernelNormIdeal.Value
public import proofs.«01_k».proof.Proof.Gen.ReferenceNormIdeal.Read
public import proofs.«01_k».proof.Proof.Rms

@[expose] public section

/-! The norm of every row: a block of rows at a time it is the reference's. -/

set_option maxRecDepth 16384

noncomputable section

namespace Cert.Norm

open Cert.KernelNormIdeal Cert.KernelNormIdeal.Gen Idealize.ShloMosaic Idealize.ShloMosaic.TcCoe Idealize.SL.Sem

theorem at0 : ∀ t : Fin cfg0.N, win0_0.index t = ![t.val, 0] := (by decide +kernel : ∀ t : Fin grid0.N, _)

theorem at1 : ∀ t : Fin cfg0.N, win0_1.index t = ![0, 0] := (by decide +kernel : ∀ t : Fin grid0.N, _)

theorem at2 : ∀ t : Fin cfg0.N, win0_2.index t = ![t.val, 0] := (by decide +kernel : ∀ t : Fin grid0.N, _)

theorem pay_eq (x0 : Vec Ideal S512x2048 .f32) (x1 : Vec Ideal S1x2048 .f32) (j : S512x2048.Idx) :
    k0_pay1 (F := Ideal) x0 x1 j = x0 (ix2 (j 0) (j 1)) * Rms.inv (fun k => x0 (ix2 (j 0) k)) * x1 (ix2 0 (j 1)) := by
  pointwise [k0_pay1]
  rfl

variable (m : (ℓ : Loc nD τ sig) → Buf (Elt Ideal) ℓ) (c : Dev nD)

/-- The rows' norms. -/
def norm (X : Vec Ideal S8192x2048 .f32) (G : Vec Ideal S1x2048 .f32) (i : S8192x2048.Idx) : EReal :=
  X (ix2 (i 0) (i 1)) * Rms.inv (fun k => X (ix2 (i 0) k)) * G (ix2 0 (i 1))

theorem result : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (Cert.Mm.mul_eq (Cert.Mm.mul_eq ?_ (congrArg Rms.inv (funext fun k => ?_))) ?_)
  · blk_simp [iblk, V]
    blk_ext [at0, at2]
  · blk_simp [iblk, V]
    blk_ext [at0, at2]
  · blk_simp [iblk, V]
    blk_ext [at1, at2]

open Cert.ReferenceNormIdeal.Read in
theorem reference (X : Vec Ideal S8192x2048 .f32) (G : Vec Ideal S1x2048 .f32) : val_main_v12 (F := Ideal) X G = norm X G := by
  funext i
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_cst_apply, val_main_cst_0_apply,
    val_main_cst_1_apply]
  simp only [val_main_v0_apply, Ideal.ofBits_def, Ideal.ofBits_zero_f32, zero_add]
  refine Cert.Mm.mul_eq (Cert.Mm.mul_eq (congrArg X (Cert.Mm.ext2 rfl rfl)) ?_) (congrArg G (Cert.Mm.ext2 rfl rfl))
  refine congrArg Ideal.rsqrt (Cert.Mm.add_eq (congrArg (fun s => Ideal.div s (Ideal.ofBits .f32 0x45000000#32)) (Finset.sum_congr rfl fun k _ => Cert.Mm.mul_eq (congrArg X (Cert.Mm.ext2 rfl rfl)) (congrArg X (Cert.Mm.ext2 rfl rfl)))) rfl)

theorem algebraic : Cert.algebraic_KernelNormIdeal_ReferenceNormIdeal (hKernelNormIdeal := Cert.KernelNormIdeal.Gen.facts)
    (hReferenceNormIdeal := Cert.ReferenceNormIdeal.Gen.facts) := by
  intro m ρ m' ρ' _ hargs
  refine ⟨fun c => norm (m ((c : Thread nD τ).loc main_arg0)) (m ((c : Thread nD τ).loc main_arg1)),
    (θ_run defs _ _).mono (fun r hr c => ?_) (Cert.KernelNormIdeal.Value.run_blocks m ρ),
    (θ_run Cert.ReferenceNormIdeal.defs _ _).mono (fun r hr c => ?_) (Cert.ReferenceNormIdeal.Value.run m' ρ')⟩
  · exact ⟨(hr c).1.trans (result m c), (hr c).2⟩
  · obtain ⟨a0, a1⟩ := hargs c
    refine ⟨(hr c).1.trans ?_, (hr c).2⟩
    rw [Cert.ReferenceNormIdeal.Read.val_main_v12_eq, a0, a1]
    exact reference _ _

end Cert.Norm

end
-- ==== Proof.MmGluFwd.lean ====
module

public import proofs.«01_k».proof.Defs
public import proofs.«01_k».proof.Proof.Gen.KernelGluFwdIdeal.Value
public import proofs.«01_k».proof.Proof.Gen.ReferenceGluFwdIdeal.Read
public import proofs.«01_k».proof.Proof.Rms

@[expose] public section

/-! The gate between the scan's products and the layer's sum: a block of rows at a time it is the reference's. -/

set_option maxRecDepth 16384

noncomputable section

namespace Cert.GluFwd

open Cert.KernelGluFwdIdeal Cert.KernelGluFwdIdeal.Gen Idealize.ShloMosaic Idealize.ShloMosaic.TcCoe Idealize.SL.Sem

theorem at0 : ∀ t : Fin cfg0.N, win0_0.index t = ![t.val, 0] := (by decide +kernel : ∀ t : Fin grid0.N, _)

theorem at1 : ∀ t : Fin cfg0.N, win0_1.index t = ![t.val, 0] := (by decide +kernel : ∀ t : Fin grid0.N, _)

theorem at2 : ∀ t : Fin cfg0.N, win0_2.index t = ![t.val, 0] := (by decide +kernel : ∀ t : Fin grid0.N, _)

/-- The value's and the gate's places of an entry. -/
def lo (j : Fin 2048) : Fin 4096 := ⟨j.val, by omega⟩

def hi (j : Fin 2048) : Fin 4096 := ⟨2048 + j.val, by omega⟩

theorem pay_eq (x0 : Vec Ideal S256x4096 .f32) (x1 : Vec Ideal S256x2048 .f32) (j : S256x2048.Idx) :
    k0_pay1 (F := Ideal) x0 x1 j = x1 (ix2 (j 0) (j 1)) + x0 (ix2 (j 0) (lo (j 1))) * Ideal.logistic (x0 (ix2 (j 0) (hi (j 1)))) := by
  pointwise [k0_pay1]
  rfl

variable (m : (ℓ : Loc nD τ sig) → Buf (Elt Ideal) ℓ) (c : Dev nD)

/-- The layer's sum. -/
def gated (Z : Vec Ideal S8192x4096 .f32) (X : Vec Ideal S8192x2048 .f32) (i : S8192x2048.Idx) : EReal :=
  X (ix2 (i 0) (i 1)) + Z (ix2 (i 0) (lo (i 1))) * Ideal.logistic (Z (ix2 (i 0) (hi (i 1))))

theorem result : (dats m 0 c).arrAt 2 cfg0.N = gated (m ((c : Thread nD τ).loc main_arg0)) (m ((c : Thread nD τ).loc main_arg1)) := by
  refine (dats m 0 c).arrAt_eq_of_covers 2 _ (by decide +kernel) fun t hf y => ?_
  rw [after0_2]
  frame_out
  refine (pay_eq _ _ _).trans (Cert.Mm.add_eq ?_ (Cert.Mm.mul_eq ?_ (congrArg Ideal.logistic ?_)))
  · blk_simp [iblk, V]
    blk_ext [at1, at2]
  · blk_simp [iblk, V]
    blk_ext [at0, at2, lo]
  · blk_simp [iblk, V]
    blk_ext [at0, at2, hi]

open Cert.ReferenceGluFwdIdeal.Read in
theorem reference (Z : Vec Ideal S8192x4096 .f32) (X : Vec Ideal S8192x2048 .f32) : val_main_v9 (F := Ideal) Z X = gated Z X := by
  funext i
  rw [val_main_v9_apply, val_main_v8_apply, val_main_v7_apply, val_main_v6_apply,
    val_main_v5_apply, val_main_v4_apply, val_main_v3_apply, val_main_v2_apply, val_main_v1_apply, val_main_v0_apply, val_main_cst_apply, val_main_cst_0_apply]
  simp only [Ideal.ofBits_def, Ideal.ofBits_one_f32]
  exact Cert.Mm.add_eq (congrArg X (Cert.Mm.ext2 rfl rfl)) (Cert.Mm.mul_eq (congrArg Z (Cert.Mm.ext2 rfl rfl)) (congrArg (fun z => Ideal.logistic (Z z)) (Cert.Mm.ext2 rfl rfl)))

theorem algebraic : Cert.algebraic_KernelGluFwdIdeal_ReferenceGluFwdIdeal (hKernelGluFwdIdeal := Cert.KernelGluFwdIdeal.Gen.facts)
    (hReferenceGluFwdIdeal := Cert.ReferenceGluFwdIdeal.Gen.facts) := by
  intro m ρ m' ρ' _ hargs
  refine ⟨fun c => gated (m ((c : Thread nD τ).loc main_arg0)) (m ((c : Thread nD τ).loc main_arg1)),
    (θ_run defs _ _).mono (fun r hr c => ?_) (Cert.KernelGluFwdIdeal.Value.run_blocks m ρ),
    (θ_run Cert.ReferenceGluFwdIdeal.defs _ _).mono (fun r hr c => ?_) (Cert.ReferenceGluFwdIdeal.Value.run m' ρ')⟩
  · exact ⟨(hr c).1.trans (result m c), (hr c).2⟩
  · obtain ⟨a0, a1⟩ := hargs c
    refine ⟨(hr c).1.trans ?_, (hr c).2⟩
    rw [Cert.ReferenceGluFwdIdeal.Read.val_main_v9_eq, a0, a1]
    exact reference _ _

end Cert.GluFwd

end
-- ==== Proof.MmConv.lean ====
module

public import proofs.«01_k».proof.Defs
public import proofs.«01_k».proof.Proof.Gen.KernelConvIdeal.Value
public import proofs.«01_k».proof.Proof.Gen.ReferenceConvIdeal.Read
public import proofs.«01_k».proof.Proof.Mm

@[expose] public section

/-! The convolution with its gate: a block of rows takes the two rows before it from a window of its own, which the first
block multiplies by zero. -/

set_option maxRecDepth 16384

noncomputable section

namespace Cert.Conv

open Cert.KernelConvIdeal Cert.KernelConvIdeal.Gen Idealize.ShloMosaic Idealize.ShloMosaic.TcCoe Idealize.SL.Sem

theorem at0 : ∀ t : Fin cfg0.N, win0_0.index t = ![t.val % 32, t.val / 32] := (by decide +kernel : ∀ t : Fin grid0.N, _)

theorem at1 : ∀ t : Fin cfg0.N, win0_1.index t = ![t.val % 32, t.val / 32 + 11] := (by decide +kernel : ∀ t : Fin grid0.N, _)

theorem at2 : ∀ t : Fin cfg0.N, win0_2.index t = ![16 * (t.val % 32) - 1, t.val / 32] := (by decide +kernel : ∀ t : Fin grid0.N, _)

theorem at3 : ∀ t : Fin cfg0.N, win0_3.index t = ![0, t.val / 32] := (by decide +kernel : ∀ t : Fin grid0.N, _)

theorem at4 : ∀ t : Fin cfg0.N, win0_4.index t = ![0, t.val / 32] := (by decide +kernel : ∀ t : Fin grid0.N, _)

theorem at5 : ∀ t : Fin cfg0.N, win0_5.index t = ![t.val % 32, t.val / 32] := (by decide +kernel : ∀ t : Fin grid0.N, _)

theorem block : ∀ t : Fin cfg0.N, (grid0.coords t 1).val = t.val % 32 := (by decide +kernel : ∀ t : Fin grid0.N, _)

theorem positive : ∀ n : Fin 32, Scalar.cmpi .sgt (BitVec.ofNat 32 n.val) 0#32 = if n.val = 0 then 0#1 else 1#1 := by decide

theorem live (i : grid0.Coords) : k0_pay3 (F := Ideal) i = if (i 1).val = 0 then (0 : EReal) else 1 := by
  unfold k0_pay3
  dsimp only
  rw [positive (i 1)]
  split
  · show (((((0#32 : BitVec 32).toInt : ℤ) : ℝ)) : EReal) = 0
    simp
  · show (((((1#32 : BitVec 32).toInt : ℤ) : ℝ)) : EReal) = 1
    simp

theorem pick {α : Type} (k n : Nat) (hk : k < 4294967296) (hn : n < 4294967296) (a b : α) :
    Scalar.select (IntOp.cmpi CmpIPredicate.eq (BitVec.ofNat 32 n) (BitVec.ofNat 32 k)) a b = if n = k then a else b := by
  by_cases h : n = k
  · subst h
    simp [Scalar.select, IntOp.cmpi]
  · have e : BitVec.ofNat 32 n ≠ BitVec.ofNat 32 k := fun e => h (by
      have := congrArg BitVec.toNat e
      rwa [BitVec.toNat_ofNat, BitVec.toNat_ofNat, Nat.mod_eq_of_lt hn, Nat.mod_eq_of_lt hk] at this)
    simp [Scalar.select, IntOp.cmpi, h, beq_eq_false_iff_ne.mpr e]

theorem pick_row (k : Fin 16) (f : Fin 16 → EReal) :
    (∑ r : Fin 16, Scalar.select (IntOp.cmpi CmpIPredicate.eq (BitVec.ofNat 32 r.val) (BitVec.ofNat 32 k.val)) (f r) 0) = f k := by
  rw [Finset.sum_eq_single k]
  · rw [pick k.val k.val (by omega) (by omega), if_pos rfl]
  · intro r _ h
    rw [pick k.val r.val (by omega) (by omega), if_neg fun e => h (Fin.ext e)]
  · intro h
    exact absurd (Finset.mem_univ k) h

theorem halo (i : grid0.Coords) (x : Vec Ideal S16x512 .bf16) (j : S1x512.Idx) :
    k0_pay4 (F := Ideal) i x j = x (ix2 15 (j 1)) * (k0_pay3 (F := Ideal) i : EReal) := by
  pointwise [k0_pay4, k0_pay2]
  exact congrArg (fun s : EReal => s * (k0_pay3 (F := Ideal) i : EReal)) (pick_row 15 fun r => x (ix2 r (j 1)))

theorem one_back (i : grid0.Coords) (x : Vec Ideal S16x512 .bf16) (g : Vec Ideal S256x512 .bf16) (j : S256x512.Idx) :
    k0_pay6 (F := Ideal) i x g j = if (j 0).val = 0 then x (ix2 15 (j 1)) * (k0_pay3 (F := Ideal) i : EReal)
      else g (ix2 ⟨((j 0).val + 256 - 1) % 256, Nat.mod_lt _ (by decide)⟩ (j 1)) := by
  have h : (j 0).val < 256 := (j 0).isLt
  pointwise [k0_pay6, k0_pay5]
  rw [pick 0 (j 0).val (by omega) (by omega), halo]
  rfl

theorem two_back (i : grid0.Coords) (x : Vec Ideal S16x512 .bf16) (g : Vec Ideal S256x512 .bf16) (j : S256x512.Idx) :
    k0_pay7 (F := Ideal) i x g j = if (j 0).val = 0 then x (ix2 14 (j 1)) * (k0_pay3 (F := Ideal) i : EReal)
      else if (j 0).val = 1 then x (ix2 15 (j 1)) * (k0_pay3 (F := Ideal) i : EReal)
      else g (ix2 ⟨((j 0).val + 256 - 2) % 256, Nat.mod_lt _ (by decide)⟩ (j 1)) := by
  have h : (j 0).val < 256 := (j 0).isLt
  pointwise [k0_pay7, k0_pay2, k0_pay5]
  rw [pick 0 (j 0).val (by omega) (by omega), pick 1 (j 0).val (by omega) (by omega), halo]
  refine congrArg (fun s : EReal => if (j 0).val = 0 then s * (k0_pay3 (F := Ideal) i : EReal) else _) (pick_row 14 fun r => x (ix2 r (j 1)))

/-- The gate's activation. -/
def gelu (x : EReal) : EReal := Ideal.ofBits .f32 0x3F000000#32 * x
  * (1 + Ideal.tanh (Ideal.ofBits .f32 0x3F4C422A#32 * (x + Ideal.ofBits .f32 0x3D372713#32 * x * x * x)))

/-- Three rows, each with its weight, and a bias. -/
def mix (w0 w1 w2 b p2 p1 p0 : EReal) : EReal := w0 * p2 + w1 * p1 + w2 * p0 + b

theorem act (a b c : Vec Ideal S256x512 .f32) (w0 w1 w2 w3 : Vec Ideal S1x512 .f32) (v : Vec Ideal S256x512 .bf16) (j : S256x512.Idx) :
    k0_pay1 (F := Ideal) a b c w0 w1 w2 w3 v j
      = gelu (mix (w0 (ix2 0 (j 1))) (w1 (ix2 0 (j 1))) (w2 (ix2 0 (j 1))) (w3 (ix2 0 (j 1))) (c j) (b j) (a j)) * v j := by
  pointwise [k0_pay1]
  rfl

variable (m : (ℓ : Loc nD τ sig) → Buf (Elt Ideal) ℓ) (c : Dev nD)

/-- The gate's row `d` rows before, zero before the first. -/
def past (U : Vec Ideal S8192x11264 .bf16) (d : Nat) (i : S8192x5632.Idx) : EReal :=
  if d ≤ (i 0).val then U (ix2 ⟨(i 0).val - d, by have : (i 0).val < 8192 := (i 0).isLt; omega⟩
    ⟨(i 1).val, by have : (i 1).val < 5632 := (i 1).isLt; omega⟩) else 0

/-- The convolution with its gate. -/
def conv (U : Vec Ideal S8192x11264 .bf16) (W : Vec Ideal S3x5632 .f32) (B : Vec Ideal S1x5632 .f32) (i : S8192x5632.Idx) : EReal :=
  gelu (mix (W (ix2 0 (i 1))) (W (ix2 1 (i 1))) (W (ix2 2 (i 1))) (B (ix2 0 (i 1))) (past U 2 i) (past U 1 i) (past U 0 i))
    * U (ix2 (i 0) ⟨(i 1).val + 5632, by have : (i 1).val < 5632 := (i 1).isLt; omega⟩)

theorem read0 (t : Fin cfg0.N) (a : Fin 256) (b : Fin 512) (r : Fin 8192) (k : Fin 11264) (hr : r.val = t.val % 32 * 256 + a.val)
    (hk : k.val = t.val / 32 * 512 + b.val) : iblk m c 0 t (ix2 a b) = m ((c : Thread nD τ).loc main_arg0) (ix2 r k) := by
  blk_simp [iblk, V]
  blk_ext [at0]

theorem read2 (t : Fin cfg0.N) (a : Fin 16) (b : Fin 512) (r : Fin 8192) (k : Fin 11264) (hr : r.val = (16 * (t.val % 32) - 1) * 16 + a.val)
    (hk : k.val = t.val / 32 * 512 + b.val) : iblk m c 2 t (ix2 a b) = m ((c : Thread nD τ).loc main_arg0) (ix2 r k) := by
  blk_simp [iblk, V]
  blk_ext [at2]

theorem read3 (t : Fin cfg0.N) (a : Fin 3) (b : Fin 512) (k : Fin 5632) (hk : k.val = t.val / 32 * 512 + b.val) :
    iblk m c 3 t (ix2 a b) = m ((c : Thread nD τ).loc main_arg1) (ix2 a k) := by
  blk_simp [iblk, V]
  blk_ext [at3]

theorem row0 (x : Vec Ideal S3x512 .f32) (k : Fin 512) : View.ld x r0_2 (ix2 0 k) = x (ix2 0 k) :=
  congrArg x (Cert.Mm.ext2 (i := r0_2.idx (ix2 0 k)) rfl (by show 0 + 1 * k.val = k.val; omega))

theorem row1 (x : Vec Ideal S3x512 .f32) (k : Fin 512) : View.ld x r0_3 (ix2 0 k) = x (ix2 1 k) :=
  congrArg x (Cert.Mm.ext2 (i := r0_3.idx (ix2 0 k)) rfl (by show 0 + 1 * k.val = k.val; omega))

theorem row2 (x : Vec Ideal S3x512 .f32) (k : Fin 512) : View.ld x r0_4 (ix2 0 k) = x (ix2 2 k) :=
  congrArg x (Cert.Mm.ext2 (i := r0_4.idx (ix2 0 k)) rfl (by show 0 + 1 * k.val = k.val; omega))

theorem two_at (t : Fin cfg0.N) (j : S256x512.Idx) (i : S8192x5632.Idx) (h0 : (i 0).val = t.val % 32 * 256 + (j 0).val)
    (h1 : (i 1).val = t.val / 32 * 512 + (j 1).val) : k0_pay7 (F := Ideal) (grid0.coords t) (iblk m c 2 t) (iblk m c 0 t) j
      = past (m ((c : Thread nD τ).loc main_arg0)) 2 i := by
  have hj : (j 0).val < 256 := (j 0).isLt
  rw [two_back, live, block, past]
  by_cases a : (j 0).val = 0
  · rw [if_pos a]
    by_cases l : t.val % 32 = 0
    · rw [if_pos l, mul_zero, if_neg (by omega)]
    · rw [if_neg l, mul_one, if_pos (by omega)]
      exact read2 m c t 14 (j 1) _ _ (by show (i 0).val - 2 = (16 * (t.val % 32) - 1) * 16 + 14; omega) h1
  · rw [if_neg a]
    by_cases b : (j 0).val = 1
    · rw [if_pos b]
      by_cases l : t.val % 32 = 0
      · rw [if_pos l, mul_zero, if_neg (by omega)]
      · rw [if_neg l, mul_one, if_pos (by omega)]
        exact read2 m c t 15 (j 1) _ _ (by show (i 0).val - 2 = (16 * (t.val % 32) - 1) * 16 + 15; omega) h1
    · rw [if_neg b, if_pos (by omega)]
      exact read0 m c t _ (j 1) _ _ (by show (i 0).val - 2 = t.val % 32 * 256 + ((j 0).val + 256 - 2) % 256; omega) h1

theorem one_at (t : Fin cfg0.N) (j : S256x512.Idx) (i : S8192x5632.Idx) (h0 : (i 0).val = t.val % 32 * 256 + (j 0).val)
    (h1 : (i 1).val = t.val / 32 * 512 + (j 1).val) : k0_pay6 (F := Ideal) (grid0.coords t) (iblk m c 2 t) (iblk m c 0 t) j
      = past (m ((c : Thread nD τ).loc main_arg0)) 1 i := by
  have hj : (j 0).val < 256 := (j 0).isLt
  rw [one_back, live, block, past]
  by_cases a : (j 0).val = 0
  · rw [if_pos a]
    by_cases l : t.val % 32 = 0
    · rw [if_pos l, mul_zero, if_neg (by omega)]
    · rw [if_neg l, mul_one, if_pos (by omega)]
      exact read2 m c t 15 (j 1) _ _ (by show (i 0).val - 1 = (16 * (t.val % 32) - 1) * 16 + 15; omega) h1
  · rw [if_neg a, if_pos (by omega)]
    exact read0 m c t _ (j 1) _ _ (by show (i 0).val - 1 = t.val % 32 * 256 + ((j 0).val + 256 - 1) % 256; omega) h1

theorem here (t : Fin cfg0.N) (j : S256x512.Idx) (i : S8192x5632.Idx) (h0 : (i 0).val = t.val % 32 * 256 + (j 0).val)
    (h1 : (i 1).val = t.val / 32 * 512 + (j 1).val) : k0_pay5 (F := Ideal) (iblk m c 0 t) j = past (m ((c : Thread nD τ).loc main_arg0)) 0 i := by
  rw [past, if_pos (Nat.zero_le _), show j = ix2 (j 0) (j 1) from Cert.Mm.ext2 rfl rfl]
  exact read0 m c t _ _ _ _ h0 h1

theorem mix_congr {w0 w1 w2 b p2 p1 p0 w0' w1' w2' b' p2' p1' p0' : EReal} (h0 : w0 = w0') (h1 : w1 = w1') (h2 : w2 = w2') (hb : b = b')
    (g2 : p2 = p2') (g1 : p1 = p1') (g0 : p0 = p0') : mix w0 w1 w2 b p2 p1 p0 = mix w0' w1' w2' b' p2' p1' p0' := by
  rw [h0, h1, h2, hb, g2, g1, g0]

theorem result : (dats m 0 c).arrAt 5 cfg0.N = conv (m ((c : Thread nD τ).loc main_arg0)) (m ((c : Thread nD τ).loc main_arg1))
    (m ((c : Thread nD τ).loc main_arg2)) := by
  refine (dats m 0 c).arrAt_eq_of_covers 5 _ (by decide +kernel) fun t hf y => ?_
  rw [after0_5]
  unfold out0_5
  frame_out
  have h0 : ((((cfg0.win 5).blk t).view.emb y) 0).val = t.val % 32 * 256 + (((cfg0.win 5).xinj (grid0.coords t) y) 0).val := by
    blk_simp [at5]
  have h1 : ((((cfg0.win 5).blk t).view.emb y) 1).val = t.val / 32 * 512 + (((cfg0.win 5).xinj (grid0.coords t) y) 1).val := by
    blk_simp [at5]
  refine (cast_eq _ _).trans ((act _ _ _ _ _ _ _ _ _).trans (Cert.Mm.mul_eq (congrArg gelu (mix_congr ?_ ?_ ?_ ?_
    (two_at m c t _ _ h0 h1) (one_at m c t _ _ h0 h1) (here m c t _ _ h0 h1))) ?_))
  · exact (row0 _ _).trans (read3 m c t 0 _ _ h1)
  · exact (row1 _ _).trans (read3 m c t 1 _ _ h1)
  · exact (row2 _ _).trans (read3 m c t 2 _ _ h1)
  · blk_simp [iblk, V]
    blk_ext [at4, at5]
  · blk_simp [iblk, V]
    blk_ext [at1, at5]

open Cert.ReferenceConvIdeal.Read in
/-- The padded gate, read at a row of its own. -/
theorem padded (U : Vec Ideal S8192x11264 .bf16) (d : Nat) (hd : d ≤ 2) (i : S8192x5632.Idx) (k : Cert.ReferenceConvIdeal.S8194x5632.Idx)
    (h0 : (k 0).val + d = (i 0).val + 2) (h1 : (k 1).val = (i 1).val) : val_main_v4 (F := Ideal) U k = past U d i := by
  unfold val_main_v4
  have hi : (i 0).val < 8192 := (i 0).isLt
  have hi1 : (i 1).val < 5632 := (i 1).isLt
  rw [past]
  by_cases h : d ≤ (i 0).val
  · rw [if_pos h]
    refine (concatenate_pair_apply_right 0 (val_main_v3 (F := Ideal)) (val_main_v1 (F := Ideal) U) _ k rfl rfl (ix2 ⟨(i 0).val - d, by omega⟩ ⟨(i 1).val, by omega⟩) (fun b hb => ?_) ?_).trans ?_
    · fin_cases b
      · exact absurd rfl hb
      · exact h1.symm
    · show (i 0).val - d + 2 = (k 0).val
      omega
    · rw [val_main_v1_apply, val_main_v0_apply]
      exact congrArg U (Cert.Mm.ext2 rfl rfl)
  · rw [if_neg h]
    refine (concatenate_pair_apply_left 0 (val_main_v3 (F := Ideal)) (val_main_v1 (F := Ideal) U) _ k rfl (ix2 ⟨(k 0).val, by omega⟩ ⟨(k 1).val, by omega⟩) (fun b => ?_)).trans ?_
    · fin_cases b <;> rfl
    · rw [val_main_v3_apply, val_main_cst_apply, Ideal.ofBits_def, Ideal.ofBits_zero_f32]

theorem gelu_eq (x : EReal) : x * (Ideal.ofBits .f32 0x3F000000#32 * (Ideal.ofBits .f32 0x3F800000#32
    + Ideal.tanh (Ideal.ofBits .f32 0x3F4C422A#32 * (x + Ideal.ofBits .f32 0x3D372713#32 * (x * x * x))))) = gelu x := by
  rw [gelu, Ideal.ofBits_one_f32, mul_assoc x x x, ← mul_assoc (Ideal.ofBits .f32 0x3D372713#32) x (x * x), ← mul_assoc _ x x, ← mul_assoc x,
    mul_comm x]

open Cert.ReferenceConvIdeal.Read in
theorem ref_mix (U : Vec Ideal S8192x11264 .bf16) (W : Vec Ideal S3x5632 .f32) (B : Vec Ideal S1x5632 .f32) (i : S8192x5632.Idx) :
    val_main_v28 (F := Ideal) U W B i
      = mix (W (ix2 0 (i 1))) (W (ix2 1 (i 1))) (W (ix2 2 (i 1))) (B (ix2 0 (i 1))) (past U 2 i) (past U 1 i) (past U 0 i) := by
  rw [val_main_v28_apply, val_main_v27_apply, val_main_v26_apply, val_main_v25_apply, val_main_v24_apply, val_main_v23_apply, val_main_v22_apply,
    val_main_v21_apply, val_main_v20_apply, val_main_v19_apply, val_main_v18_apply, val_main_v17_apply, val_main_v16_apply, val_main_v15_apply,
    val_main_v14_apply, val_main_v13_apply, val_main_v12_apply, val_main_v11_apply, val_main_cst_0_apply, val_main_v10_apply, val_main_v9_apply,
    val_main_v8_apply, val_main_v7_apply, val_main_v6_apply, val_main_v5_apply]
  rw [padded U 2 (by omega) i _ rfl rfl, padded U 1 (by omega) i _ (by show 1 + (i 0).val + 1 = (i 0).val + 2; omega) rfl,
    padded U 0 (by omega) i _ (by show 2 + (i 0).val + 0 = (i 0).val + 2; omega) rfl, Ideal.ofBits_def, Ideal.ofBits_zero_f32]
  refine Eq.trans (congrArg (fun s : EReal => s + _ + _ + _) (zero_add _)) (mix_congr ?_ ?_ ?_ ?_ rfl rfl rfl)
  · exact congrArg W (Cert.Mm.ext2 rfl (Nat.mod_eq_of_lt (i 1).isLt))
  · exact congrArg W (Cert.Mm.ext2 rfl (Nat.mod_eq_of_lt (i 1).isLt))
  · exact congrArg W (Cert.Mm.ext2 rfl (Nat.mod_eq_of_lt (i 1).isLt))
  · exact congrArg B (Cert.Mm.ext2 rfl rfl)

open Cert.ReferenceConvIdeal.Read in
theorem reference (U : Vec Ideal S8192x11264 .bf16) (W : Vec Ideal S3x5632 .f32) (B : Vec Ideal S1x5632 .f32) :
    val_main_v43 (F := Ideal) U W B = conv U W B := by
  funext i
  rw [val_main_v43_apply, val_main_v42_apply, val_main_v41_apply, val_main_v40_apply, val_main_v39_apply, val_main_cst_4_apply, val_main_v38_apply,
    val_main_v37_apply, val_main_cst_3_apply, val_main_v36_apply, val_main_v35_apply, val_main_v34_apply, val_main_cst_2_apply, val_main_v33_apply,
    val_main_v32_apply, val_main_v31_apply, val_main_cst_1_apply, val_main_v30_apply, val_main_v29_apply, val_main_v2_apply, val_main_v0_apply, ref_mix]
  refine Cert.Mm.mul_eq (gelu_eq _) (congrArg U (Cert.Mm.ext2 rfl ?_))
  show 5632 + (i 1).val = (i 1).val + 5632
  omega

theorem algebraic : Cert.algebraic_KernelConvIdeal_ReferenceConvIdeal (hKernelConvIdeal := Cert.KernelConvIdeal.Gen.facts)
    (hReferenceConvIdeal := Cert.ReferenceConvIdeal.Gen.facts) := by
  intro m ρ m' ρ' _ hargs
  refine ⟨fun c => conv (m ((c : Thread nD τ).loc main_arg0)) (m ((c : Thread nD τ).loc main_arg1)) (m ((c : Thread nD τ).loc main_arg2)),
    (θ_run defs _ _).mono (fun r hr c => ?_) (Cert.KernelConvIdeal.Value.run_blocks m ρ),
    (θ_run Cert.ReferenceConvIdeal.defs _ _).mono (fun r hr c => ?_) (Cert.ReferenceConvIdeal.Value.run m' ρ')⟩
  · exact ⟨(hr c).1.trans (result m c), (hr c).2⟩
  · obtain ⟨a0, a1, a2⟩ := hargs c
    refine ⟨(hr c).1.trans ?_, (hr c).2⟩
    rw [Cert.ReferenceConvIdeal.Read.val_main_v43_eq, a0, a1, a2]
    exact reference _ _ _

end Cert.Conv

end
-- ==== Proof.lean ====
/- The proof of the certificate's claim: the frames, the named constant, and the value claim. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_all_finite
public import proofs.«01_k».proof.Proof.Value
public import proofs.«01_k».proof.Proof.Gen.KernelDwUp
public import proofs.«01_k».proof.Proof.Gen.KernelDwUp.Frame
public import proofs.«01_k».proof.Proof.MmDwUp
public import proofs.«01_k».proof.Proof.Gen.KernelDh
public import proofs.«01_k».proof.Proof.Gen.KernelDh.Frame
public import proofs.«01_k».proof.Proof.MmDh
public import proofs.«01_k».proof.Proof.Gen.KernelDwDown
public import proofs.«01_k».proof.Proof.Gen.KernelDwDown.Frame
public import proofs.«01_k».proof.Proof.MmDwDown
public import proofs.«01_k».proof.Proof.Gen.KernelDa
public import proofs.«01_k».proof.Proof.Gen.KernelDa.Frame
public import proofs.«01_k».proof.Proof.MmDa
public import proofs.«01_k».proof.Proof.Gen.KernelUp
public import proofs.«01_k».proof.Proof.Gen.KernelUp.Frame
public import proofs.«01_k».proof.Proof.MmUp
public import proofs.«01_k».proof.Proof.Gen.KernelDown
public import proofs.«01_k».proof.Proof.Gen.KernelDown.Frame
public import proofs.«01_k».proof.Proof.MmDown
public import proofs.«01_k».proof.Proof.Gen.KernelDwProj
public import proofs.«01_k».proof.Proof.Gen.KernelDwProj.Frame
public import proofs.«01_k».proof.Proof.MmDwProj
public import proofs.«01_k».proof.Proof.Gen.KernelDwGlu
public import proofs.«01_k».proof.Proof.Gen.KernelDwGlu.Frame
public import proofs.«01_k».proof.Proof.MmDwGlu
public import proofs.«01_k».proof.Proof.Gen.KernelDhProj
public import proofs.«01_k».proof.Proof.Gen.KernelDhProj.Frame
public import proofs.«01_k».proof.Proof.MmDhProj
public import proofs.«01_k».proof.Proof.Gen.KernelDo
public import proofs.«01_k».proof.Proof.Gen.KernelDo.Frame
public import proofs.«01_k».proof.Proof.MmDo
public import proofs.«01_k».proof.Proof.Gen.KernelDhAdd
public import proofs.«01_k».proof.Proof.Gen.KernelDhAdd.Frame
public import proofs.«01_k».proof.Proof.MmDhAdd
public import proofs.«01_k».proof.Proof.Gen.KernelDyg
public import proofs.«01_k».proof.Proof.Gen.KernelDyg.Frame
public import proofs.«01_k».proof.Proof.MmDyg
public import proofs.«01_k».proof.Proof.Gen.KernelProj
public import proofs.«01_k».proof.Proof.Gen.KernelProj.Frame
public import proofs.«01_k».proof.Proof.MmProj
public import proofs.«01_k».proof.Proof.Gen.KernelOut
public import proofs.«01_k».proof.Proof.Gen.KernelOut.Frame
public import proofs.«01_k».proof.Proof.MmOut
public import proofs.«01_k».proof.Proof.Gen.KernelGlu
public import proofs.«01_k».proof.Proof.Gen.KernelGlu.Frame
public import proofs.«01_k».proof.Proof.MmGlu
public import proofs.«01_k».proof.Proof.Gen.KernelNormBwd
public import proofs.«01_k».proof.Proof.Gen.KernelNormBwd.Frame
public import proofs.«01_k».proof.Proof.MmNormBwd
public import proofs.«01_k».proof.Proof.Gen.KernelGluBwd
public import proofs.«01_k».proof.Proof.Gen.KernelGluBwd.Frame
public import proofs.«01_k».proof.Proof.MmGluBwd
public import proofs.«01_k».proof.Proof.Gen.KernelLoss
public import proofs.«01_k».proof.Proof.Gen.KernelLoss.Frame
public import proofs.«01_k».proof.Proof.MmLoss
public import proofs.«01_k».proof.Proof.Gen.KernelNorm
public import proofs.«01_k».proof.Proof.Gen.KernelNorm.Frame
public import proofs.«01_k».proof.Proof.MmNorm
public import proofs.«01_k».proof.Proof.Gen.KernelGluFwd
public import proofs.«01_k».proof.Proof.Gen.KernelGluFwd.Frame
public import proofs.«01_k».proof.Proof.MmGluFwd
public import proofs.«01_k».proof.Proof.Gen.KernelConv
public import proofs.«01_k».proof.Proof.Gen.KernelConv.Frame
public import proofs.«01_k».proof.Proof.MmConv
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m ρ _ =>
  Cert.Kernel.Gen.frame m ρ

theorem frame_ideal : Cert.quiescent_KernelIdeal (hKernelIdeal := Cert.KernelIdeal.Gen.facts) := fun m ρ _ =>
  Cert.KernelIdeal.Gen.frame m ρ

theorem frame_ideal_finite : Cert.quiescent_KernelIdeal_pre_all_finite (hKernelIdeal := Cert.KernelIdeal.Gen.facts)
    (hPre_all_finite := Cert.Pre_all_finite.Gen.facts) := fun m ρ _ =>
  Cert.KernelIdeal.Gen.frame m ρ

/-- The reference launches no kernel: its run gives its frame. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2, sem_eq_zero_of_no_sems (by decide) r.2⟩) (Cert.ReferenceIdeal.Value.run m ρ)

theorem frame_reference_finite : Cert.quiescent_ReferenceIdeal_pre_all_finite (hReferenceIdeal := Cert.ReferenceIdeal.Gen.facts)
    (hPre_all_finite := Cert.Pre_all_finite.Gen.facts) := fun m ρ _ =>
  (θ_run Cert.ReferenceIdeal.defs _ _).mono
    (fun r h => ⟨fun c => (h c).2.2.2.2.2, sem_eq_zero_of_no_sems (by decide) r.2⟩) (Cert.ReferenceIdeal.Value.run m ρ)

theorem preserves : Cert.preserves_Kernel_KernelIdeal :=
  IdealRules.named_const.statement Cert.KernelIdeal.κ "mask" .f32 0xF149F2CA#32 ⊥ rfl

/-! The programs of one call: each reference launches no kernel, and nothing is replaced in a call. -/

theorem frame_reference_dwup : Cert.quiescent_ReferenceDwUpIdeal (hReferenceDwUpIdeal := Cert.ReferenceDwUpIdeal.Gen.facts) := fun m ρ _ =>
  (θ_run Cert.ReferenceDwUpIdeal.defs _ _).mono (fun r h => ⟨fun c => (h c).2, sem_eq_zero_of_no_sems (by decide) r.2⟩)
    (Cert.ReferenceDwUpIdeal.Value.run m ρ)

theorem frame_reference_dh : Cert.quiescent_ReferenceDhIdeal (hReferenceDhIdeal := Cert.ReferenceDhIdeal.Gen.facts) := fun m ρ _ =>
  (θ_run Cert.ReferenceDhIdeal.defs _ _).mono (fun r h => ⟨fun c => (h c).2, sem_eq_zero_of_no_sems (by decide) r.2⟩)
    (Cert.ReferenceDhIdeal.Value.run m ρ)

theorem frame_reference_dwdown : Cert.quiescent_ReferenceDwDownIdeal (hReferenceDwDownIdeal := Cert.ReferenceDwDownIdeal.Gen.facts) := fun m ρ _ =>
  (θ_run Cert.ReferenceDwDownIdeal.defs _ _).mono (fun r h => ⟨fun c => (h c).2, sem_eq_zero_of_no_sems (by decide) r.2⟩)
    (Cert.ReferenceDwDownIdeal.Value.run m ρ)

theorem frame_reference_da : Cert.quiescent_ReferenceDaIdeal (hReferenceDaIdeal := Cert.ReferenceDaIdeal.Gen.facts) := fun m ρ _ =>
  (θ_run Cert.ReferenceDaIdeal.defs _ _).mono (fun r h => ⟨fun c => (h c).2, sem_eq_zero_of_no_sems (by decide) r.2⟩)
    (Cert.ReferenceDaIdeal.Value.run m ρ)

theorem frame_reference_up : Cert.quiescent_ReferenceUpIdeal (hReferenceUpIdeal := Cert.ReferenceUpIdeal.Gen.facts) := fun m ρ _ =>
  (θ_run Cert.ReferenceUpIdeal.defs _ _).mono (fun r h => ⟨fun c => (h c).2, sem_eq_zero_of_no_sems (by decide) r.2⟩)
    (Cert.ReferenceUpIdeal.Value.run m ρ)

theorem frame_reference_down : Cert.quiescent_ReferenceDownIdeal (hReferenceDownIdeal := Cert.ReferenceDownIdeal.Gen.facts) := fun m ρ _ =>
  (θ_run Cert.ReferenceDownIdeal.defs _ _).mono (fun r h => ⟨fun c => (h c).2, sem_eq_zero_of_no_sems (by decide) r.2⟩)
    (Cert.ReferenceDownIdeal.Value.run m ρ)

theorem frame_reference_dwproj : Cert.quiescent_ReferenceDwProjIdeal (hReferenceDwProjIdeal := Cert.ReferenceDwProjIdeal.Gen.facts) := fun m ρ _ =>
  (θ_run Cert.ReferenceDwProjIdeal.defs _ _).mono (fun r h => ⟨fun c => (h c).2, sem_eq_zero_of_no_sems (by decide) r.2⟩)
    (Cert.ReferenceDwProjIdeal.Value.run m ρ)

theorem frame_reference_dwglu : Cert.quiescent_ReferenceDwGluIdeal (hReferenceDwGluIdeal := Cert.ReferenceDwGluIdeal.Gen.facts) := fun m ρ _ =>
  (θ_run Cert.ReferenceDwGluIdeal.defs _ _).mono (fun r h => ⟨fun c => (h c).2, sem_eq_zero_of_no_sems (by decide) r.2⟩)
    (Cert.ReferenceDwGluIdeal.Value.run m ρ)

theorem frame_reference_dhproj : Cert.quiescent_ReferenceDhProjIdeal (hReferenceDhProjIdeal := Cert.ReferenceDhProjIdeal.Gen.facts) := fun m ρ _ =>
  (θ_run Cert.ReferenceDhProjIdeal.defs _ _).mono (fun r h => ⟨fun c => (h c).2, sem_eq_zero_of_no_sems (by decide) r.2⟩)
    (Cert.ReferenceDhProjIdeal.Value.run m ρ)

theorem frame_reference_do : Cert.quiescent_ReferenceDoIdeal (hReferenceDoIdeal := Cert.ReferenceDoIdeal.Gen.facts) := fun m ρ _ =>
  (θ_run Cert.ReferenceDoIdeal.defs _ _).mono (fun r h => ⟨fun c => (h c).2, sem_eq_zero_of_no_sems (by decide) r.2⟩)
    (Cert.ReferenceDoIdeal.Value.run m ρ)

theorem frame_reference_dhadd : Cert.quiescent_ReferenceDhAddIdeal (hReferenceDhAddIdeal := Cert.ReferenceDhAddIdeal.Gen.facts) := fun m ρ _ =>
  (θ_run Cert.ReferenceDhAddIdeal.defs _ _).mono (fun r h => ⟨fun c => (h c).2, sem_eq_zero_of_no_sems (by decide) r.2⟩)
    (Cert.ReferenceDhAddIdeal.Value.run m ρ)

theorem frame_reference_dyg : Cert.quiescent_ReferenceDygIdeal (hReferenceDygIdeal := Cert.ReferenceDygIdeal.Gen.facts) := fun m ρ _ =>
  (θ_run Cert.ReferenceDygIdeal.defs _ _).mono (fun r h => ⟨fun c => (h c).2, sem_eq_zero_of_no_sems (by decide) r.2⟩)
    (Cert.ReferenceDygIdeal.Value.run m ρ)

theorem frame_reference_proj : Cert.quiescent_ReferenceProjIdeal (hReferenceProjIdeal := Cert.ReferenceProjIdeal.Gen.facts) := fun m ρ _ =>
  (θ_run Cert.ReferenceProjIdeal.defs _ _).mono (fun r h => ⟨fun c => (h c).2, sem_eq_zero_of_no_sems (by decide) r.2⟩)
    (Cert.ReferenceProjIdeal.Value.run m ρ)

theorem frame_reference_out : Cert.quiescent_ReferenceOutIdeal (hReferenceOutIdeal := Cert.ReferenceOutIdeal.Gen.facts) := fun m ρ _ =>
  (θ_run Cert.ReferenceOutIdeal.defs _ _).mono (fun r h => ⟨fun c => (h c).2, sem_eq_zero_of_no_sems (by decide) r.2⟩)
    (Cert.ReferenceOutIdeal.Value.run m ρ)

theorem frame_reference_glu : Cert.quiescent_ReferenceGluIdeal (hReferenceGluIdeal := Cert.ReferenceGluIdeal.Gen.facts) := fun m ρ _ =>
  (θ_run Cert.ReferenceGluIdeal.defs _ _).mono (fun r h => ⟨fun c => (h c).2, sem_eq_zero_of_no_sems (by decide) r.2⟩)
    (Cert.ReferenceGluIdeal.Value.run m ρ)

theorem frame_reference_normbwd : Cert.quiescent_ReferenceNormBwdIdeal (hReferenceNormBwdIdeal := Cert.ReferenceNormBwdIdeal.Gen.facts) := fun m ρ _ =>
  (θ_run Cert.ReferenceNormBwdIdeal.defs _ _).mono (fun r h => ⟨fun c => (h c).2.2.2, sem_eq_zero_of_no_sems (by decide) r.2⟩)
    (Cert.ReferenceNormBwdIdeal.Value.run m ρ)

theorem frame_reference_glubwd : Cert.quiescent_ReferenceGluBwdIdeal (hReferenceGluBwdIdeal := Cert.ReferenceGluBwdIdeal.Gen.facts) := fun m ρ _ =>
  (θ_run Cert.ReferenceGluBwdIdeal.defs _ _).mono (fun r h => ⟨fun c => (h c).2, sem_eq_zero_of_no_sems (by decide) r.2⟩)
    (Cert.ReferenceGluBwdIdeal.Value.run m ρ)

theorem frame_reference_loss : Cert.quiescent_ReferenceLossIdeal (hReferenceLossIdeal := Cert.ReferenceLossIdeal.Gen.facts) := fun m ρ _ =>
  (θ_run Cert.ReferenceLossIdeal.defs _ _).mono (fun r h => ⟨fun c => (h c).2.2.2.2, sem_eq_zero_of_no_sems (by decide) r.2⟩)
    (Cert.ReferenceLossIdeal.Value.run m ρ)

theorem frame_reference_norm : Cert.quiescent_ReferenceNormIdeal (hReferenceNormIdeal := Cert.ReferenceNormIdeal.Gen.facts) := fun m ρ _ =>
  (θ_run Cert.ReferenceNormIdeal.defs _ _).mono (fun r h => ⟨fun c => (h c).2, sem_eq_zero_of_no_sems (by decide) r.2⟩)
    (Cert.ReferenceNormIdeal.Value.run m ρ)

theorem frame_reference_glufwd : Cert.quiescent_ReferenceGluFwdIdeal (hReferenceGluFwdIdeal := Cert.ReferenceGluFwdIdeal.Gen.facts) := fun m ρ _ =>
  (θ_run Cert.ReferenceGluFwdIdeal.defs _ _).mono (fun r h => ⟨fun c => (h c).2, sem_eq_zero_of_no_sems (by decide) r.2⟩)
    (Cert.ReferenceGluFwdIdeal.Value.run m ρ)

theorem frame_reference_conv : Cert.quiescent_ReferenceConvIdeal (hReferenceConvIdeal := Cert.ReferenceConvIdeal.Gen.facts) := fun m ρ _ =>
  (θ_run Cert.ReferenceConvIdeal.defs _ _).mono (fun r h => ⟨fun c => (h c).2, sem_eq_zero_of_no_sems (by decide) r.2⟩)
    (Cert.ReferenceConvIdeal.Value.run m ρ)

theorem claim : Cert.Claim :=
  ⟨Cert.Kernel.Gen.facts, Cert.KernelIdeal.Gen.facts, Cert.ReferenceIdeal.Gen.facts,
    Cert.KernelDwUp.Gen.facts, Cert.KernelDwUpIdeal.Gen.facts, Cert.ReferenceDwUpIdeal.Gen.facts,
    Cert.KernelDh.Gen.facts, Cert.KernelDhIdeal.Gen.facts, Cert.ReferenceDhIdeal.Gen.facts,
    Cert.KernelDwDown.Gen.facts, Cert.KernelDwDownIdeal.Gen.facts, Cert.ReferenceDwDownIdeal.Gen.facts,
    Cert.KernelDa.Gen.facts, Cert.KernelDaIdeal.Gen.facts, Cert.ReferenceDaIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelDwProj.Gen.facts, Cert.KernelDwProjIdeal.Gen.facts, Cert.ReferenceDwProjIdeal.Gen.facts,
    Cert.KernelDwGlu.Gen.facts, Cert.KernelDwGluIdeal.Gen.facts, Cert.ReferenceDwGluIdeal.Gen.facts,
    Cert.KernelDhProj.Gen.facts, Cert.KernelDhProjIdeal.Gen.facts, Cert.ReferenceDhProjIdeal.Gen.facts,
    Cert.KernelDo.Gen.facts, Cert.KernelDoIdeal.Gen.facts, Cert.ReferenceDoIdeal.Gen.facts,
    Cert.KernelDhAdd.Gen.facts, Cert.KernelDhAddIdeal.Gen.facts, Cert.ReferenceDhAddIdeal.Gen.facts,
    Cert.KernelDyg.Gen.facts, Cert.KernelDygIdeal.Gen.facts, Cert.ReferenceDygIdeal.Gen.facts,
    Cert.KernelProj.Gen.facts, Cert.KernelProjIdeal.Gen.facts, Cert.ReferenceProjIdeal.Gen.facts,
    Cert.KernelOut.Gen.facts, Cert.KernelOutIdeal.Gen.facts, Cert.ReferenceOutIdeal.Gen.facts,
    Cert.KernelGlu.Gen.facts, Cert.KernelGluIdeal.Gen.facts, Cert.ReferenceGluIdeal.Gen.facts,
    Cert.KernelNormBwd.Gen.facts, Cert.KernelNormBwdIdeal.Gen.facts, Cert.ReferenceNormBwdIdeal.Gen.facts,
    Cert.KernelGluBwd.Gen.facts, Cert.KernelGluBwdIdeal.Gen.facts, Cert.ReferenceGluBwdIdeal.Gen.facts,
    Cert.KernelLoss.Gen.facts, Cert.KernelLossIdeal.Gen.facts, Cert.ReferenceLossIdeal.Gen.facts,
    Cert.KernelNorm.Gen.facts, Cert.KernelNormIdeal.Gen.facts, Cert.ReferenceNormIdeal.Gen.facts,
    Cert.KernelGluFwd.Gen.facts, Cert.KernelGluFwdIdeal.Gen.facts, Cert.ReferenceGluFwdIdeal.Gen.facts,
    Cert.KernelConv.Gen.facts, Cert.KernelConvIdeal.Gen.facts, Cert.ReferenceConvIdeal.Gen.facts,
    Cert.Pre_all_finite.Gen.facts,
    frame_kernel, frame_ideal, frame_ideal_finite, frame_reference, frame_reference_finite,
    fun m ρ _ => Cert.KernelDwUp.Gen.frame m ρ, fun m ρ _ => Cert.KernelDwUpIdeal.Gen.frame m ρ, frame_reference_dwup,
    fun m ρ _ => Cert.KernelDh.Gen.frame m ρ, fun m ρ _ => Cert.KernelDhIdeal.Gen.frame m ρ, frame_reference_dh,
    fun m ρ _ => Cert.KernelDwDown.Gen.frame m ρ, fun m ρ _ => Cert.KernelDwDownIdeal.Gen.frame m ρ, frame_reference_dwdown,
    fun m ρ _ => Cert.KernelDa.Gen.frame m ρ, fun m ρ _ => Cert.KernelDaIdeal.Gen.frame m ρ, frame_reference_da,
    fun m ρ _ => Cert.KernelUp.Gen.frame m ρ, fun m ρ _ => Cert.KernelUpIdeal.Gen.frame m ρ, frame_reference_up,
    fun m ρ _ => Cert.KernelDown.Gen.frame m ρ, fun m ρ _ => Cert.KernelDownIdeal.Gen.frame m ρ, frame_reference_down,
    fun m ρ _ => Cert.KernelDwProj.Gen.frame m ρ, fun m ρ _ => Cert.KernelDwProjIdeal.Gen.frame m ρ, frame_reference_dwproj,
    fun m ρ _ => Cert.KernelDwGlu.Gen.frame m ρ, fun m ρ _ => Cert.KernelDwGluIdeal.Gen.frame m ρ, frame_reference_dwglu,
    fun m ρ _ => Cert.KernelDhProj.Gen.frame m ρ, fun m ρ _ => Cert.KernelDhProjIdeal.Gen.frame m ρ, frame_reference_dhproj,
    fun m ρ _ => Cert.KernelDo.Gen.frame m ρ, fun m ρ _ => Cert.KernelDoIdeal.Gen.frame m ρ, frame_reference_do,
    fun m ρ _ => Cert.KernelDhAdd.Gen.frame m ρ, fun m ρ _ => Cert.KernelDhAddIdeal.Gen.frame m ρ, frame_reference_dhadd,
    fun m ρ _ => Cert.KernelDyg.Gen.frame m ρ, fun m ρ _ => Cert.KernelDygIdeal.Gen.frame m ρ, frame_reference_dyg,
    fun m ρ _ => Cert.KernelProj.Gen.frame m ρ, fun m ρ _ => Cert.KernelProjIdeal.Gen.frame m ρ, frame_reference_proj,
    fun m ρ _ => Cert.KernelOut.Gen.frame m ρ, fun m ρ _ => Cert.KernelOutIdeal.Gen.frame m ρ, frame_reference_out,
    fun m ρ _ => Cert.KernelGlu.Gen.frame m ρ, fun m ρ _ => Cert.KernelGluIdeal.Gen.frame m ρ, frame_reference_glu,
    fun m ρ _ => Cert.KernelNormBwd.Gen.frame m ρ, fun m ρ _ => Cert.KernelNormBwdIdeal.Gen.frame m ρ, frame_reference_normbwd,
    fun m ρ _ => Cert.KernelGluBwd.Gen.frame m ρ, fun m ρ _ => Cert.KernelGluBwdIdeal.Gen.frame m ρ, frame_reference_glubwd,
    fun m ρ _ => Cert.KernelLoss.Gen.frame m ρ, fun m ρ _ => Cert.KernelLossIdeal.Gen.frame m ρ, frame_reference_loss,
    fun m ρ _ => Cert.KernelNorm.Gen.frame m ρ, fun m ρ _ => Cert.KernelNormIdeal.Gen.frame m ρ, frame_reference_norm,
    fun m ρ _ => Cert.KernelGluFwd.Gen.frame m ρ, fun m ρ _ => Cert.KernelGluFwdIdeal.Gen.frame m ρ, frame_reference_glufwd,
    fun m ρ _ => Cert.KernelConv.Gen.frame m ρ, fun m ρ _ => Cert.KernelConvIdeal.Gen.frame m ρ, frame_reference_conv,
    preserves, Cert.Attn.algebraic,
    trivial, Cert.DwUp.algebraic,
    trivial, Cert.Dh.algebraic,
    trivial, Cert.DwDown.algebraic,
    trivial, Cert.Da.algebraic,
    trivial, Cert.Up.algebraic,
    trivial, Cert.Down.algebraic,
    trivial, Cert.DwProj.algebraic,
    trivial, Cert.DwGlu.algebraic,
    trivial, Cert.DhProj.algebraic,
    trivial, Cert.Do.algebraic,
    trivial, Cert.DhAdd.algebraic,
    trivial, Cert.Dyg.algebraic,
    trivial, Cert.Proj.algebraic,
    trivial, Cert.Out.algebraic,
    trivial, Cert.Glu.algebraic,
    trivial, Cert.NormBwd.algebraic,
    trivial, Cert.GluBwd.algebraic,
    trivial, Cert.Loss.algebraic,
    trivial, Cert.Norm.algebraic,
    trivial, Cert.GluFwd.algebraic,
    trivial, Cert.Conv.algebraic⟩

end Cert.Proof

end
